-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))
      ∧ r.2.sem = fun _ => 0)

def preserves_Kernel_KernelIdeal : Prop :=
  True

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v15_0)) (v1 : (c : Dev Cert.KernelIdeal.nD) → Buf (Elt Ideal) ((c.tc : Thread Cert.KernelIdeal.nD Cert.KernelIdeal.τ).loc Cert.KernelIdeal.main_v15_1)) (v2 : (c : Dev Cert.KernelIdeal.nD) → Buf (Elt Ideal) ((c.tc : Thread Cert.KernelIdeal.nD Cert.KernelIdeal.τ).loc Cert.KernelIdeal.main_v15_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15_0) = v0 c
          ∧ r.2.mem ((c.tc : Thread Cert.KernelIdeal.nD Cert.KernelIdeal.τ).loc Cert.KernelIdeal.main_v15_1) = v1 c
          ∧ r.2.mem ((c.tc : Thread Cert.KernelIdeal.nD Cert.KernelIdeal.τ).loc Cert.KernelIdeal.main_v15_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v245) = v0 c
          ∧ r.2.mem ((c.tc : Thread Cert.ReferenceIdeal.nD Cert.ReferenceIdeal.τ).loc Cert.ReferenceIdeal.main_v246) = v1 c
          ∧ r.2.mem ((c.tc : Thread Cert.ReferenceIdeal.nD Cert.ReferenceIdeal.τ).loc Cert.ReferenceIdeal.main_v247) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
-- ==== Pre_finite_inputs.lean ====
abbrev S16x1x2048 : Shape := ⟨3, ![16, 1, 2048]⟩
abbrev S128x1x4 : Shape := ⟨3, ![128, 1, 4]⟩
abbrev S128 : Shape := ⟨1, ![128]⟩
abbrev S128x128x4 : Shape := ⟨3, ![128, 128, 4]⟩
abbrev S128x128x3 : Shape := ⟨3, ![128, 128, 3]⟩
abbrev S512x128 : Shape := ⟨2, ![512, 128]⟩
abbrev S1x128x3 : Shape := ⟨3, ![1, 128, 3]⟩
abbrev S1 : Shape := ⟨1, ![1]⟩
abbrev S_ : Shape := ⟨0, ![]⟩

class Facts : Prop where
  bcast_S_S16x1x2048 : S_.BroadcastsInDim S16x1x2048 (![] : Fin 0 → Fin S16x1x2048.rank)
  reducesTo_S16x1x2048_S_d0_1_2 : S16x1x2048.ReducesTo [0, 1, 2] S_
  h_S_ : 0 < S_.numel
  bcast_S_S128x1x4 : S_.BroadcastsInDim S128x1x4 (![] : Fin 0 → Fin S128x1x4.rank)
  reducesTo_S128x1x4_S_d0_1_2 : S128x1x4.ReducesTo [0, 1, 2] S_
  bcast_S_S128 : S_.BroadcastsInDim S128 (![] : Fin 0 → Fin S128.rank)
  reducesTo_S128_S_d0 : S128.ReducesTo [0] S_
  bcast_S_S128x128x4 : S_.BroadcastsInDim S128x128x4 (![] : Fin 0 → Fin S128x128x4.rank)
  reducesTo_S128x128x4_S_d0_1_2 : S128x128x4.ReducesTo [0, 1, 2] S_
  bcast_S_S128x128x3 : S_.BroadcastsInDim S128x128x3 (![] : Fin 0 → Fin S128x128x3.rank)
  reducesTo_S128x128x3_S_d0_1_2 : S128x128x3.ReducesTo [0, 1, 2] S_
  bcast_S_S512x128 : S_.BroadcastsInDim S512x128 (![] : Fin 0 → Fin S512x128.rank)
  reducesTo_S512x128_S_d0_1 : S512x128.ReducesTo [0, 1] S_

variable [Facts]

def fn_part2 {F : FTy → Type} [FloatOps F] (main_arg7 : FVec F S512x128 .f32) (main_v33 : IVec S_ 1) : IVec S_ 1 :=
  let main_v34 : FVec F S512x128 .f32 := Host.absf main_arg7
  let main_cst_12 : FVec F S_ .f32 := constant S_ .f32 0x7F800000#32
  let main_v35 : FVec F S512x128 .f32 := broadcastInDim S512x128 ![] bcast_S_S512x128 main_cst_12
  let main_v36 : IVec S512x128 1 := cmpf .olt main_v34 main_v35
  let main_c_13 : IVec S_ 1 := constantI S_ 1 1#1
  let main_v37 : IVec S_ 1 := (fun x v => Host.reduce IntOp.andi x v reducesTo_S512x128_S_d0_1 h_S_) main_v36 main_c_13
  let main_v38 : IVec S_ 1 := andi main_v33 main_v37
  main_v38

def fn_part1 {F : FTy → Type} [FloatOps F] (main_arg4 : FVec F S128 .f32) (main_arg5 : FVec F S128x128x3 .f32) (main_arg6 : FVec F S128 .f32) (main_arg7 : FVec F S512x128 .f32) (main_v13 : IVec S_ 1) (main_v16 : IVec S128x128x4 1) : IVec S_ 1 :=
  let main_c_5 : IVec S_ 1 := constantI S_ 1 1#1
  let main_v17 : IVec S_ 1 := (fun x v => Host.reduce IntOp.andi x v reducesTo_S128x128x4_S_d0_1_2 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128x3 .f32 := Host.absf main_arg5
  let main_cst_8 : FVec F S_ .f32 := constant S_ .f32 0x7F800000#32
  let main_v25 : FVec F S128x128x3 .f32 := broadcastInDim S128x128x3 ![] bcast_S_S128x128x3 main_cst_8
  let main_v26 : IVec S128x128x3 1 := cmpf .olt main_v24 main_v25
  let main_c_9 : IVec S_ 1 := constantI S_ 1 1#1
  let main_v27 : IVec S_ 1 := (fun x v => Host.reduce IntOp.andi x v reducesTo_S128x128x3_S_d0_1_2 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_v33

def fn {F : FTy → Type} [FloatOps F] (main_arg0 : FVec F S16x1x2048 .f32) (main_arg1 : FVec F S128x1x4 .f32) (main_arg2 : FVec F S128 .f32) (main_arg3 : FVec F S128x128x4 .f32) (main_arg4 : FVec F S128 .f32) (main_arg5 : FVec F S128x128x3 .f32) (main_arg6 : FVec F S128 .f32) (main_arg7 : FVec F S512x128 .f32) (main_arg8 : FVec F S128x128x3 .f32) (main_arg9 : FVec F S128 .f32) (main_arg10 : FVec F S128x128x4 .f32) (main_arg11 : FVec F S128 .f32) (main_arg12 : FVec F S128x128x4 .f32) (main_arg13 : FVec F S128 .f32) (main_arg14 : FVec F S1x128x3 .f32) (main_arg15 : FVec F S1 .f32) : IVec S_ 1 :=
  let main_v0 : FVec F S16x1x2048 .f32 := Host.absf main_arg0
  let main_cst : FVec F S_ .f32 := constant S_ .f32 0x7F800000#32
  let main_v1 : FVec F S16x1x2048 .f32 := broadcastInDim S16x1x2048 ![] bcast_S_S16x1x2048 main_cst
  let main_v2 : IVec S16x1x2048 1 := cmpf .olt main_v0 main_v1
  let main_c : IVec S_ 1 := constantI S_ 1 1#1
  let main_v3 : IVec S_ 1 := (fun x v => Host.reduce IntOp.andi x v reducesTo_S16x1x2048_S_d0_1_2 h_S_) main_v2 main_c
  let main_v4 : FVec F S128x1x4 .f32 := Host.absf main_arg1
  let main_cst_0 : FVec F S_ .f32 := constant S_ .f32 0x7F800000#32
  let main_v5 : FVec F S128x1x4 .f32 := broadcastInDim S128x1x4 ![] bcast_S_S128x1x4 main_cst_0
  let main_v6 : IVec S128x1x4 1 := cmpf .olt main_v4 main_v5
  let main_c_1 : IVec S_ 1 := constantI S_ 1 1#1
  let main_v7 : IVec S_ 1 := (fun x v => Host.reduce IntOp.andi x v reducesTo_S128x1x4_S_d0_1_2 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128x4 .f32 := Host.absf main_arg3
  let main_cst_4 : FVec F S_ .f32 := constant S_ .f32 0x7F800000#32
  let main_v15 : FVec F S128x128x4 .f32 := broadcastInDim S128x128x4 ![] bcast_S_S128x128x4 main_cst_4
  let main_v16 : IVec S128x128x4 1 := cmpf .olt main_v14 main_v15
  fn_part1 (F := F) main_arg4 main_arg5 main_arg6 main_arg7 main_v13 main_v16
-- ==== Kernel.lean ====
abbrev S16x1x2048 : Shape := ⟨3, ![16, 1, 2048]⟩
abbrev S128x1x4 : Shape := ⟨3, ![128, 1, 4]⟩
abbrev S128 : Shape := ⟨1, ![128]⟩
abbrev S128x128x4 : Shape := ⟨3, ![128, 128, 4]⟩
abbrev S128x128x3 : Shape := ⟨3, ![128, 128, 3]⟩
abbrev S512x128 : Shape := ⟨2, ![512, 128]⟩
abbrev S1x128x3 : Shape := ⟨3, ![1, 128, 3]⟩
abbrev S1 : Shape := ⟨1, ![1]⟩
abbrev S16x512x4 : Shape := ⟨3, ![16, 512, 4]⟩
abbrev S128x4 : Shape := ⟨2, ![128, 4]⟩
abbrev S1x128 : Shape := ⟨2, ![1, 128]⟩
abbrev S128x512 : Shape := ⟨2, ![128, 512]⟩
abbrev S128x384 : Shape := ⟨2, ![128, 384]⟩
abbrev S128x3 : Shape := ⟨2, ![128, 3]⟩
abbrev S1x1 : Shape := ⟨2, ![1, 1]⟩
abbrev S1x2 : Shape := ⟨2, ![1, 2]⟩
abbrev S8x512x4 : Shape := ⟨3, ![8, 512, 4]⟩
abbrev S4176x4 : Shape := ⟨2, ![4176, 4]⟩
abbrev S4176x256 : Shape := ⟨2, ![4176, 256]⟩
abbrev S4176x128 : Shape := ⟨2, ![4176, 128]⟩
abbrev S4176x512 : Shape := ⟨2, ![4176, 512]⟩
abbrev S384x128 : Shape := ⟨2, ![384, 128]⟩
abbrev S8x256 : Shape := ⟨2, ![8, 256]⟩
abbrev S512x4 : Shape := ⟨2, ![512, 4]⟩
abbrev S1x512 : Shape := ⟨2, ![1, 512]⟩
abbrev S8x4 : Shape := ⟨2, ![8, 4]⟩
abbrev S16x4 : Shape := ⟨2, ![16, 4]⟩
abbrev S16x256 : Shape := ⟨2, ![16, 256]⟩
abbrev S8x128 : Shape := ⟨2, ![8, 128]⟩
abbrev S16x128 : Shape := ⟨2, ![16, 128]⟩
abbrev S8x512 : Shape := ⟨2, ![8, 512]⟩
abbrev S16x512 : Shape := ⟨2, ![16, 512]⟩
abbrev S128x4x128 : Shape := ⟨3, ![128, 4, 128]⟩
abbrev S128x1x128 : Shape := ⟨3, ![128, 1, 128]⟩
abbrev S128x128 : Shape := ⟨2, ![128, 128]⟩
abbrev S128x3x128 : Shape := ⟨3, ![128, 3, 128]⟩
abbrev S4x128 : Shape := ⟨2, ![4, 128]⟩
abbrev S2x128 : Shape := ⟨2, ![2, 128]⟩
abbrev S512 : Shape := ⟨1, ![512]⟩
abbrev S128x1 : Shape := ⟨2, ![128, 1]⟩
abbrev S1x512x4 : Shape := ⟨3, ![1, 512, 4]⟩
abbrev S4160x1 : Shape := ⟨2, ![4160, 1]⟩
abbrev S4160x4 : Shape := ⟨2, ![4160, 4]⟩
abbrev S4160x6 : Shape := ⟨2, ![4160, 6]⟩
abbrev S1x256 : Shape := ⟨2, ![1, 256]⟩
abbrev S6x256 : Shape := ⟨2, ![6, 256]⟩
abbrev S4160x256 : Shape := ⟨2, ![4160, 256]⟩
abbrev S512x256 : Shape := ⟨2, ![512, 256]⟩
abbrev S4160x128 : Shape := ⟨2, ![4160, 128]⟩
abbrev S256x128 : Shape := ⟨2, ![256, 128]⟩
abbrev S4160x512 : Shape := ⟨2, ![4160, 512]⟩
abbrev S4160 : Shape := ⟨1, ![4160]⟩
abbrev S1x4160x128 : Shape := ⟨3, ![1, 4160, 128]⟩
abbrev S1x1x1 : Shape := ⟨3, ![1, 1, 1]⟩
abbrev S128x256 : Shape := ⟨2, ![128, 256]⟩
abbrev S256x256 : Shape := ⟨2, ![256, 256]⟩

abbrev nBuf : Space → Nat
  | .hbm => 34
  | .vmem => 41
  | .smem => 0
  | _ => 0

abbrev bufTy : (tb : Table) → Fin (tcTables nBuf tb) → BufTy
  | .hbm, ⟨0, _⟩ => ⟨S16x1x2048, .f32⟩
  | .hbm, ⟨1, _⟩ => ⟨S128x1x4, .f32⟩
  | .hbm, ⟨2, _⟩ => ⟨S128, .f32⟩
  | .hbm, ⟨3, _⟩ => ⟨S128x128x4, .f32⟩
  | .hbm, ⟨4, _⟩ => ⟨S128, .f32⟩
  | .hbm, ⟨5, _⟩ => ⟨S128x128x3, .f32⟩
  | .hbm, ⟨6, _⟩ => ⟨S128, .f32⟩
  | .hbm, ⟨7, _⟩ => ⟨S512x128, .f32⟩
  | .hbm, ⟨8, _⟩ => ⟨S128x128x3, .f32⟩
  | .hbm, ⟨9, _⟩ => ⟨S128, .f32⟩
  | .hbm, ⟨10, _⟩ => ⟨S128x128x4, .f32⟩
  | .hbm, ⟨11, _⟩ => ⟨S128, .f32⟩
  | .hbm, ⟨12, _⟩ => ⟨S128x128x4, .f32⟩
  | .hbm, ⟨13, _⟩ => ⟨S128, .f32⟩
  | .hbm, ⟨14, _⟩ => ⟨S1x128x3, .f32⟩
  | .hbm, ⟨15, _⟩ => ⟨S1, .f32⟩
  | .hbm, ⟨16, _⟩ => ⟨S16x512x4, .f32⟩
  | .hbm, ⟨17, _⟩ => ⟨S128x4, .f32⟩
  | .hbm, ⟨18, _⟩ => ⟨S1x128, .f32⟩
  | .hbm, ⟨19, _⟩ => ⟨S128x512, .f32⟩
  | .hbm, ⟨20, _⟩ => ⟨S1x128, .f32⟩
  | .hbm, ⟨21, _⟩ => ⟨S128x384, .f32⟩
  | .hbm, ⟨22, _⟩ => ⟨S1x128, .f32⟩
  | .hbm, ⟨23, _⟩ => ⟨S128x384, .f32⟩
  | .hbm, ⟨24, _⟩ => ⟨S1x128, .f32⟩
  | .hbm, ⟨25, _⟩ => ⟨S128x512, .f32⟩
  | .hbm, ⟨26, _⟩ => ⟨S1x128, .f32⟩
  | .hbm, ⟨27, _⟩ => ⟨S128x512, .f32⟩
  | .hbm, ⟨28, _⟩ => ⟨S1x128, .f32⟩
  | .hbm, ⟨29, _⟩ => ⟨S128x3, .f32⟩
  | .hbm, ⟨30, _⟩ => ⟨S1x1, .f32⟩
  | .hbm, ⟨31, _⟩ => ⟨S16x512x4, .f32⟩
  | .hbm, ⟨32, _⟩ => ⟨S1x1, .f32⟩
  | .hbm, ⟨33, _⟩ => ⟨S1x2, .f32⟩
  | .local _ .vmem, ⟨0, _⟩ => ⟨S8x512x4, .f32⟩
  | .local _ .vmem, ⟨1, _⟩ => ⟨S8x512x4, .f32⟩
  | .local _ .vmem, ⟨2, _⟩ => ⟨S128x4, .f32⟩
  | .local _ .vmem, ⟨3, _⟩ => ⟨S1x128, .f32⟩
  | .local _ .vmem, ⟨4, _⟩ => ⟨S128x512, .f32⟩
  | .local _ .vmem, ⟨5, _⟩ => ⟨S1x128, .f32⟩
  | .local _ .vmem, ⟨6, _⟩ => ⟨S128x384, .f32⟩
  | .local _ .vmem, ⟨7, _⟩ => ⟨S1x128, .f32⟩
  | .local _ .vmem, ⟨8, _⟩ => ⟨S512x128, .f32⟩
  | .local _ .vmem, ⟨9, _⟩ => ⟨S128x384, .f32⟩
  | .local _ .vmem, ⟨10, _⟩ => ⟨S1x128, .f32⟩
  | .local _ .vmem, ⟨11, _⟩ => ⟨S128x512, .f32⟩
  | .local _ .vmem, ⟨12, _⟩ => ⟨S1x128, .f32⟩
  | .local _ .vmem, ⟨13, _⟩ => ⟨S128x512, .f32⟩
  | .local _ .vmem, ⟨14, _⟩ => ⟨S1x128, .f32⟩
  | .local _ .vmem, ⟨15, _⟩ => ⟨S128x3, .f32⟩
  | .local _ .vmem, ⟨16, _⟩ => ⟨S1x1, .f32⟩
  | .local _ .vmem, ⟨17, _⟩ => ⟨S8x512x4, .f32⟩
  | .local _ .vmem, ⟨18, _⟩ => ⟨S8x512x4, .f32⟩
  | .local _ .vmem, ⟨19, _⟩ => ⟨S1x1, .f32⟩
  | .local _ .vmem, ⟨20, _⟩ => ⟨S1x2, .f32⟩
  | .local _ .vmem, ⟨21, _⟩ => ⟨S4176x4, .f32⟩
  | .local _ .vmem, ⟨22, _⟩ => ⟨S4176x256, .f32⟩
  | .local _ .vmem, ⟨23, _⟩ => ⟨S4176x128, .f32⟩
  | .local _ .vmem, ⟨24, _⟩ => ⟨S4176x128, .f32⟩
  | .local _ .vmem, ⟨25, _⟩ => ⟨S4176x128, .f32⟩
  | .local _ .vmem, ⟨26, _⟩ => ⟨S4176x256, .f32⟩
  | .local _ .vmem, ⟨27, _⟩ => ⟨S4176x512, .f32⟩
  | .local _ .vmem, ⟨28, _⟩ => ⟨S512x128, .f32⟩
  | .local _ .vmem, ⟨29, _⟩ => ⟨S384x128, .f32⟩
  | .local _ .vmem, ⟨30, _⟩ => ⟨S384x128, .f32⟩
  | .local _ .vmem, ⟨31, _⟩ => ⟨S512x128, .f32⟩
  | .local _ .vmem, ⟨32, _⟩ => ⟨S512x128, .f32⟩
  | .local _ .vmem, ⟨33, _⟩ => ⟨S8x256, .f32⟩
  | .local _ .vmem, ⟨34, _⟩ => ⟨S512x4, .f32⟩
  | .local _ .vmem, ⟨35, _⟩ => ⟨S512x4, .f32⟩
  | .local _ .vmem, ⟨36, _⟩ => ⟨S512x4, .f32⟩
  | .local _ .vmem, ⟨37, _⟩ => ⟨S128x512, .f32⟩
  | .local _ .vmem, ⟨38, _⟩ => ⟨S1x512, .f32⟩
  | .local _ .vmem, ⟨39, _⟩ => ⟨S1x512, .f32⟩
  | .local _ .vmem, ⟨40, _⟩ => ⟨S1x1, .f32⟩
  | _, _ => ⟨S16x1x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15_0 : Ref sig .tc := ⟨.hbm, 31, rfl⟩
abbrev main_v15_1 : Ref sig .tc := ⟨.hbm, 32, rfl⟩
abbrev main_v15_2 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg16_0 : Ref sig .tc := ⟨.vmem, 17, rfl⟩
abbrev cc0_stg16_1 : Ref sig .tc := ⟨.vmem, 18, rfl⟩
abbrev cc0_stg17_0 : Ref sig .tc := ⟨.vmem, 19, rfl⟩
abbrev cc0_stg18_0 : Ref sig .tc := ⟨.vmem, 20, rfl⟩
abbrev cc0_scratch0 : Ref sig .tc := ⟨.vmem, 21, rfl⟩
abbrev cc0_scratch1 : Ref sig .tc := ⟨.vmem, 22, rfl⟩
abbrev cc0_scratch2 : Ref sig .tc := ⟨.vmem, 23, rfl⟩
abbrev cc0_scratch3 : Ref sig .tc := ⟨.vmem, 24, rfl⟩
abbrev cc0_scratch4 : Ref sig .tc := ⟨.vmem, 25, rfl⟩
abbrev cc0_scratch5 : Ref sig .tc := ⟨.vmem, 26, rfl⟩
abbrev cc0_scratch6 : Ref sig .tc := ⟨.vmem, 27, rfl⟩
abbrev cc0_scratch7 : Ref sig .tc := ⟨.vmem, 28, rfl⟩
abbrev cc0_scratch8 : Ref sig .tc := ⟨.vmem, 29, rfl⟩
abbrev cc0_scratch9 : Ref sig .tc := ⟨.vmem, 30, rfl⟩
abbrev cc0_scratch10 : Ref sig .tc := ⟨.vmem, 31, rfl⟩
abbrev cc0_scratch11 : Ref sig .tc := ⟨.vmem, 32, rfl⟩
abbrev cc0_scratch12 : Ref sig .tc := ⟨.vmem, 33, rfl⟩
abbrev cc0_scratch13 : Ref sig .tc := ⟨.vmem, 34, rfl⟩
abbrev cc0_scratch14 : Ref sig .tc := ⟨.vmem, 35, rfl⟩
abbrev cc0_scratch15 : Ref sig .tc := ⟨.vmem, 36, rfl⟩
abbrev cc0_scratch16 : Ref sig .tc := ⟨.vmem, 37, rfl⟩
abbrev cc0_scratch17 : Ref sig .tc := ⟨.vmem, 38, rfl⟩
abbrev cc0_scratch18 : Ref sig .tc := ⟨.vmem, 39, rfl⟩
abbrev cc0_scratch19 : Ref sig .tc := ⟨.vmem, 40, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem16_0 : DmaSem sig := 17
abbrev cc0_sem16_1 : DmaSem sig := 18
abbrev cc0_sem17_0 : DmaSem sig := 19
abbrev cc0_sem18_0 : DmaSem sig := 20

abbrev nD : Nat := 1
abbrev τ : Topo := Topo.v7x

variable {F : FTy → Type} [FloatOps F]

abbrev grid0 : Pipeline.Grid := ⟨1, ![2], ![false]⟩

def k0_cond4 (i : grid0.Coords) : BitVec 1 :=
  let arg0 : BitVec 32 := BitVec.ofNat 32 (i 0).val
  let c1_i32 : BitVec 32 := 1#32
  let v632 : BitVec 1 := Scalar.cmpi .eq arg0 c1_i32
  let v633 : BitVec 32 := Scalar.extui v632
  let c0_i32_360 : BitVec 32 := 0#32
  let v634 : BitVec 1 := Scalar.cmpi .ne v633 c0_i32_360
  v634

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8x512x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x4 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x384 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S128x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S128x3 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S8x512x4 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 1 → Memref sig .tc .vmem S1x1 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x2 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]
-- ==== ReferenceIdeal.lean ====
abbrev S16x1x2048 : Shape := ⟨3, ![16, 1, 2048]⟩
abbrev S128x1x4 : Shape := ⟨3, ![128, 1, 4]⟩
abbrev S128 : Shape := ⟨1, ![128]⟩
abbrev S128x128x4 : Shape := ⟨3, ![128, 128, 4]⟩
abbrev S128x128x3 : Shape := ⟨3, ![128, 128, 3]⟩
abbrev S512x128 : Shape := ⟨2, ![512, 128]⟩
abbrev S1x128x3 : Shape := ⟨3, ![1, 128, 3]⟩
abbrev S1 : Shape := ⟨1, ![1]⟩
abbrev S_ : Shape := ⟨0, ![]⟩
abbrev S16x1x2050 : Shape := ⟨3, ![16, 1, 2050]⟩
abbrev S16x1x1024 : Shape := ⟨3, ![16, 1, 1024]⟩
abbrev S128x1x1 : Shape := ⟨3, ![128, 1, 1]⟩
abbrev S128x1 : Shape := ⟨2, ![128, 1]⟩
abbrev S128x16x1024 : Shape := ⟨3, ![128, 16, 1024]⟩
abbrev S16x128x1024 : Shape := ⟨3, ![16, 128, 1024]⟩
abbrev S1x128x1 : Shape := ⟨3, ![1, 128, 1]⟩
abbrev S16x128x1026 : Shape := ⟨3, ![16, 128, 1026]⟩
abbrev S16x128x512 : Shape := ⟨3, ![16, 128, 512]⟩
abbrev S128x128x1 : Shape := ⟨3, ![128, 128, 1]⟩
abbrev S128x128 : Shape := ⟨2, ![128, 128]⟩
abbrev S128x16x512 : Shape := ⟨3, ![128, 16, 512]⟩
abbrev S16x128x514 : Shape := ⟨3, ![16, 128, 514]⟩
abbrev S16x512x128 : Shape := ⟨3, ![16, 512, 128]⟩
abbrev S8192x128 : Shape := ⟨2, ![8192, 128]⟩
abbrev S8192 : Shape := ⟨1, ![8192]⟩
abbrev S8192x1 : Shape := ⟨2, ![8192, 1]⟩
abbrev S128x512 : Shape := ⟨2, ![128, 512]⟩
abbrev S8192x512 : Shape := ⟨2, ![8192, 512]⟩
abbrev S512 : Shape := ⟨1, ![512]⟩
abbrev S1x512 : Shape := ⟨2, ![1, 512]⟩
abbrev S2 : Shape := ⟨1, ![2]⟩
abbrev S16x128x1027 : Shape := ⟨3, ![16, 128, 1027]⟩
abbrev S16x128x2051 : Shape := ⟨3, ![16, 128, 2051]⟩
abbrev S16x128x2048 : Shape := ⟨3, ![16, 128, 2048]⟩
abbrev S128x16x2048 : Shape := ⟨3, ![128, 16, 2048]⟩
abbrev S16x128x2050 : Shape := ⟨3, ![16, 128, 2050]⟩
abbrev S1x128 : Shape := ⟨2, ![1, 128]⟩
abbrev S1x16x2048 : Shape := ⟨3, ![1, 16, 2048]⟩
abbrev S1x1x1 : Shape := ⟨3, ![1, 1, 1]⟩
abbrev S16x512x4 : Shape := ⟨3, ![16, 512, 4]⟩
abbrev S1x1 : Shape := ⟨2, ![1, 1]⟩
abbrev S1x2 : Shape := ⟨2, ![1, 2]⟩

abbrev nBuf : Space → Nat
  | .hbm => 311
  | .vmem => 0
  | .smem => 0
  | _ => 0

abbrev hbmTy0_0 (i : Nat) : BufTy := match i % 128 with
  | 0 => ⟨S16x1x2048, .f32⟩
  | 1 => ⟨S128x1x4, .f32⟩
  | 2 => ⟨S128, .f32⟩
  | 3 => ⟨S128x128x4, .f32⟩
  | 4 => ⟨S128, .f32⟩
  | 5 => ⟨S128x128x3, .f32⟩
  | 6 => ⟨S128, .f32⟩
  | 7 => ⟨S512x128, .f32⟩
  | 8 => ⟨S128x128x3, .f32⟩
  | 9 => ⟨S128, .f32⟩
  | 10 => ⟨S128x128x4, .f32⟩
  | 11 => ⟨S128, .f32⟩
  | 12 => ⟨S128x128x4, .f32⟩
  | 13 => ⟨S128, .f32⟩
  | 14 => ⟨S1x128x3, .f32⟩
  | 15 => ⟨S1, .f32⟩
  | 16 => ⟨S_, .f32⟩
  | 17 => ⟨S16x1x2050, .f32⟩
  | 18 => ⟨S16x1x1024, .f32⟩
  | 19 => ⟨S128x1x1, .f32⟩
  | 20 => ⟨S128x1, .f32⟩
  | 21 => ⟨S128x16x1024, .f32⟩
  | 22 => ⟨S16x128x1024, .f32⟩
  | 23 => ⟨S_, .f32⟩
  | 24 => ⟨S16x128x1024, .f32⟩
  | 25 => ⟨S16x128x1024, .f32⟩
  | 26 => ⟨S16x1x1024, .f32⟩
  | 27 => ⟨S128x1x1, .f32⟩
  | 28 => ⟨S128x1, .f32⟩
  | 29 => ⟨S128x16x1024, .f32⟩
  | 30 => ⟨S16x128x1024, .f32⟩
  | 31 => ⟨S16x128x1024, .f32⟩
  | 32 => ⟨S16x1x1024, .f32⟩
  | 33 => ⟨S128x1x1, .f32⟩
  | 34 => ⟨S128x1, .f32⟩
  | 35 => ⟨S128x16x1024, .f32⟩
  | 36 => ⟨S16x128x1024, .f32⟩
  | 37 => ⟨S16x128x1024, .f32⟩
  | 38 => ⟨S16x1x1024, .f32⟩
  | 39 => ⟨S128x1x1, .f32⟩
  | 40 => ⟨S128x1, .f32⟩
  | 41 => ⟨S128x16x1024, .f32⟩
  | 42 => ⟨S16x128x1024, .f32⟩
  | 43 => ⟨S16x128x1024, .f32⟩
  | 44 => ⟨S1x128x1, .f32⟩
  | 45 => ⟨S16x128x1024, .f32⟩
  | 46 => ⟨S16x128x1024, .f32⟩
  | 47 => ⟨S_, .f32⟩
  | 48 => ⟨S16x128x1024, .f32⟩
  | 49 => ⟨S16x128x1024, .f32⟩
  | 50 => ⟨S_, .f32⟩
  | 51 => ⟨S16x128x1026, .f32⟩
  | 52 => ⟨S16x128x512, .f32⟩
  | 53 => ⟨S128x128x1, .f32⟩
  | 54 => ⟨S128x128, .f32⟩
  | 55 => ⟨S128x16x512, .f32⟩
  | 56 => ⟨S16x128x512, .f32⟩
  | 57 => ⟨S_, .f32⟩
  | 58 => ⟨S16x128x512, .f32⟩
  | 59 => ⟨S16x128x512, .f32⟩
  | 60 => ⟨S16x128x512, .f32⟩
  | 61 => ⟨S128x128x1, .f32⟩
  | 62 => ⟨S128x128, .f32⟩
  | 63 => ⟨S128x16x512, .f32⟩
  | 64 => ⟨S16x128x512, .f32⟩
  | 65 => ⟨S16x128x512, .f32⟩
  | 66 => ⟨S16x128x512, .f32⟩
  | 67 => ⟨S128x128x1, .f32⟩
  | 68 => ⟨S128x128, .f32⟩
  | 69 => ⟨S128x16x512, .f32⟩
  | 70 => ⟨S16x128x512, .f32⟩
  | 71 => ⟨S16x128x512, .f32⟩
  | 72 => ⟨S16x128x512, .f32⟩
  | 73 => ⟨S128x128x1, .f32⟩
  | 74 => ⟨S128x128, .f32⟩
  | 75 => ⟨S128x16x512, .f32⟩
  | 76 => ⟨S16x128x512, .f32⟩
  | 77 => ⟨S16x128x512, .f32⟩
  | 78 => ⟨S1x128x1, .f32⟩
  | 79 => ⟨S16x128x512, .f32⟩
  | 80 => ⟨S16x128x512, .f32⟩
  | 81 => ⟨S_, .f32⟩
  | 82 => ⟨S16x128x512, .f32⟩
  | 83 => ⟨S16x128x512, .f32⟩
  | 84 => ⟨S_, .f32⟩
  | 85 => ⟨S16x128x514, .f32⟩
  | 86 => ⟨S16x128x512, .f32⟩
  | 87 => ⟨S128x128x1, .f32⟩
  | 88 => ⟨S128x128, .f32⟩
  | 89 => ⟨S128x16x512, .f32⟩
  | 90 => ⟨S16x128x512, .f32⟩
  | 91 => ⟨S_, .f32⟩
  | 92 => ⟨S16x128x512, .f32⟩
  | 93 => ⟨S16x128x512, .f32⟩
  | 94 => ⟨S16x128x512, .f32⟩
  | 95 => ⟨S128x128x1, .f32⟩
  | 96 => ⟨S128x128, .f32⟩
  | 97 => ⟨S128x16x512, .f32⟩
  | 98 => ⟨S16x128x512, .f32⟩
  | 99 => ⟨S16x128x512, .f32⟩
  | 100 => ⟨S16x128x512, .f32⟩
  | 101 => ⟨S128x128x1, .f32⟩
  | 102 => ⟨S128x128, .f32⟩
  | 103 => ⟨S128x16x512, .f32⟩
  | 104 => ⟨S16x128x512, .f32⟩
  | 105 => ⟨S16x128x512, .f32⟩
  | 106 => ⟨S1x128x1, .f32⟩
  | 107 => ⟨S16x128x512, .f32⟩
  | 108 => ⟨S16x128x512, .f32⟩
  | 109 => ⟨S16x512x128, .f32⟩
  | 110 => ⟨S8192x128, .f32⟩
  | 111 => ⟨S8192x128, .f32⟩
  | 112 => ⟨S_, .f32⟩
  | 113 => ⟨S8192, .f32⟩
  | 114 => ⟨S8192x1, .f32⟩
  | 115 => ⟨S_, .f32⟩
  | 116 => ⟨S8192x128, .f32⟩
  | 117 => ⟨S8192x128, .f32⟩
  | 118 => ⟨S128x512, .f32⟩
  | 119 => ⟨S8192x512, .f32⟩
  | 120 => ⟨S8192x512, .f32⟩
  | 121 => ⟨S8192x512, .f32⟩
  | 122 => ⟨S512x128, .f32⟩
  | 123 => ⟨S_, .f32⟩
  | 124 => ⟨S512, .f32⟩
  | 125 => ⟨S1x512, .f32⟩
  | 126 => ⟨S8192x512, .f32⟩
  | 127 => ⟨S8192x512, .f32⟩
  | _ => ⟨S16x1x2048, .f32⟩

abbrev hbmTy0_1 (i : Nat) : BufTy := match i % 128 with
  | 0 => ⟨S8192x512, .i32⟩
  | 1 => ⟨S_, .f32⟩
  | 2 => ⟨S_, .i32⟩
  | 3 => ⟨S8192, .f32⟩
  | 4 => ⟨S8192, .i32⟩
  | 5 => ⟨S8192x1, .i32⟩
  | 6 => ⟨S8192x128, .f32⟩
  | 7 => ⟨S8192x128, .f32⟩
  | 8 => ⟨S8192x128, .f32⟩
  | 9 => ⟨S_, .f32⟩
  | 10 => ⟨S_, .f32⟩
  | 11 => ⟨S_, .f32⟩
  | 12 => ⟨S_, .f32⟩
  | 13 => ⟨S_, .i32⟩
  | 14 => ⟨S512, .i32⟩
  | 15 => ⟨S_, .i32⟩
  | 16 => ⟨S_, .i32⟩
  | 17 => ⟨S8192, .i32⟩
  | 18 => ⟨S8192, .i32⟩
  | 19 => ⟨S_, .i32⟩
  | 20 => ⟨S8192, .i32⟩
  | 21 => ⟨S8192, .i1⟩
  | 22 => ⟨S_, .i32⟩
  | 23 => ⟨S8192, .i32⟩
  | 24 => ⟨S8192, .i32⟩
  | 25 => ⟨S8192, .i32⟩
  | 26 => ⟨S8192x1, .i32⟩
  | 27 => ⟨S_, .i32⟩
  | 28 => ⟨S8192, .i32⟩
  | 29 => ⟨S512, .i32⟩
  | 30 => ⟨S512, .f32⟩
  | 31 => ⟨S_, .f32⟩
  | 32 => ⟨S_, .f32⟩
  | 33 => ⟨S512, .f32⟩
  | 34 => ⟨S512, .f32⟩
  | 35 => ⟨S_, .f32⟩
  | 36 => ⟨S512, .f32⟩
  | 37 => ⟨S512, .f32⟩
  | 38 => ⟨S512, .f32⟩
  | 39 => ⟨S512, .f32⟩
  | 40 => ⟨S_, .f32⟩
  | 41 => ⟨S_, .f32⟩
  | 42 => ⟨S_, .f32⟩
  | 43 => ⟨S_, .f32⟩
  | 44 => ⟨S_, .f32⟩
  | 45 => ⟨S512, .f32⟩
  | 46 => ⟨S512, .i1⟩
  | 47 => ⟨S512, .f32⟩
  | 48 => ⟨S_, .f32⟩
  | 49 => ⟨S_, .f32⟩
  | 50 => ⟨S_, .f32⟩
  | 51 => ⟨S_, .f32⟩
  | 52 => ⟨S1, .f32⟩
  | 53 => ⟨S1, .f32⟩
  | 54 => ⟨S2, .f32⟩
  | 55 => ⟨S8192x128, .f32⟩
  | 56 => ⟨S8192x128, .f32⟩
  | 57 => ⟨S16x512x128, .f32⟩
  | 58 => ⟨S16x128x512, .f32⟩
  | 59 => ⟨S_, .f32⟩
  | 60 => ⟨S16x128x514, .f32⟩
  | 61 => ⟨S16x128x512, .f32⟩
  | 62 => ⟨S128x128x1, .f32⟩
  | 63 => ⟨S128x128, .f32⟩
  | 64 => ⟨S128x16x512, .f32⟩
  | 65 => ⟨S16x128x512, .f32⟩
  | 66 => ⟨S_, .f32⟩
  | 67 => ⟨S16x128x512, .f32⟩
  | 68 => ⟨S16x128x512, .f32⟩
  | 69 => ⟨S16x128x512, .f32⟩
  | 70 => ⟨S128x128x1, .f32⟩
  | 71 => ⟨S128x128, .f32⟩
  | 72 => ⟨S128x16x512, .f32⟩
  | 73 => ⟨S16x128x512, .f32⟩
  | 74 => ⟨S16x128x512, .f32⟩
  | 75 => ⟨S16x128x512, .f32⟩
  | 76 => ⟨S128x128x1, .f32⟩
  | 77 => ⟨S128x128, .f32⟩
  | 78 => ⟨S128x16x512, .f32⟩
  | 79 => ⟨S16x128x512, .f32⟩
  | 80 => ⟨S16x128x512, .f32⟩
  | 81 => ⟨S1x128x1, .f32⟩
  | 82 => ⟨S16x128x512, .f32⟩
  | 83 => ⟨S16x128x512, .f32⟩
  | 84 => ⟨S_, .f32⟩
  | 85 => ⟨S16x128x512, .f32⟩
  | 86 => ⟨S16x128x512, .f32⟩
  | 87 => ⟨S_, .f32⟩
  | 88 => ⟨S16x128x1027, .f32⟩
  | 89 => ⟨S16x128x1024, .f32⟩
  | 90 => ⟨S128x128x1, .f32⟩
  | 91 => ⟨S128x128, .f32⟩
  | 92 => ⟨S128x16x1024, .f32⟩
  | 93 => ⟨S16x128x1024, .f32⟩
  | 94 => ⟨S_, .f32⟩
  | 95 => ⟨S16x128x1024, .f32⟩
  | 96 => ⟨S16x128x1024, .f32⟩
  | 97 => ⟨S16x128x1024, .f32⟩
  | 98 => ⟨S128x128x1, .f32⟩
  | 99 => ⟨S128x128, .f32⟩
  | 100 => ⟨S128x16x1024, .f32⟩
  | 101 => ⟨S16x128x1024, .f32⟩
  | 102 => ⟨S16x128x1024, .f32⟩
  | 103 => ⟨S16x128x1024, .f32⟩
  | 104 => ⟨S128x128x1, .f32⟩
  | 105 => ⟨S128x128, .f32⟩
  | 106 => ⟨S128x16x1024, .f32⟩
  | 107 => ⟨S16x128x1024, .f32⟩
  | 108 => ⟨S16x128x1024, .f32⟩
  | 109 => ⟨S16x128x1024, .f32⟩
  | 110 => ⟨S128x128x1, .f32⟩
  | 111 => ⟨S128x128, .f32⟩
  | 112 => ⟨S128x16x1024, .f32⟩
  | 113 => ⟨S16x128x1024, .f32⟩
  | 114 => ⟨S16x128x1024, .f32⟩
  | 115 => ⟨S1x128x1, .f32⟩
  | 116 => ⟨S16x128x1024, .f32⟩
  | 117 => ⟨S16x128x1024, .f32⟩
  | 118 => ⟨S_, .f32⟩
  | 119 => ⟨S16x128x1024, .f32⟩
  | 120 => ⟨S16x128x1024, .f32⟩
  | 121 => ⟨S_, .f32⟩
  | 122 => ⟨S16x128x2051, .f32⟩
  | 123 => ⟨S16x128x2048, .f32⟩
  | 124 => ⟨S128x128x1, .f32⟩
  | 125 => ⟨S128x128, .f32⟩
  | 126 => ⟨S128x16x2048, .f32⟩
  | 127 => ⟨S16x128x2048, .f32⟩
  | _ => ⟨S16x1x2048, .f32⟩

abbrev hbmTy0_2 (i : Nat) : BufTy := match i % 128 with
  | 0 => ⟨S_, .f32⟩
  | 1 => ⟨S16x128x2048, .f32⟩
  | 2 => ⟨S16x128x2048, .f32⟩
  | 3 => ⟨S16x128x2048, .f32⟩
  | 4 => ⟨S128x128x1, .f32⟩
  | 5 => ⟨S128x128, .f32⟩
  | 6 => ⟨S128x16x2048, .f32⟩
  | 7 => ⟨S16x128x2048, .f32⟩
  | 8 => ⟨S16x128x2048, .f32⟩
  | 9 => ⟨S16x128x2048, .f32⟩
  | 10 => ⟨S128x128x1, .f32⟩
  | 11 => ⟨S128x128, .f32⟩
  | 12 => ⟨S128x16x2048, .f32⟩
  | 13 => ⟨S16x128x2048, .f32⟩
  | 14 => ⟨S16x128x2048, .f32⟩
  | 15 => ⟨S16x128x2048, .f32⟩
  | 16 => ⟨S128x128x1, .f32⟩
  | 17 => ⟨S128x128, .f32⟩
  | 18 => ⟨S128x16x2048, .f32⟩
  | 19 => ⟨S16x128x2048, .f32⟩
  | 20 => ⟨S16x128x2048, .f32⟩
  | 21 => ⟨S1x128x1, .f32⟩
  | 22 => ⟨S16x128x2048, .f32⟩
  | 23 => ⟨S16x128x2048, .f32⟩
  | 24 => ⟨S_, .f32⟩
  | 25 => ⟨S16x128x2048, .f32⟩
  | 26 => ⟨S16x128x2048, .f32⟩
  | 27 => ⟨S_, .f32⟩
  | 28 => ⟨S16x128x2050, .f32⟩
  | 29 => ⟨S16x128x2048, .f32⟩
  | 30 => ⟨S1x128x1, .f32⟩
  | 31 => ⟨S1x128, .f32⟩
  | 32 => ⟨S1x16x2048, .f32⟩
  | 33 => ⟨S16x1x2048, .f32⟩
  | 34 => ⟨S_, .f32⟩
  | 35 => ⟨S16x1x2048, .f32⟩
  | 36 => ⟨S16x1x2048, .f32⟩
  | 37 => ⟨S16x128x2048, .f32⟩
  | 38 => ⟨S1x128x1, .f32⟩
  | 39 => ⟨S1x128, .f32⟩
  | 40 => ⟨S1x16x2048, .f32⟩
  | 41 => ⟨S16x1x2048, .f32⟩
  | 42 => ⟨S16x1x2048, .f32⟩
  | 43 => ⟨S16x128x2048, .f32⟩
  | 44 => ⟨S1x128x1, .f32⟩
  | 45 => ⟨S1x128, .f32⟩
  | 46 => ⟨S1x16x2048, .f32⟩
  | 47 => ⟨S16x1x2048, .f32⟩
  | 48 => ⟨S16x1x2048, .f32⟩
  | 49 => ⟨S1x1x1, .f32⟩
  | 50 => ⟨S16x1x2048, .f32⟩
  | 51 => ⟨S16x1x2048, .f32⟩
  | 52 => ⟨S16x512x4, .f32⟩
  | 53 => ⟨S1x1, .f32⟩
  | 54 => ⟨S1x2, .f32⟩
  | _ => ⟨S16x1x2048, .f32⟩

abbrev hbmTy (i : Nat) : BufTy := match i / 128 with
  | 0 => hbmTy0_0 i
  | 1 => hbmTy0_1 i
  | 2 => hbmTy0_2 i
  | _ => ⟨S16x1x2048, .f32⟩

abbrev bufTy : (tb : Table) → Fin (tcTables nBuf tb) → BufTy
  | .hbm, ⟨i, _⟩ => hbmTy i
  | _, _ => ⟨S16x1x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_cst : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_cst_0 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_call0_cst : Ref sig .tc := ⟨.hbm, 47, rfl⟩
abbrev main_call0_v0 : Ref sig .tc := ⟨.hbm, 48, rfl⟩
abbrev main_v29 : Ref sig .tc := ⟨.hbm, 49, rfl⟩
abbrev main_cst_1 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_cst_2 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_call1_cst : Ref sig .tc := ⟨.hbm, 81, rfl⟩
abbrev main_call1_v0 : Ref sig .tc := ⟨.hbm, 82, rfl⟩
abbrev main_v59 : Ref sig .tc := ⟨.hbm, 83, rfl⟩
abbrev main_cst_3 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_cst_4 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_cst_5 : Ref sig .tc := ⟨.hbm, 112, rfl⟩
abbrev main_v86 : Ref sig .tc := ⟨.hbm, 113, rfl⟩
abbrev main_v87 : Ref sig .tc := ⟨.hbm, 114, rfl⟩
abbrev main_cst_6 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_cst_7 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_call2_v0 : Ref sig .tc := ⟨.hbm, 128, rfl⟩
abbrev main_call2_cst : Ref sig .tc := ⟨.hbm, 129, rfl⟩
abbrev main_call2_c : Ref sig .tc := ⟨.hbm, 130, rfl⟩
abbrev main_call2_v1_0 : Ref sig .tc := ⟨.hbm, 131, rfl⟩
abbrev main_v99 : Ref sig .tc := ⟨.hbm, 132, rfl⟩
abbrev main_call3_v0 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_cst_8 : Ref sig .tc := ⟨.hbm, 137, rfl⟩
abbrev main_v103 : Ref sig .tc := ⟨.hbm, 138, rfl⟩
abbrev main_cst_9 : Ref sig .tc := ⟨.hbm, 139, rfl⟩
abbrev main_v104 : Ref sig .tc := ⟨.hbm, 140, rfl⟩
abbrev main_c : Ref sig .tc := ⟨.hbm, 141, rfl⟩
abbrev main_v105 : Ref sig .tc := ⟨.hbm, 142, rfl⟩
abbrev main_c_10 : Ref sig .tc := ⟨.hbm, 143, rfl⟩
abbrev main_call4_v0 : Ref sig .tc := ⟨.hbm, 144, rfl⟩
abbrev main_call4_v1 : Ref sig .tc := ⟨.hbm, 145, rfl⟩
abbrev main_v106 : Ref sig .tc := ⟨.hbm, 146, rfl⟩
abbrev main_c_11 : Ref sig .tc := ⟨.hbm, 147, rfl⟩
abbrev main_v107 : Ref sig .tc := ⟨.hbm, 148, rfl⟩
abbrev main_v108 : Ref sig .tc := ⟨.hbm, 149, rfl⟩
abbrev main_c_12 : Ref sig .tc := ⟨.hbm, 150, rfl⟩
abbrev main_v109 : Ref sig .tc := ⟨.hbm, 151, rfl⟩
abbrev main_v110 : Ref sig .tc := ⟨.hbm, 152, rfl⟩
abbrev main_v111 : Ref sig .tc := ⟨.hbm, 153, rfl⟩
abbrev main_v112 : Ref sig .tc := ⟨.hbm, 154, rfl⟩
abbrev main_c_13 : Ref sig .tc := ⟨.hbm, 155, rfl⟩
abbrev main_v113 : Ref sig .tc := ⟨.hbm, 156, rfl⟩
abbrev main_v114 : Ref sig .tc := ⟨.hbm, 157, rfl⟩
abbrev main_v115 : Ref sig .tc := ⟨.hbm, 158, rfl⟩
abbrev main_cst_14 : Ref sig .tc := ⟨.hbm, 159, rfl⟩
abbrev main_v116 : Ref sig .tc := ⟨.hbm, 160, rfl⟩
abbrev main_v117 : Ref sig .tc := ⟨.hbm, 161, rfl⟩
abbrev main_v118 : Ref sig .tc := ⟨.hbm, 162, rfl⟩
abbrev main_cst_15 : Ref sig .tc := ⟨.hbm, 163, rfl⟩
abbrev main_v119 : Ref sig .tc := ⟨.hbm, 164, rfl⟩
abbrev main_v120 : Ref sig .tc := ⟨.hbm, 165, rfl⟩
abbrev main_v121 : Ref sig .tc := ⟨.hbm, 166, rfl⟩
abbrev main_v122 : Ref sig .tc := ⟨.hbm, 167, rfl⟩
abbrev main_cst_16 : Ref sig .tc := ⟨.hbm, 168, rfl⟩
abbrev main_v123 : Ref sig .tc := ⟨.hbm, 169, rfl⟩
abbrev main_v124 : Ref sig .tc := ⟨.hbm, 170, rfl⟩
abbrev main_v125 : Ref sig .tc := ⟨.hbm, 171, rfl⟩
abbrev main_cst_17 : Ref sig .tc := ⟨.hbm, 172, rfl⟩
abbrev main_v126 : Ref sig .tc := ⟨.hbm, 173, rfl⟩
abbrev main_v127 : Ref sig .tc := ⟨.hbm, 174, rfl⟩
abbrev main_v128 : Ref sig .tc := ⟨.hbm, 175, rfl⟩
abbrev main_cst_18 : Ref sig .tc := ⟨.hbm, 176, rfl⟩
abbrev main_v129 : Ref sig .tc := ⟨.hbm, 177, rfl⟩
abbrev main_cst_19 : Ref sig .tc := ⟨.hbm, 178, rfl⟩
abbrev main_v130 : Ref sig .tc := ⟨.hbm, 179, rfl⟩
abbrev main_v131 : Ref sig .tc := ⟨.hbm, 180, rfl⟩
abbrev main_v132 : Ref sig .tc := ⟨.hbm, 181, rfl⟩
abbrev main_v133 : Ref sig .tc := ⟨.hbm, 182, rfl⟩
abbrev main_v134 : Ref sig .tc := ⟨.hbm, 183, rfl⟩
abbrev main_v135 : Ref sig .tc := ⟨.hbm, 184, rfl⟩
abbrev main_v136 : Ref sig .tc := ⟨.hbm, 185, rfl⟩
abbrev main_v137 : Ref sig .tc := ⟨.hbm, 186, rfl⟩
abbrev main_cst_20 : Ref sig .tc := ⟨.hbm, 187, rfl⟩
abbrev main_v138 : Ref sig .tc := ⟨.hbm, 188, rfl⟩
abbrev main_v139 : Ref sig .tc := ⟨.hbm, 189, rfl⟩
abbrev main_v140 : Ref sig .tc := ⟨.hbm, 190, rfl⟩
abbrev main_v141 : Ref sig .tc := ⟨.hbm, 191, rfl⟩
abbrev main_v142 : Ref sig .tc := ⟨.hbm, 192, rfl⟩
abbrev main_v143 : Ref sig .tc := ⟨.hbm, 193, rfl⟩
abbrev main_cst_21 : Ref sig .tc := ⟨.hbm, 194, rfl⟩
abbrev main_v144 : Ref sig .tc := ⟨.hbm, 195, rfl⟩
abbrev main_v145 : Ref sig .tc := ⟨.hbm, 196, rfl⟩
abbrev main_v146 : Ref sig .tc := ⟨.hbm, 197, rfl⟩
abbrev main_v147 : Ref sig .tc := ⟨.hbm, 198, rfl⟩
abbrev main_v148 : Ref sig .tc := ⟨.hbm, 199, rfl⟩
abbrev main_v149 : Ref sig .tc := ⟨.hbm, 200, rfl⟩
abbrev main_v150 : Ref sig .tc := ⟨.hbm, 201, rfl⟩
abbrev main_v151 : Ref sig .tc := ⟨.hbm, 202, rfl⟩
abbrev main_v152 : Ref sig .tc := ⟨.hbm, 203, rfl⟩
abbrev main_v153 : Ref sig .tc := ⟨.hbm, 204, rfl⟩
abbrev main_v154 : Ref sig .tc := ⟨.hbm, 205, rfl⟩
abbrev main_v155 : Ref sig .tc := ⟨.hbm, 206, rfl⟩
abbrev main_v156 : Ref sig .tc := ⟨.hbm, 207, rfl⟩
abbrev main_v157 : Ref sig .tc := ⟨.hbm, 208, rfl⟩
abbrev main_v158 : Ref sig .tc := ⟨.hbm, 209, rfl⟩
abbrev main_v159 : Ref sig .tc := ⟨.hbm, 210, rfl⟩
abbrev main_v160 : Ref sig .tc := ⟨.hbm, 211, rfl⟩
abbrev main_call5_cst : Ref sig .tc := ⟨.hbm, 212, rfl⟩
abbrev main_call5_v0 : Ref sig .tc := ⟨.hbm, 213, rfl⟩
abbrev main_v161 : Ref sig .tc := ⟨.hbm, 214, rfl⟩
abbrev main_cst_22 : Ref sig .tc := ⟨.hbm, 215, rfl⟩
abbrev main_v162 : Ref sig .tc := ⟨.hbm, 216, rfl⟩
abbrev main_v163 : Ref sig .tc := ⟨.hbm, 217, rfl⟩
abbrev main_v164 : Ref sig .tc := ⟨.hbm, 218, rfl⟩
abbrev main_v165 : Ref sig .tc := ⟨.hbm, 219, rfl⟩
abbrev main_v166 : Ref sig .tc := ⟨.hbm, 220, rfl⟩
abbrev main_v167 : Ref sig .tc := ⟨.hbm, 221, rfl⟩
abbrev main_cst_23 : Ref sig .tc := ⟨.hbm, 222, rfl⟩
abbrev main_v168 : Ref sig .tc := ⟨.hbm, 223, rfl⟩
abbrev main_v169 : Ref sig .tc := ⟨.hbm, 224, rfl⟩
abbrev main_v170 : Ref sig .tc := ⟨.hbm, 225, rfl⟩
abbrev main_v171 : Ref sig .tc := ⟨.hbm, 226, rfl⟩
abbrev main_v172 : Ref sig .tc := ⟨.hbm, 227, rfl⟩
abbrev main_v173 : Ref sig .tc := ⟨.hbm, 228, rfl⟩
abbrev main_v174 : Ref sig .tc := ⟨.hbm, 229, rfl⟩
abbrev main_v175 : Ref sig .tc := ⟨.hbm, 230, rfl⟩
abbrev main_v176 : Ref sig .tc := ⟨.hbm, 231, rfl⟩
abbrev main_v177 : Ref sig .tc := ⟨.hbm, 232, rfl⟩
abbrev main_v178 : Ref sig .tc := ⟨.hbm, 233, rfl⟩
abbrev main_v179 : Ref sig .tc := ⟨.hbm, 234, rfl⟩
abbrev main_v180 : Ref sig .tc := ⟨.hbm, 235, rfl⟩
abbrev main_v181 : Ref sig .tc := ⟨.hbm, 236, rfl⟩
abbrev main_v182 : Ref sig .tc := ⟨.hbm, 237, rfl⟩
abbrev main_v183 : Ref sig .tc := ⟨.hbm, 238, rfl⟩
abbrev main_v184 : Ref sig .tc := ⟨.hbm, 239, rfl⟩
abbrev main_v185 : Ref sig .tc := ⟨.hbm, 240, rfl⟩
abbrev main_v186 : Ref sig .tc := ⟨.hbm, 241, rfl⟩
abbrev main_v187 : Ref sig .tc := ⟨.hbm, 242, rfl⟩
abbrev main_v188 : Ref sig .tc := ⟨.hbm, 243, rfl⟩
abbrev main_v189 : Ref sig .tc := ⟨.hbm, 244, rfl⟩
abbrev main_v190 : Ref sig .tc := ⟨.hbm, 245, rfl⟩
abbrev main_call6_cst : Ref sig .tc := ⟨.hbm, 246, rfl⟩
abbrev main_call6_v0 : Ref sig .tc := ⟨.hbm, 247, rfl⟩
abbrev main_v191 : Ref sig .tc := ⟨.hbm, 248, rfl⟩
abbrev main_cst_24 : Ref sig .tc := ⟨.hbm, 249, rfl⟩
abbrev main_v192 : Ref sig .tc := ⟨.hbm, 250, rfl⟩
abbrev main_v193 : Ref sig .tc := ⟨.hbm, 251, rfl⟩
abbrev main_v194 : Ref sig .tc := ⟨.hbm, 252, rfl⟩
abbrev main_v195 : Ref sig .tc := ⟨.hbm, 253, rfl⟩
abbrev main_v196 : Ref sig .tc := ⟨.hbm, 254, rfl⟩
abbrev main_v197 : Ref sig .tc := ⟨.hbm, 255, rfl⟩
abbrev main_cst_25 : Ref sig .tc := ⟨.hbm, 256, rfl⟩
abbrev main_v198 : Ref sig .tc := ⟨.hbm, 257, rfl⟩
abbrev main_v199 : Ref sig .tc := ⟨.hbm, 258, rfl⟩
abbrev main_v200 : Ref sig .tc := ⟨.hbm, 259, rfl⟩
abbrev main_v201 : Ref sig .tc := ⟨.hbm, 260, rfl⟩
abbrev main_v202 : Ref sig .tc := ⟨.hbm, 261, rfl⟩
abbrev main_v203 : Ref sig .tc := ⟨.hbm, 262, rfl⟩
abbrev main_v204 : Ref sig .tc := ⟨.hbm, 263, rfl⟩
abbrev main_v205 : Ref sig .tc := ⟨.hbm, 264, rfl⟩
abbrev main_v206 : Ref sig .tc := ⟨.hbm, 265, rfl⟩
abbrev main_v207 : Ref sig .tc := ⟨.hbm, 266, rfl⟩
abbrev main_v208 : Ref sig .tc := ⟨.hbm, 267, rfl⟩
abbrev main_v209 : Ref sig .tc := ⟨.hbm, 268, rfl⟩
abbrev main_v210 : Ref sig .tc := ⟨.hbm, 269, rfl⟩
abbrev main_v211 : Ref sig .tc := ⟨.hbm, 270, rfl⟩
abbrev main_v212 : Ref sig .tc := ⟨.hbm, 271, rfl⟩
abbrev main_v213 : Ref sig .tc := ⟨.hbm, 272, rfl⟩
abbrev main_v214 : Ref sig .tc := ⟨.hbm, 273, rfl⟩
abbrev main_v215 : Ref sig .tc := ⟨.hbm, 274, rfl⟩
abbrev main_v216 : Ref sig .tc := ⟨.hbm, 275, rfl⟩
abbrev main_v217 : Ref sig .tc := ⟨.hbm, 276, rfl⟩
abbrev main_v218 : Ref sig .tc := ⟨.hbm, 277, rfl⟩
abbrev main_v219 : Ref sig .tc := ⟨.hbm, 278, rfl⟩
abbrev main_v220 : Ref sig .tc := ⟨.hbm, 279, rfl⟩
abbrev main_call7_cst : Ref sig .tc := ⟨.hbm, 280, rfl⟩
abbrev main_call7_v0 : Ref sig .tc := ⟨.hbm, 281, rfl⟩
abbrev main_v221 : Ref sig .tc := ⟨.hbm, 282, rfl⟩
abbrev main_cst_26 : Ref sig .tc := ⟨.hbm, 283, rfl⟩
abbrev main_v222 : Ref sig .tc := ⟨.hbm, 284, rfl⟩
abbrev main_v223 : Ref sig .tc := ⟨.hbm, 285, rfl⟩
abbrev main_v224 : Ref sig .tc := ⟨.hbm, 286, rfl⟩
abbrev main_v225 : Ref sig .tc := ⟨.hbm, 287, rfl⟩
abbrev main_v226 : Ref sig .tc := ⟨.hbm, 288, rfl⟩
abbrev main_v227 : Ref sig .tc := ⟨.hbm, 289, rfl⟩
abbrev main_cst_27 : Ref sig .tc := ⟨.hbm, 290, rfl⟩
abbrev main_v228 : Ref sig .tc := ⟨.hbm, 291, rfl⟩
abbrev main_v229 : Ref sig .tc := ⟨.hbm, 292, rfl⟩
abbrev main_v230 : Ref sig .tc := ⟨.hbm, 293, rfl⟩
abbrev main_v231 : Ref sig .tc := ⟨.hbm, 294, rfl⟩
abbrev main_v232 : Ref sig .tc := ⟨.hbm, 295, rfl⟩
abbrev main_v233 : Ref sig .tc := ⟨.hbm, 296, rfl⟩
abbrev main_v234 : Ref sig .tc := ⟨.hbm, 297, rfl⟩
abbrev main_v235 : Ref sig .tc := ⟨.hbm, 298, rfl⟩
abbrev main_v236 : Ref sig .tc := ⟨.hbm, 299, rfl⟩
abbrev main_v237 : Ref sig .tc := ⟨.hbm, 300, rfl⟩
abbrev main_v238 : Ref sig .tc := ⟨.hbm, 301, rfl⟩
abbrev main_v239 : Ref sig .tc := ⟨.hbm, 302, rfl⟩
abbrev main_v240 : Ref sig .tc := ⟨.hbm, 303, rfl⟩
abbrev main_v241 : Ref sig .tc := ⟨.hbm, 304, rfl⟩
abbrev main_v242 : Ref sig .tc := ⟨.hbm, 305, rfl⟩
abbrev main_v243 : Ref sig .tc := ⟨.hbm, 306, rfl⟩
abbrev main_v244 : Ref sig .tc := ⟨.hbm, 307, rfl⟩
abbrev main_v245 : Ref sig .tc := ⟨.hbm, 308, rfl⟩
abbrev main_v246 : Ref sig .tc := ⟨.hbm, 309, rfl⟩
abbrev main_v247 : Ref sig .tc := ⟨.hbm, 310, rfl⟩

abbrev nD : Nat := 1
abbrev τ : Topo := Topo.v7x

variable {F : FTy → Type} [FloatOps F]
-- ==== Proof.Spec.lean ====
/- What the program computes, said once for both sides: a strided encoder of a contour, the nearest row of a codebook at each step, and a decoder of the rows taken. -/
module

public import Idealize.ShloMosaic.Lib.Pipeline.ValueKit

@[expose] public section

noncomputable section

namespace Cert.Spec

open Idealize.ShloMosaic hiding ix0 ix1 ix2 ix3 ix4
open Idealize.ShloMosaic.ValueIdx

/-- A row of values with a zero in front of it and zeros behind it: place `j` holds the value `j - 1`. -/
def rd {T : ℕ} (f : Fin T → EReal) (j : ℕ) : EReal := if h : 1 ≤ j ∧ j - 1 < T then f ⟨j - 1, h.2⟩ else 0

/-- The same row with a zero after every value. -/
def rdT {T : ℕ} (f : Fin T → EReal) (j : ℕ) : EReal := if j % 2 = 0 then rd f (j / 2) else 0

/-- One tap of a convolution: a sum over the channels at one place of the padded rows. -/
def tap {n T : ℕ} (w : Fin n → EReal) (h : Fin n → Fin T → EReal) (j : ℕ) : EReal := ∑ i, w i * rd (h i) j

/-- One tap of a transposed convolution. -/
def tapT {n T : ℕ} (w : Fin n → EReal) (h : Fin n → Fin T → EReal) (j : ℕ) : EReal := ∑ i, w i * rdT (h i) j

/-- Four taps, two places a step. -/
def conv4 {O I T T' : ℕ} (w : Fin O → Fin I → Fin 4 → EReal) (b : Fin O → EReal) (h : Fin I → Fin T → EReal) (o : Fin O) (p : Fin T') : EReal :=
  tap (fun i => w o i 0) h (0 + 2 * p.val) + tap (fun i => w o i 1) h (1 + 2 * p.val) + tap (fun i => w o i 2) h (2 + 2 * p.val) + tap (fun i => w o i 3) h (3 + 2 * p.val) + b o

/-- Three taps, one place a step. -/
def conv3 {O I T T' : ℕ} (w : Fin O → Fin I → Fin 3 → EReal) (b : Fin O → EReal) (h : Fin I → Fin T → EReal) (o : Fin O) (p : Fin T') : EReal :=
  tap (fun i => w o i 0) h (0 + p.val) + tap (fun i => w o i 1) h (1 + p.val) + tap (fun i => w o i 2) h (2 + p.val) + b o

/-- Four taps over rows with a zero after every value, one place a step. -/
def convT {O I T T' : ℕ} (w : Fin O → Fin I → Fin 4 → EReal) (b : Fin O → EReal) (h : Fin I → Fin T → EReal) (o : Fin O) (p : Fin T') : EReal :=
  tapT (fun i => w o i 0) h (0 + p.val) + tapT (fun i => w o i 1) h (1 + p.val) + tapT (fun i => w o i 2) h (2 + p.val) + tapT (fun i => w o i 3) h (3 + p.val) + b o

/-- An even place of the padded row of `2 T` values: the values at odd places. -/
theorem rd_even {T : ℕ} (f : Fin (2 * T) → EReal) (j : ℕ) : rd f (2 * j) = rd (fun s : Fin T => f ⟨2 * s.val + 1, by omega⟩) j := by
  unfold rd
  split_ifs with h1 h2 h2
  · congr 1; apply Fin.ext; show 2 * j - 1 = 2 * (j - 1) + 1; omega
  · exfalso; omega
  · exfalso; omega
  · rfl

/-- An odd place of the padded row of `2 T` values: the values at even places. -/
theorem rd_odd {T : ℕ} (f : Fin (2 * T) → EReal) (j : ℕ) : rd f (2 * j + 1) = rd (fun s : Fin T => f ⟨2 * s.val, by omega⟩) (j + 1) := by
  unfold rd
  split_ifs with h1 h2 h2
  · congr 1
  · exfalso; omega
  · exfalso; omega
  · rfl

theorem rdT_even {T : ℕ} (f : Fin T → EReal) (j : ℕ) : rdT f (2 * j) = rd f j := by
  unfold rdT; rw [if_pos (by omega)]; congr 1; omega

theorem rdT_odd {T : ℕ} (f : Fin T → EReal) (j : ℕ) : rdT f (2 * j + 1) = 0 := by
  unfold rdT; rw [if_neg (by omega)]

theorem tapT_even {n T : ℕ} (w : Fin n → EReal) (h : Fin n → Fin T → EReal) (j : ℕ) : tapT w h (2 * j) = tap w h j := by
  simp only [tapT, tap, rdT_even]

theorem tapT_odd {n T : ℕ} (w : Fin n → EReal) (h : Fin n → Fin T → EReal) (j : ℕ) : tapT w h (2 * j + 1) = 0 := by
  simp only [tapT, rdT_odd, mul_zero, Finset.sum_const_zero]

/-- A transposed convolution at an even place. -/
theorem convT_even {O I T T' : ℕ} (w : Fin O → Fin I → Fin 4 → EReal) (b : Fin O → EReal) (h : Fin I → Fin T → EReal) (o : Fin O) (p : Fin T') (s : ℕ)
    (hp : p.val = 2 * s) : convT w b h o p = tap (fun i => w o i 0) h s + tap (fun i => w o i 2) h (s + 1) + b o := by
  have e0 : 0 + p.val = 2 * s := by omega
  have e1 : 1 + p.val = 2 * s + 1 := by omega
  have e2 : 2 + p.val = 2 * (s + 1) := by omega
  have e3 : 3 + p.val = 2 * (s + 1) + 1 := by omega
  unfold convT
  rw [e0, e1, e2, e3, tapT_even, tapT_odd, tapT_even, tapT_odd, add_zero, add_zero]

/-- A transposed convolution at an odd place. -/
theorem convT_odd {O I T T' : ℕ} (w : Fin O → Fin I → Fin 4 → EReal) (b : Fin O → EReal) (h : Fin I → Fin T → EReal) (o : Fin O) (p : Fin T') (s : ℕ)
    (hp : p.val = 2 * s + 1) : convT w b h o p = tap (fun i => w o i 1) h (s + 1) + tap (fun i => w o i 3) h (s + 2) + b o := by
  have e0 : 0 + p.val = 2 * s + 1 := by omega
  have e1 : 1 + p.val = 2 * (s + 1) := by omega
  have e2 : 2 + p.val = 2 * (s + 1) + 1 := by omega
  have e3 : 3 + p.val = 2 * (s + 2) := by omega
  unfold convT
  rw [e0, e1, e2, e3, tapT_odd, tapT_even, tapT_odd, tapT_even, zero_add, add_zero]

/-- The first place of the least value. -/
def IsCode {N : ℕ} (d : Fin N → EReal) (k : Fin N) : Prop := (∀ j, d k ≤ d j) ∧ ∀ j, j < k → d k < d j

theorem IsCode.unique {N : ℕ} {d : Fin N → EReal} {k k' : Fin N} (h : IsCode d k) (h' : IsCode d k') : k = k' := by
  rcases lt_trichotomy k k' with hl | he | hl
  · exact absurd (h.1 k') (not_le.mpr (h'.2 k hl))
  · exact he
  · exact absurd (h'.1 k) (not_le.mpr (h.2 k' hl))

theorem exists_isCode (d : Fin 512 → EReal) : ∃ k, IsCode d k := by
  classical
  obtain ⟨k, -, hk⟩ := Finset.exists_min_image (Finset.univ : Finset (Fin 512)) d ⟨0, Finset.mem_univ _⟩
  let S : Finset (Fin 512) := Finset.univ.filter fun k => ∀ j, d k ≤ d j
  have hS : S.Nonempty := ⟨k, Finset.mem_filter.mpr ⟨Finset.mem_univ _, fun j => hk j (Finset.mem_univ _)⟩⟩
  refine ⟨S.min' hS, (Finset.mem_filter.mp (S.min'_mem hS)).2, fun j hj => lt_of_not_ge fun hge => ?_⟩
  have : j ∈ S := Finset.mem_filter.mpr ⟨Finset.mem_univ _, fun i => hge.trans ((Finset.mem_filter.mp (S.min'_mem hS)).2 i)⟩
  exact absurd (S.min'_le j this) (not_le.mpr hj)

def code (d : Fin 512 → EReal) : Fin 512 := (exists_isCode d).choose

theorem code_spec (d : Fin 512 → EReal) : IsCode d (code d) := (exists_isCode d).choose_spec

theorem eq_code {d : Fin 512 → EReal} {k : Fin 512} (h : IsCode d k) : k = code d := h.unique (code_spec d)

/-- The distance to a row of the codebook, less the part that is the same for every row. -/
def dist (z : Fin 128 → EReal) (cb : Fin 512 → Fin 128 → EReal) (k : Fin 512) : EReal := (∑ d, z d * (((-2 : ℝ) : EReal) * cb k d)) + ∑ d, cb k d * cb k d

/-- The arguments, by their coordinates. -/
structure Net where
  x : Fin 16 → Fin 1 → Fin 2048 → EReal
  we1 : Fin 128 → Fin 1 → Fin 4 → EReal
  be1 : Fin 128 → EReal
  we2 : Fin 128 → Fin 128 → Fin 4 → EReal
  be2 : Fin 128 → EReal
  we3 : Fin 128 → Fin 128 → Fin 3 → EReal
  be3 : Fin 128 → EReal
  cb : Fin 512 → Fin 128 → EReal
  wd0 : Fin 128 → Fin 128 → Fin 3 → EReal
  bd0 : Fin 128 → EReal
  wt1 : Fin 128 → Fin 128 → Fin 4 → EReal
  bt1 : Fin 128 → EReal
  wt2 : Fin 128 → Fin 128 → Fin 4 → EReal
  bt2 : Fin 128 → EReal
  wo : Fin 1 → Fin 128 → Fin 3 → EReal
  bo : Fin 1 → EReal

/-- The arguments' arrays as a net. -/
def netOf (x0 : (⟨3, ![16, 1, 2048]⟩ : Shape).Idx → EReal) (x1 : (⟨3, ![128, 1, 4]⟩ : Shape).Idx → EReal) (x2 : (⟨1, ![128]⟩ : Shape).Idx → EReal)
    (x3 : (⟨3, ![128, 128, 4]⟩ : Shape).Idx → EReal) (x4 : (⟨1, ![128]⟩ : Shape).Idx → EReal) (x5 : (⟨3, ![128, 128, 3]⟩ : Shape).Idx → EReal)
    (x6 : (⟨1, ![128]⟩ : Shape).Idx → EReal) (x7 : (⟨2, ![512, 128]⟩ : Shape).Idx → EReal) (x8 : (⟨3, ![128, 128, 3]⟩ : Shape).Idx → EReal)
    (x9 : (⟨1, ![128]⟩ : Shape).Idx → EReal) (x10 : (⟨3, ![128, 128, 4]⟩ : Shape).Idx → EReal) (x11 : (⟨1, ![128]⟩ : Shape).Idx → EReal)
    (x12 : (⟨3, ![128, 128, 4]⟩ : Shape).Idx → EReal) (x13 : (⟨1, ![128]⟩ : Shape).Idx → EReal) (x14 : (⟨3, ![1, 128, 3]⟩ : Shape).Idx → EReal)
    (x15 : (⟨1, ![1]⟩ : Shape).Idx → EReal) : Net where
  x b i p := x0 (ix3 b i p)
  we1 o i k := x1 (ix3 o i k)
  be1 o := x2 (ix1 o)
  we2 o i k := x3 (ix3 o i k)
  be2 o := x4 (ix1 o)
  we3 o i k := x5 (ix3 o i k)
  be3 o := x6 (ix1 o)
  cb k d := x7 (ix2 k d)
  wd0 o i k := x8 (ix3 o i k)
  bd0 o := x9 (ix1 o)
  wt1 o i k := x10 (ix3 o i k)
  bt1 o := x11 (ix1 o)
  wt2 o i k := x12 (ix3 o i k)
  bt2 o := x13 (ix1 o)
  wo o i k := x14 (ix3 o i k)
  bo o := x15 (ix1 o)

namespace Net
variable (n : Net)

def h1 (b : Fin 16) (o : Fin 128) (p : Fin 1024) : EReal := max (conv4 n.we1 n.be1 (n.x b) o p) 0
def h2 (b : Fin 16) (o : Fin 128) (p : Fin 512) : EReal := max (conv4 n.we2 n.be2 (n.h1 b) o p) 0
def z (b : Fin 16) (o : Fin 128) (t : Fin 512) : EReal := conv3 n.we3 n.be3 (n.h2 b) o t
def code (b : Fin 16) (t : Fin 512) : Fin 512 := Spec.code (dist (fun d => n.z b d t) n.cb)
def q (b : Fin 16) (d : Fin 128) (t : Fin 512) : EReal := n.cb (n.code b t) d
def u (b : Fin 16) (o : Fin 128) (t : Fin 512) : EReal := max (conv3 n.wd0 n.bd0 (n.q b) o t) 0
def v1 (b : Fin 16) (o : Fin 128) (p : Fin 1024) : EReal := max (convT n.wt1 n.bt1 (n.u b) o p) 0
def v2 (b : Fin 16) (o : Fin 128) (p : Fin 2048) : EReal := max (convT n.wt2 n.bt2 (n.v1 b) o p) 0
def out (b : Fin 16) (p : Fin 2048) : EReal := conv3 n.wo n.bo (n.v2 b) 0 p
/-- The squared distances of the encoder's rows to the rows taken, summed. -/
def sq (b : Fin 16) : EReal := ∑ t : Fin 512, ∑ d : Fin 128, (n.z b d t - n.q b d t) * (n.z b d t - n.q b d t)
/-- How often a batch takes each row. -/
def cnt (b : Fin 16) (k : Fin 512) : EReal := ∑ t : Fin 512, if n.code b t = k then 1 else 0
/-- How often each row is taken. -/
def count (k : Fin 512) : EReal := ∑ b, n.cnt b k

end Net

/-- A value that is a real number. -/
def IsR (a : EReal) : Prop := ∃ r : ℝ, a = (r : EReal)

theorem IsR.zero : IsR 0 := ⟨0, rfl⟩
theorem IsR.add {a b : EReal} : IsR a → IsR b → IsR (a + b) := fun ⟨r, hr⟩ ⟨s, hs⟩ => ⟨r + s, by rw [hr, hs, EReal.coe_add]⟩
theorem IsR.mul {a b : EReal} : IsR a → IsR b → IsR (a * b) := fun ⟨r, hr⟩ ⟨s, hs⟩ => ⟨r * s, by rw [hr, hs, EReal.coe_mul]⟩
theorem IsR.max {a b : EReal} (ha : IsR a) (hb : IsR b) : IsR (max a b) := by
  rcases le_total a b with h | h
  · rw [max_eq_right h]; exact hb
  · rw [max_eq_left h]; exact ha
theorem IsR.sum {ι : Type} {s : Finset ι} {f : ι → EReal} (h : ∀ i, IsR (f i)) : IsR (∑ i ∈ s, f i) := by
  classical
  induction s using Finset.induction_on with
  | empty => exact IsR.zero
  | insert a s ha ih => rw [Finset.sum_insert ha]; exact (h a).add ih
theorem IsR.rd {T : ℕ} {f : Fin T → EReal} (h : ∀ i, IsR (f i)) (j : ℕ) : IsR (rd f j) := by
  unfold Spec.rd; split_ifs
  · exact h _
  · exact IsR.zero
theorem IsR.tap {n T : ℕ} {w : Fin n → EReal} {h : Fin n → Fin T → EReal} (hw : ∀ i, IsR (w i)) (hh : ∀ i s, IsR (h i s)) (j : ℕ) : IsR (tap w h j) :=
  IsR.sum fun i => (hw i).mul (IsR.rd (hh i) j)
theorem IsR.conv4 {O I T T' : ℕ} {w : Fin O → Fin I → Fin 4 → EReal} {b : Fin O → EReal} {h : Fin I → Fin T → EReal} (hw : ∀ o i k, IsR (w o i k))
    (hb : ∀ o, IsR (b o)) (hh : ∀ i s, IsR (h i s)) (o : Fin O) (p : Fin T') : IsR (conv4 w b h o p) :=
  ((((IsR.tap (fun i => hw o i 0) hh _).add (IsR.tap (fun i => hw o i 1) hh _)).add (IsR.tap (fun i => hw o i 2) hh _)).add
    (IsR.tap (fun i => hw o i 3) hh _)).add (hb o)
theorem IsR.conv3 {O I T T' : ℕ} {w : Fin O → Fin I → Fin 3 → EReal} {b : Fin O → EReal} {h : Fin I → Fin T → EReal} (hw : ∀ o i k, IsR (w o i k))
    (hb : ∀ o, IsR (b o)) (hh : ∀ i s, IsR (h i s)) (o : Fin O) (p : Fin T') : IsR (conv3 w b h o p) :=
  (((IsR.tap (fun i => hw o i 0) hh _).add (IsR.tap (fun i => hw o i 1) hh _)).add (IsR.tap (fun i => hw o i 2) hh _)).add (hb o)

/-- The contours, the encoder's weights and the codebook are real numbers. -/
structure Net.Real (n : Net) : Prop where
  x : ∀ b i p, IsR (n.x b i p)
  we1 : ∀ o i k, IsR (n.we1 o i k)
  be1 : ∀ o, IsR (n.be1 o)
  we2 : ∀ o i k, IsR (n.we2 o i k)
  be2 : ∀ o, IsR (n.be2 o)
  we3 : ∀ o i k, IsR (n.we3 o i k)
  be3 : ∀ o, IsR (n.be3 o)
  cb : ∀ k d, IsR (n.cb k d)

namespace Net.Real
variable {n : Net} (r : n.Real)
include r

theorem h1 (b : Fin 16) (o : Fin 128) (p : Fin 1024) : IsR (n.h1 b o p) := (IsR.conv4 r.we1 r.be1 (r.x b) o p).max IsR.zero
theorem h2 (b : Fin 16) (o : Fin 128) (p : Fin 512) : IsR (n.h2 b o p) := (IsR.conv4 r.we2 r.be2 (r.h1 b) o p).max IsR.zero
theorem z (b : Fin 16) (o : Fin 128) (t : Fin 512) : IsR (n.z b o t) := IsR.conv3 r.we3 r.be3 (r.h2 b) o t
theorem q (b : Fin 16) (o : Fin 128) (t : Fin 512) : IsR (n.q b o t) := r.cb _ _

end Net.Real

end Cert.Spec

end
-- ==== Proof.RefConv.lean ====
/- The reference's convolutions, read at a place. -/
module

public import proofs.«01_k».proof.Proof.Gen.Own.ReferenceIdeal.Read
public import proofs.«01_k».proof.Proof.Spec
public import Idealize.ShloMosaic.Lib.KernelVsHost

@[expose] public section

set_option maxRecDepth 16384

noncomputable section

namespace Cert.RefConv

open Cert.ReferenceIdeal Cert.ReferenceIdeal.Gen Cert.ReferenceIdeal.Read Cert.Spec Idealize.ShloMosaic.TcCoe
open Idealize.ShloMosaic hiding ix0 ix1 ix2 ix3 ix4
open Idealize.ShloMosaic.ValueIdx

theorem ext3 {a b c : ℕ} {i : (⟨3, ![a, b, c]⟩ : Shape).Idx} {x : Fin a} {y : Fin b} {z : Fin c} (hx : (i 0).val = x.val) (hy : (i 1).val = y.val)
    (hz : (i 2).val = z.val) : i = ix3 x y z := by
  funext k
  match k with
  | ⟨0, _⟩ => exact Fin.ext hx
  | ⟨1, _⟩ => exact Fin.ext hy
  | ⟨2, _⟩ => exact Fin.ext hz

theorem ext2 {a b : ℕ} {i : (⟨2, ![a, b]⟩ : Shape).Idx} {x : Fin a} {y : Fin b} (hx : (i 0).val = x.val) (hy : (i 1).val = y.val) : i = ix2 x y := by
  funext k
  match k with
  | ⟨0, _⟩ => exact Fin.ext hx
  | ⟨1, _⟩ => exact Fin.ext hy

theorem ext1 {a : ℕ} {i : (⟨1, ![a]⟩ : Shape).Idx} {x : Fin a} (hx : (i 0).val = x.val) : i = ix1 x := by
  funext k
  match k with
  | ⟨0, _⟩ => exact Fin.ext hx

/-- A row padded with one zero on each side. -/
theorem pad_rd {A I T P : ℕ} (x : (⟨3, ![A, I, T]⟩ : Shape).Idx → EReal) (v : (S_ : Shape).Idx → EReal) (hv : ∀ i, v i = 0)
    (h : (⟨3, ![A, I, T]⟩ : Shape).Pads ![0, 0, 1] ![0, 0, 1] ![0, 0, 0] ⟨3, ![A, I, P]⟩) (hu : 0 < S_.numel) (a : Fin A) (b : Fin I) (c : Fin P) :
    pad (⟨3, ![A, I, P]⟩ : Shape) ![0, 0, 1] ![0, 0, 1] ![0, 0, 0] x v h hu (ix3 a b c) = rd (fun s => x (ix3 a b s)) c.val := by
  unfold rd
  split_ifs with hc
  · refine pad_apply_of_inside _ _ _ x v h hu (ix3 a b c) (ix3 a b ⟨c.val - 1, hc.2⟩) fun k => ?_
    match k with
    | ⟨0, _⟩ => show a.val = 0 + a.val * 1; omega
    | ⟨1, _⟩ => show b.val = 0 + b.val * 1; omega
    | ⟨2, _⟩ => show c.val = 1 + (c.val - 1) * 1; omega
  · rw [pad_apply_of_not_inside _ _ _ x v h hu (ix3 a b c) 2, hv]
    rintro ⟨p, -, q⟩
    have p' : 1 ≤ c.val := p
    have q' : (c.val - 1) / 1 < T := q
    exact hc ⟨p', by omega⟩

/-- A row padded with two zeros on each side and one between every two values. -/
theorem pad_rdT {A I T P : ℕ} (x : (⟨3, ![A, I, T]⟩ : Shape).Idx → EReal) (v : (S_ : Shape).Idx → EReal) (hv : ∀ i, v i = 0)
    (h : (⟨3, ![A, I, T]⟩ : Shape).Pads ![0, 0, 2] ![0, 0, 2] ![0, 0, 1] ⟨3, ![A, I, P]⟩) (hu : 0 < S_.numel) (a : Fin A) (b : Fin I) (c : Fin P) :
    pad (⟨3, ![A, I, P]⟩ : Shape) ![0, 0, 2] ![0, 0, 2] ![0, 0, 1] x v h hu (ix3 a b c) = rdT (fun s => x (ix3 a b s)) c.val := by
  by_cases hc : c.val % 2 = 0 ∧ 1 ≤ c.val / 2 ∧ c.val / 2 - 1 < T
  · unfold rdT rd
    rw [if_pos hc.1, dif_pos hc.2]
    refine pad_apply_of_inside _ _ _ x v h hu (ix3 a b c) (ix3 a b ⟨c.val / 2 - 1, hc.2.2⟩) fun k => ?_
    match k with
    | ⟨0, _⟩ => show a.val = 0 + a.val * 1; omega
    | ⟨1, _⟩ => show b.val = 0 + b.val * 1; omega
    | ⟨2, _⟩ => show c.val = 2 + (c.val / 2 - 1) * 2; omega
  · have e : rdT (fun s => x (ix3 a b s)) c.val = 0 := by
      unfold rdT rd
      split_ifs with h1 h2
      · exact absurd ⟨h1, h2⟩ hc
      · rfl
      · rfl
    rw [e, pad_apply_of_not_inside _ _ _ x v h hu (ix3 a b c) 2, hv]
    rintro ⟨p, r, q⟩
    have p' : 2 ≤ c.val := p
    have r' : (c.val - 2) % 2 = 0 := r
    have q' : (c.val - 2) / 2 < T := q
    exact hc ⟨by omega, by omega, by omega⟩

/-- Every second place of a padded row. -/
theorem slice_pad {A I T P Q k : ℕ} (x : (⟨3, ![A, I, T]⟩ : Shape).Idx → EReal) (v : (S_ : Shape).Idx → EReal) (hv : ∀ i, v i = 0)
    (h : (⟨3, ![A, I, T]⟩ : Shape).Pads ![0, 0, 1] ![0, 0, 1] ![0, 0, 0] ⟨3, ![A, I, P]⟩) (hu : 0 < S_.numel)
    (hs : (⟨3, ![A, I, P]⟩ : Shape).SlicesBy ![0, 0, k] ![1, 1, 2] ⟨3, ![A, I, Q]⟩) (j : (⟨3, ![A, I, Q]⟩ : Shape).Idx) :
    Host.slice (⟨3, ![A, I, Q]⟩ : Shape) ![0, 0, k] ![1, 1, 2] (pad (⟨3, ![A, I, P]⟩ : Shape) ![0, 0, 1] ![0, 0, 1] ![0, 0, 0] x v h hu) hs j
      = rd (fun s => x (ix3 ⟨(j 0).val, (j 0).isLt⟩ ⟨(j 1).val, (j 1).isLt⟩ s)) (k + 2 * (j 2).val) := by
  have hp : k + 2 * (j 2).val < P := by
    have hj : (j 2).val < Q := (j 2).isLt
    rcases (hs.2 2).2 with h0 | h1
    · have : Q = 0 := h0
      omega
    · have : k + 2 * (Q - 1) < P := h1
      omega
  refine Eq.trans ?_ (pad_rd x v hv h hu ⟨(j 0).val, (j 0).isLt⟩ ⟨(j 1).val, (j 1).isLt⟩ ⟨k + 2 * (j 2).val, hp⟩)
  unfold Host.slice
  exact congrArg (pad (⟨3, ![A, I, P]⟩ : Shape) ![0, 0, 1] ![0, 0, 1] ![0, 0, 0] x v h hu)
    (ext3 (x := ⟨(j 0).val, (j 0).isLt⟩) (y := ⟨(j 1).val, (j 1).isLt⟩) (z := ⟨k + 2 * (j 2).val, hp⟩)
      (by show 0 + 1 * (j 0).val = (j 0).val; omega) (by show 0 + 1 * (j 1).val = (j 1).val; omega) rfl)

/-- Neighbouring places of a padded row. -/
theorem cut_pad {A I T P Q k : ℕ} (x : (⟨3, ![A, I, T]⟩ : Shape).Idx → EReal) (v : (S_ : Shape).Idx → EReal) (hv : ∀ i, v i = 0)
    (h : (⟨3, ![A, I, T]⟩ : Shape).Pads ![0, 0, 1] ![0, 0, 1] ![0, 0, 0] ⟨3, ![A, I, P]⟩) (hu : 0 < S_.numel)
    (hs : (⟨3, ![A, I, P]⟩ : Shape).Slices ![0, 0, k] ⟨3, ![A, I, Q]⟩) (j : (⟨3, ![A, I, Q]⟩ : Shape).Idx) :
    extractStridedSlice (⟨3, ![A, I, Q]⟩ : Shape) ![0, 0, k] (pad (⟨3, ![A, I, P]⟩ : Shape) ![0, 0, 1] ![0, 0, 1] ![0, 0, 0] x v h hu) hs j
      = rd (fun s => x (ix3 ⟨(j 0).val, (j 0).isLt⟩ ⟨(j 1).val, (j 1).isLt⟩ s)) (k + (j 2).val) := by
  have hp : k + (j 2).val < P := by
    have hj : (j 2).val < Q := (j 2).isLt
    have : k + Q ≤ P := hs.2 2
    omega
  refine Eq.trans ?_ (pad_rd x v hv h hu ⟨(j 0).val, (j 0).isLt⟩ ⟨(j 1).val, (j 1).isLt⟩ ⟨k + (j 2).val, hp⟩)
  refine extractStridedSlice_apply ![0, 0, k] _ hs j (ix3 ⟨(j 0).val, (j 0).isLt⟩ ⟨(j 1).val, (j 1).isLt⟩ ⟨k + (j 2).val, hp⟩) fun a => ?_
  match a with
  | ⟨0, _⟩ => show (j 0).val = 0 + (j 0).val; omega
  | ⟨1, _⟩ => show (j 1).val = 0 + (j 1).val; omega
  | ⟨2, _⟩ => rfl

/-- Neighbouring places of a row padded with zeros between its values. -/
theorem cut_padT {A I T P Q k : ℕ} (x : (⟨3, ![A, I, T]⟩ : Shape).Idx → EReal) (v : (S_ : Shape).Idx → EReal) (hv : ∀ i, v i = 0)
    (h : (⟨3, ![A, I, T]⟩ : Shape).Pads ![0, 0, 2] ![0, 0, 2] ![0, 0, 1] ⟨3, ![A, I, P]⟩) (hu : 0 < S_.numel)
    (hs : (⟨3, ![A, I, P]⟩ : Shape).Slices ![0, 0, k] ⟨3, ![A, I, Q]⟩) (j : (⟨3, ![A, I, Q]⟩ : Shape).Idx) :
    extractStridedSlice (⟨3, ![A, I, Q]⟩ : Shape) ![0, 0, k] (pad (⟨3, ![A, I, P]⟩ : Shape) ![0, 0, 2] ![0, 0, 2] ![0, 0, 1] x v h hu) hs j
      = rdT (fun s => x (ix3 ⟨(j 0).val, (j 0).isLt⟩ ⟨(j 1).val, (j 1).isLt⟩ s)) (k + (j 2).val) := by
  have hp : k + (j 2).val < P := by
    have hj : (j 2).val < Q := (j 2).isLt
    have : k + Q ≤ P := hs.2 2
    omega
  refine Eq.trans ?_ (pad_rdT x v hv h hu ⟨(j 0).val, (j 0).isLt⟩ ⟨(j 1).val, (j 1).isLt⟩ ⟨k + (j 2).val, hp⟩)
  refine extractStridedSlice_apply ![0, 0, k] _ hs j (ix3 ⟨(j 0).val, (j 0).isLt⟩ ⟨(j 1).val, (j 1).isLt⟩ ⟨k + (j 2).val, hp⟩) fun a => ?_
  match a with
  | ⟨0, _⟩ => show (j 0).val = 0 + (j 0).val; omega
  | ⟨1, _⟩ => show (j 1).val = 0 + (j 1).val; omega
  | ⟨2, _⟩ => rfl

theorem zero_word : (FloatOps.ofBits (F := Ideal) .f32 0x00000000#32 : EReal) = 0 := by
  show Ideal.ofBits .f32 0x00000000#32 = 0
  simp [Ideal.ofBits, Ideal.ieee]

theorem zero_const (i : S_.Idx) : constant (F := Ideal) S_ .f32 0x00000000#32 i = (0 : EReal) := zero_word

theorem sum_mul_congr {n : ℕ} {f g f' g' : Fin n → EReal} (hf : ∀ k, f k = f' k) (hg : ∀ k, g k = g' k) : ∑ k, f k * g k = ∑ k, f' k * g' k :=
  Finset.sum_congr rfl fun k _ => by rw [hf, hg]

section
variable (x0 : (⟨S16x1x2048, .f32⟩ : BufTy).Contents (Elt Ideal))
  (x1 : (⟨S128x1x4, .f32⟩ : BufTy).Contents (Elt Ideal))
  (x2 : (⟨S128, .f32⟩ : BufTy).Contents (Elt Ideal))
  (x3 : (⟨S128x128x4, .f32⟩ : BufTy).Contents (Elt Ideal))
  (x4 : (⟨S128, .f32⟩ : BufTy).Contents (Elt Ideal))
  (x5 : (⟨S128x128x3, .f32⟩ : BufTy).Contents (Elt Ideal))
  (x6 : (⟨S128, .f32⟩ : BufTy).Contents (Elt Ideal))
  (x7 : (⟨S512x128, .f32⟩ : BufTy).Contents (Elt Ideal))
  (x8 : (⟨S128x128x3, .f32⟩ : BufTy).Contents (Elt Ideal))
  (x9 : (⟨S128, .f32⟩ : BufTy).Contents (Elt Ideal))
  (x10 : (⟨S128x128x4, .f32⟩ : BufTy).Contents (Elt Ideal))
  (x11 : (⟨S128, .f32⟩ : BufTy).Contents (Elt Ideal))
  (x12 : (⟨S128x128x4, .f32⟩ : BufTy).Contents (Elt Ideal))
  (x13 : (⟨S128, .f32⟩ : BufTy).Contents (Elt Ideal))
  (x14 : (⟨S1x128x3, .f32⟩ : BufTy).Contents (Elt Ideal))
  (x15 : (⟨S1, .f32⟩ : BufTy).Contents (Elt Ideal))

theorem enc1 (b : Fin 16) (o : Fin 128) (p : Fin 1024) : val_main_v29 (F := Ideal) x0 x1 x2 (ix3 b o p)
    = max (conv4 (fun o i k => x1 (ix3 o i k)) (fun o => x2 (ix1 o)) (fun i s => x0 (ix3 b i s)) o p) 0 := by
  have t0 : val_main_v5 (F := Ideal) x0 x1 (ix3 b o p) = tap (fun i => x1 (ix3 o i 0)) (fun i s => x0 (ix3 b i s)) (0 + 2 * p.val) := by
    rw [val_main_v5_apply, val_main_v4_apply]
    refine sum_mul_congr (fun k => ?_) (fun k => slice_pad x0 _ zero_const _ _ _ _)
    rw [val_main_v3_apply, val_main_v2_apply]
    exact congrArg x1 (ext3 (by show (o.val * 1 + k.val) / 1 = o.val; omega) (by show 0 = k.val; omega) rfl)
  have t1 : val_main_v12 (F := Ideal) x0 x1 (ix3 b o p) = tap (fun i => x1 (ix3 o i 1)) (fun i s => x0 (ix3 b i s)) (1 + 2 * p.val) := by
    rw [val_main_v12_apply, val_main_v11_apply]
    refine sum_mul_congr (fun k => ?_) (fun k => slice_pad x0 _ zero_const _ _ _ _)
    rw [val_main_v10_apply, val_main_v9_apply]
    exact congrArg x1 (ext3 (by show (o.val * 1 + k.val) / 1 = o.val; omega) (by show 0 = k.val; omega) rfl)
  have t2 : val_main_v18 (F := Ideal) x0 x1 (ix3 b o p) = tap (fun i => x1 (ix3 o i 2)) (fun i s => x0 (ix3 b i s)) (2 + 2 * p.val) := by
    rw [val_main_v18_apply, val_main_v17_apply]
    refine sum_mul_congr (fun k => ?_) (fun k => slice_pad x0 _ zero_const _ _ _ _)
    rw [val_main_v16_apply, val_main_v15_apply]
    exact congrArg x1 (ext3 (by show (o.val * 1 + k.val) / 1 = o.val; omega) (by show 0 = k.val; omega) rfl)
  have t3 : val_main_v24 (F := Ideal) x0 x1 (ix3 b o p) = tap (fun i => x1 (ix3 o i 3)) (fun i s => x0 (ix3 b i s)) (3 + 2 * p.val) := by
    rw [val_main_v24_apply, val_main_v23_apply]
    refine sum_mul_congr (fun k => ?_) (fun k => slice_pad x0 _ zero_const _ _ _ _)
    rw [val_main_v22_apply, val_main_v21_apply]
    exact congrArg x1 (ext3 (by show (o.val * 1 + k.val) / 1 = o.val; omega) (by show 0 = k.val; omega) rfl)
  have hb : val_main_v27 (F := Ideal) x2 (ix3 b o p) = x2 (ix1 o) := by
    rw [val_main_v27_apply, val_main_v26_apply]
    exact congrArg x2 (ext1 rfl)
  have z0 : val_main_v6 (F := Ideal) (ix3 b o p) = (0 : EReal) := by rw [val_main_v6_apply]; exact zero_word
  have z1 : val_main_call0_v0 (F := Ideal) (ix3 b o p) = (0 : EReal) := by rw [val_main_call0_v0_apply]; exact zero_word
  show max (val_main_v6 (F := Ideal) (ix3 b o p) + val_main_v5 (F := Ideal) x0 x1 (ix3 b o p) + val_main_v12 (F := Ideal) x0 x1 (ix3 b o p)
      + val_main_v18 (F := Ideal) x0 x1 (ix3 b o p) + val_main_v24 (F := Ideal) x0 x1 (ix3 b o p) + val_main_v27 (F := Ideal) x2 (ix3 b o p) : EReal)
      (val_main_call0_v0 (F := Ideal) (ix3 b o p)) = _
  rw [z0, z1, zero_add, t0, t1, t2, t3, hb]
  rfl

theorem enc2 (b : Fin 16) (o : Fin 128) (p : Fin 512) : val_main_v59 (F := Ideal) x0 x1 x2 x3 x4 (ix3 b o p)
    = max (conv4 (fun o i k => x3 (ix3 o i k)) (fun o => x4 (ix1 o)) (fun i s => (val_main_v29 (F := Ideal) x0 x1 x2) (ix3 b i s)) o p) 0 := by
  have t0 : val_main_v35 (F := Ideal) x0 x1 x2 x3 (ix3 b o p) = tap (fun i => x3 (ix3 o i 0)) (fun i s => (val_main_v29 (F := Ideal) x0 x1 x2) (ix3 b i s)) (0 + 2 * p.val) := by
    rw [val_main_v35_apply, val_main_v34_apply]
    refine sum_mul_congr (fun k => ?_) (fun k => slice_pad (val_main_v29 (F := Ideal) x0 x1 x2) _ zero_const _ _ _ _)
    rw [val_main_v33_apply, val_main_v32_apply]
    exact congrArg x3 (ext3 (by show (o.val * 128 + k.val) / 128 = o.val; have := k.isLt; omega) (by show (o.val * 128 + k.val) / 1 % 128 = k.val; have := k.isLt; omega) rfl)
  have t1 : val_main_v42 (F := Ideal) x0 x1 x2 x3 (ix3 b o p) = tap (fun i => x3 (ix3 o i 1)) (fun i s => (val_main_v29 (F := Ideal) x0 x1 x2) (ix3 b i s)) (1 + 2 * p.val) := by
    rw [val_main_v42_apply, val_main_v41_apply]
    refine sum_mul_congr (fun k => ?_) (fun k => slice_pad (val_main_v29 (F := Ideal) x0 x1 x2) _ zero_const _ _ _ _)
    rw [val_main_v40_apply, val_main_v39_apply]
    exact congrArg x3 (ext3 (by show (o.val * 128 + k.val) / 128 = o.val; have := k.isLt; omega) (by show (o.val * 128 + k.val) / 1 % 128 = k.val; have := k.isLt; omega) rfl)
  have t2 : val_main_v48 (F := Ideal) x0 x1 x2 x3 (ix3 b o p) = tap (fun i => x3 (ix3 o i 2)) (fun i s => (val_main_v29 (F := Ideal) x0 x1 x2) (ix3 b i s)) (2 + 2 * p.val) := by
    rw [val_main_v48_apply, val_main_v47_apply]
    refine sum_mul_congr (fun k => ?_) (fun k => slice_pad (val_main_v29 (F := Ideal) x0 x1 x2) _ zero_const _ _ _ _)
    rw [val_main_v46_apply, val_main_v45_apply]
    exact congrArg x3 (ext3 (by show (o.val * 128 + k.val) / 128 = o.val; have := k.isLt; omega) (by show (o.val * 128 + k.val) / 1 % 128 = k.val; have := k.isLt; omega) rfl)
  have t3 : val_main_v54 (F := Ideal) x0 x1 x2 x3 (ix3 b o p) = tap (fun i => x3 (ix3 o i 3)) (fun i s => (val_main_v29 (F := Ideal) x0 x1 x2) (ix3 b i s)) (3 + 2 * p.val) := by
    rw [val_main_v54_apply, val_main_v53_apply]
    refine sum_mul_congr (fun k => ?_) (fun k => slice_pad (val_main_v29 (F := Ideal) x0 x1 x2) _ zero_const _ _ _ _)
    rw [val_main_v52_apply, val_main_v51_apply]
    exact congrArg x3 (ext3 (by show (o.val * 128 + k.val) / 128 = o.val; have := k.isLt; omega) (by show (o.val * 128 + k.val) / 1 % 128 = k.val; have := k.isLt; omega) rfl)
  have hb : val_main_v57 (F := Ideal) x4 (ix3 b o p) = x4 (ix1 o) := by
    rw [val_main_v57_apply, val_main_v56_apply]
    exact congrArg x4 (ext1 rfl)
  have z0 : val_main_v36 (F := Ideal) (ix3 b o p) = (0 : EReal) := by rw [val_main_v36_apply]; exact zero_word
  have z1 : val_main_call1_v0 (F := Ideal) (ix3 b o p) = (0 : EReal) := by rw [val_main_call1_v0_apply]; exact zero_word
  show (max (val_main_v36 (F := Ideal) (ix3 b o p)
      + val_main_v35 (F := Ideal) x0 x1 x2 x3 (ix3 b o p)
      + val_main_v42 (F := Ideal) x0 x1 x2 x3 (ix3 b o p)
      + val_main_v48 (F := Ideal) x0 x1 x2 x3 (ix3 b o p)
      + val_main_v54 (F := Ideal) x0 x1 x2 x3 (ix3 b o p) + val_main_v57 (F := Ideal) x4 (ix3 b o p)) (val_main_call1_v0 (F := Ideal) (ix3 b o p)) : EReal) = _
  rw [z0, z1, zero_add, t0, t1, t2, t3, hb]
  rfl

theorem enc3 (b : Fin 16) (o : Fin 128) (p : Fin 512) : val_main_v82 (F := Ideal) x0 x1 x2 x3 x4 x5 x6 (ix3 b o p)
    = conv3 (fun o i k => x5 (ix3 o i k)) (fun o => x6 (ix1 o)) (fun i s => (val_main_v59 (F := Ideal) x0 x1 x2 x3 x4) (ix3 b i s)) o p := by
  have t0 : val_main_v65 (F := Ideal) x0 x1 x2 x3 x4 x5 (ix3 b o p) = tap (fun i => x5 (ix3 o i 0)) (fun i s => (val_main_v59 (F := Ideal) x0 x1 x2 x3 x4) (ix3 b i s)) (0 + p.val) := by
    rw [val_main_v65_apply, val_main_v64_apply]
    refine sum_mul_congr (fun k => ?_) (fun k => cut_pad (val_main_v59 (F := Ideal) x0 x1 x2 x3 x4) _ zero_const _ _ _ _)
    rw [val_main_v63_apply, val_main_v62_apply]
    exact congrArg x5 (ext3 (by show (o.val * 128 + k.val) / 128 = o.val; have := k.isLt; omega) (by show (o.val * 128 + k.val) / 1 % 128 = k.val; have := k.isLt; omega) rfl)
  have t1 : val_main_v72 (F := Ideal) x0 x1 x2 x3 x4 x5 (ix3 b o p) = tap (fun i => x5 (ix3 o i 1)) (fun i s => (val_main_v59 (F := Ideal) x0 x1 x2 x3 x4) (ix3 b i s)) (1 + p.val) := by
    rw [val_main_v72_apply, val_main_v71_apply]
    refine sum_mul_congr (fun k => ?_) (fun k => cut_pad (val_main_v59 (F := Ideal) x0 x1 x2 x3 x4) _ zero_const _ _ _ _)
    rw [val_main_v70_apply, val_main_v69_apply]
    exact congrArg x5 (ext3 (by show (o.val * 128 + k.val) / 128 = o.val; have := k.isLt; omega) (by show (o.val * 128 + k.val) / 1 % 128 = k.val; have := k.isLt; omega) rfl)
  have t2 : val_main_v78 (F := Ideal) x0 x1 x2 x3 x4 x5 (ix3 b o p) = tap (fun i => x5 (ix3 o i 2)) (fun i s => (val_main_v59 (F := Ideal) x0 x1 x2 x3 x4) (ix3 b i s)) (2 + p.val) := by
    rw [val_main_v78_apply, val_main_v77_apply]
    refine sum_mul_congr (fun k => ?_) (fun k => cut_pad (val_main_v59 (F := Ideal) x0 x1 x2 x3 x4) _ zero_const _ _ _ _)
    rw [val_main_v76_apply, val_main_v75_apply]
    exact congrArg x5 (ext3 (by show (o.val * 128 + k.val) / 128 = o.val; have := k.isLt; omega) (by show (o.val * 128 + k.val) / 1 % 128 = k.val; have := k.isLt; omega) rfl)
  have hb : val_main_v81 (F := Ideal) x6 (ix3 b o p) = x6 (ix1 o) := by
    rw [val_main_v81_apply, val_main_v80_apply]
    exact congrArg x6 (ext1 rfl)
  have z0 : val_main_v66 (F := Ideal) (ix3 b o p) = (0 : EReal) := by rw [val_main_v66_apply]; exact zero_word
  show (val_main_v66 (F := Ideal) (ix3 b o p)
      + val_main_v65 (F := Ideal) x0 x1 x2 x3 x4 x5 (ix3 b o p)
      + val_main_v72 (F := Ideal) x0 x1 x2 x3 x4 x5 (ix3 b o p)
      + val_main_v78 (F := Ideal) x0 x1 x2 x3 x4 x5 (ix3 b o p) + val_main_v81 (F := Ideal) x6 (ix3 b o p) : EReal) = _
  rw [z0, zero_add, t0, t1, t2, hb]
  rfl

theorem dec0 (b : Fin 16) (o : Fin 128) (p : Fin 512) : val_main_v161 (F := Ideal) x0 x1 x2 x3 x4 x5 x6 x7 x8 x9 (ix3 b o p)
    = max (conv3 (fun o i k => x8 (ix3 o i k)) (fun o => x9 (ix1 o)) (fun i s => (val_main_v137 (F := Ideal) x0 x1 x2 x3 x4 x5 x6 x7) (ix3 b i s)) o p) 0 := by
  have t0 : val_main_v143 (F := Ideal) x0 x1 x2 x3 x4 x5 x6 x7 x8 (ix3 b o p) = tap (fun i => x8 (ix3 o i 0)) (fun i s => (val_main_v137 (F := Ideal) x0 x1 x2 x3 x4 x5 x6 x7) (ix3 b i s)) (0 + p.val) := by
    rw [val_main_v143_apply, val_main_v142_apply]
    refine sum_mul_congr (fun k => ?_) (fun k => cut_pad (val_main_v137 (F := Ideal) x0 x1 x2 x3 x4 x5 x6 x7) _ zero_const _ _ _ _)
    rw [val_main_v141_apply, val_main_v140_apply]
    exact congrArg x8 (ext3 (by show (o.val * 128 + k.val) / 128 = o.val; have := k.isLt; omega) (by show (o.val * 128 + k.val) / 1 % 128 = k.val; have := k.isLt; omega) rfl)
  have t1 : val_main_v150 (F := Ideal) x0 x1 x2 x3 x4 x5 x6 x7 x8 (ix3 b o p) = tap (fun i => x8 (ix3 o i 1)) (fun i s => (val_main_v137 (F := Ideal) x0 x1 x2 x3 x4 x5 x6 x7) (ix3 b i s)) (1 + p.val) := by
    rw [val_main_v150_apply, val_main_v149_apply]
    refine sum_mul_congr (fun k => ?_) (fun k => cut_pad (val_main_v137 (F := Ideal) x0 x1 x2 x3 x4 x5 x6 x7) _ zero_const _ _ _ _)
    rw [val_main_v148_apply, val_main_v147_apply]
    exact congrArg x8 (ext3 (by show (o.val * 128 + k.val) / 128 = o.val; have := k.isLt; omega) (by show (o.val * 128 + k.val) / 1 % 128 = k.val; have := k.isLt; omega) rfl)
  have t2 : val_main_v156 (F := Ideal) x0 x1 x2 x3 x4 x5 x6 x7 x8 (ix3 b o p) = tap (fun i => x8 (ix3 o i 2)) (fun i s => (val_main_v137 (F := Ideal) x0 x1 x2 x3 x4 x5 x6 x7) (ix3 b i s)) (2 + p.val) := by
    rw [val_main_v156_apply, val_main_v155_apply]
    refine sum_mul_congr (fun k => ?_) (fun k => cut_pad (val_main_v137 (F := Ideal) x0 x1 x2 x3 x4 x5 x6 x7) _ zero_const _ _ _ _)
    rw [val_main_v154_apply, val_main_v153_apply]
    exact congrArg x8 (ext3 (by show (o.val * 128 + k.val) / 128 = o.val; have := k.isLt; omega) (by show (o.val * 128 + k.val) / 1 % 128 = k.val; have := k.isLt; omega) rfl)
  have hb : val_main_v159 (F := Ideal) x9 (ix3 b o p) = x9 (ix1 o) := by
    rw [val_main_v159_apply, val_main_v158_apply]
    exact congrArg x9 (ext1 rfl)
  have z0 : val_main_v144 (F := Ideal) (ix3 b o p) = (0 : EReal) := by rw [val_main_v144_apply]; exact zero_word
  have z1 : val_main_call5_v0 (F := Ideal) (ix3 b o p) = (0 : EReal) := by rw [val_main_call5_v0_apply]; exact zero_word
  show (max (val_main_v144 (F := Ideal) (ix3 b o p)
      + val_main_v143 (F := Ideal) x0 x1 x2 x3 x4 x5 x6 x7 x8 (ix3 b o p)
      + val_main_v150 (F := Ideal) x0 x1 x2 x3 x4 x5 x6 x7 x8 (ix3 b o p)
      + val_main_v156 (F := Ideal) x0 x1 x2 x3 x4 x5 x6 x7 x8 (ix3 b o p) + val_main_v159 (F := Ideal) x9 (ix3 b o p)) (val_main_call5_v0 (F := Ideal) (ix3 b o p)) : EReal) = _
  rw [z0, z1, zero_add, t0, t1, t2, hb]
  rfl

theorem dec1 (b : Fin 16) (o : Fin 128) (p : Fin 1024) : val_main_v191 (F := Ideal) x0 x1 x2 x3 x4 x5 x6 x7 x8 x9 x10 x11 (ix3 b o p)
    = max (convT (fun o i k => x10 (ix3 o i k)) (fun o => x11 (ix1 o)) (fun i s => (val_main_v161 (F := Ideal) x0 x1 x2 x3 x4 x5 x6 x7 x8 x9) (ix3 b i s)) o p) 0 := by
  have t0 : val_main_v167 (F := Ideal) x0 x1 x2 x3 x4 x5 x6 x7 x8 x9 x10 (ix3 b o p) = tapT (fun i => x10 (ix3 o i 0)) (fun i s => (val_main_v161 (F := Ideal) x0 x1 x2 x3 x4 x5 x6 x7 x8 x9) (ix3 b i s)) (0 + p.val) := by
    rw [val_main_v167_apply, val_main_v166_apply]
    refine sum_mul_congr (fun k => ?_) (fun k => cut_padT (val_main_v161 (F := Ideal) x0 x1 x2 x3 x4 x5 x6 x7 x8 x9) _ zero_const _ _ _ _)
    rw [val_main_v165_apply, val_main_v164_apply]
    exact congrArg x10 (ext3 (by show (o.val * 128 + k.val) / 128 = o.val; have := k.isLt; omega) (by show (o.val * 128 + k.val) / 1 % 128 = k.val; have := k.isLt; omega) rfl)
  have t1 : val_main_v174 (F := Ideal) x0 x1 x2 x3 x4 x5 x6 x7 x8 x9 x10 (ix3 b o p) = tapT (fun i => x10 (ix3 o i 1)) (fun i s => (val_main_v161 (F := Ideal) x0 x1 x2 x3 x4 x5 x6 x7 x8 x9) (ix3 b i s)) (1 + p.val) := by
    rw [val_main_v174_apply, val_main_v173_apply]
    refine sum_mul_congr (fun k => ?_) (fun k => cut_padT (val_main_v161 (F := Ideal) x0 x1 x2 x3 x4 x5 x6 x7 x8 x9) _ zero_const _ _ _ _)
    rw [val_main_v172_apply, val_main_v171_apply]
    exact congrArg x10 (ext3 (by show (o.val * 128 + k.val) / 128 = o.val; have := k.isLt; omega) (by show (o.val * 128 + k.val) / 1 % 128 = k.val; have := k.isLt; omega) rfl)
  have t2 : val_main_v180 (F := Ideal) x0 x1 x2 x3 x4 x5 x6 x7 x8 x9 x10 (ix3 b o p) = tapT (fun i => x10 (ix3 o i 2)) (fun i s => (val_main_v161 (F := Ideal) x0 x1 x2 x3 x4 x5 x6 x7 x8 x9) (ix3 b i s)) (2 + p.val) := by
    rw [val_main_v180_apply, val_main_v179_apply]
    refine sum_mul_congr (fun k => ?_) (fun k => cut_padT (val_main_v161 (F := Ideal) x0 x1 x2 x3 x4 x5 x6 x7 x8 x9) _ zero_const _ _ _ _)
    rw [val_main_v178_apply, val_main_v177_apply]
    exact congrArg x10 (ext3 (by show (o.val * 128 + k.val) / 128 = o.val; have := k.isLt; omega) (by show (o.val * 128 + k.val) / 1 % 128 = k.val; have := k.isLt; omega) rfl)
  have t3 : val_main_v186 (F := Ideal) x0 x1 x2 x3 x4 x5 x6 x7 x8 x9 x10 (ix3 b o p) = tapT (fun i => x10 (ix3 o i 3)) (fun i s => (val_main_v161 (F := Ideal) x0 x1 x2 x3 x4 x5 x6 x7 x8 x9) (ix3 b i s)) (3 + p.val) := by
    rw [val_main_v186_apply, val_main_v185_apply]
    refine sum_mul_congr (fun k => ?_) (fun k => cut_padT (val_main_v161 (F := Ideal) x0 x1 x2 x3 x4 x5 x6 x7 x8 x9) _ zero_const _ _ _ _)
    rw [val_main_v184_apply, val_main_v183_apply]
    exact congrArg x10 (ext3 (by show (o.val * 128 + k.val) / 128 = o.val; have := k.isLt; omega) (by show (o.val * 128 + k.val) / 1 % 128 = k.val; have := k.isLt; omega) rfl)
  have hb : val_main_v189 (F := Ideal) x11 (ix3 b o p) = x11 (ix1 o) := by
    rw [val_main_v189_apply, val_main_v188_apply]
    exact congrArg x11 (ext1 rfl)
  have z0 : val_main_v168 (F := Ideal) (ix3 b o p) = (0 : EReal) := by rw [val_main_v168_apply]; exact zero_word
  have z1 : val_main_call6_v0 (F := Ideal) (ix3 b o p) = (0 : EReal) := by rw [val_main_call6_v0_apply]; exact zero_word
  show (max (val_main_v168 (F := Ideal) (ix3 b o p)
      + val_main_v167 (F := Ideal) x0 x1 x2 x3 x4 x5 x6 x7 x8 x9 x10 (ix3 b o p)
      + val_main_v174 (F := Ideal) x0 x1 x2 x3 x4 x5 x6 x7 x8 x9 x10 (ix3 b o p)
      + val_main_v180 (F := Ideal) x0 x1 x2 x3 x4 x5 x6 x7 x8 x9 x10 (ix3 b o p)
      + val_main_v186 (F := Ideal) x0 x1 x2 x3 x4 x5 x6 x7 x8 x9 x10 (ix3 b o p) + val_main_v189 (F := Ideal) x11 (ix3 b o p)) (val_main_call6_v0 (F := Ideal) (ix3 b o p)) : EReal) = _
  rw [z0, z1, zero_add, t0, t1, t2, t3, hb]
  rfl

theorem dec2 (b : Fin 16) (o : Fin 128) (p : Fin 2048) : val_main_v221 (F := Ideal) x0 x1 x2 x3 x4 x5 x6 x7 x8 x9 x10 x11 x12 x13 (ix3 b o p)
    = max (convT (fun o i k => x12 (ix3 o i k)) (fun o => x13 (ix1 o)) (fun i s => (val_main_v191 (F := Ideal) x0 x1 x2 x3 x4 x5 x6 x7 x8 x9 x10 x11) (ix3 b i s)) o p) 0 := by
  have t0 : val_main_v197 (F := Ideal) x0 x1 x2 x3 x4 x5 x6 x7 x8 x9 x10 x11 x12 (ix3 b o p) = tapT (fun i => x12 (ix3 o i 0)) (fun i s => (val_main_v191 (F := Ideal) x0 x1 x2 x3 x4 x5 x6 x7 x8 x9 x10 x11) (ix3 b i s)) (0 + p.val) := by
    rw [val_main_v197_apply, val_main_v196_apply]
    refine sum_mul_congr (fun k => ?_) (fun k => cut_padT (val_main_v191 (F := Ideal) x0 x1 x2 x3 x4 x5 x6 x7 x8 x9 x10 x11) _ zero_const _ _ _ _)
    rw [val_main_v195_apply, val_main_v194_apply]
    exact congrArg x12 (ext3 (by show (o.val * 128 + k.val) / 128 = o.val; have := k.isLt; omega) (by show (o.val * 128 + k.val) / 1 % 128 = k.val; have := k.isLt; omega) rfl)
  have t1 : val_main_v204 (F := Ideal) x0 x1 x2 x3 x4 x5 x6 x7 x8 x9 x10 x11 x12 (ix3 b o p) = tapT (fun i => x12 (ix3 o i 1)) (fun i s => (val_main_v191 (F := Ideal) x0 x1 x2 x3 x4 x5 x6 x7 x8 x9 x10 x11) (ix3 b i s)) (1 + p.val) := by
    rw [val_main_v204_apply, val_main_v203_apply]
    refine sum_mul_congr (fun k => ?_) (fun k => cut_padT (val_main_v191 (F := Ideal) x0 x1 x2 x3 x4 x5 x6 x7 x8 x9 x10 x11) _ zero_const _ _ _ _)
    rw [val_main_v202_apply, val_main_v201_apply]
    exact congrArg x12 (ext3 (by show (o.val * 128 + k.val) / 128 = o.val; have := k.isLt; omega) (by show (o.val * 128 + k.val) / 1 % 128 = k.val; have := k.isLt; omega) rfl)
  have t2 : val_main_v210 (F := Ideal) x0 x1 x2 x3 x4 x5 x6 x7 x8 x9 x10 x11 x12 (ix3 b o p) = tapT (fun i => x12 (ix3 o i 2)) (fun i s => (val_main_v191 (F := Ideal) x0 x1 x2 x3 x4 x5 x6 x7 x8 x9 x10 x11) (ix3 b i s)) (2 + p.val) := by
    rw [val_main_v210_apply, val_main_v209_apply]
    refine sum_mul_congr (fun k => ?_) (fun k => cut_padT (val_main_v191 (F := Ideal) x0 x1 x2 x3 x4 x5 x6 x7 x8 x9 x10 x11) _ zero_const _ _ _ _)
    rw [val_main_v208_apply, val_main_v207_apply]
    exact congrArg x12 (ext3 (by show (o.val * 128 + k.val) / 128 = o.val; have := k.isLt; omega) (by show (o.val * 128 + k.val) / 1 % 128 = k.val; have := k.isLt; omega) rfl)
  have t3 : val_main_v216 (F := Ideal) x0 x1 x2 x3 x4 x5 x6 x7 x8 x9 x10 x11 x12 (ix3 b o p) = tapT (fun i => x12 (ix3 o i 3)) (fun i s => (val_main_v191 (F := Ideal) x0 x1 x2 x3 x4 x5 x6 x7 x8 x9 x10 x11) (ix3 b i s)) (3 + p.val) := by
    rw [val_main_v216_apply, val_main_v215_apply]
    refine sum_mul_congr (fun k => ?_) (fun k => cut_padT (val_main_v191 (F := Ideal) x0 x1 x2 x3 x4 x5 x6 x7 x8 x9 x10 x11) _ zero_const _ _ _ _)
    rw [val_main_v214_apply, val_main_v213_apply]
    exact congrArg x12 (ext3 (by show (o.val * 128 + k.val) / 128 = o.val; have := k.isLt; omega) (by show (o.val * 128 + k.val) / 1 % 128 = k.val; have := k.isLt; omega) rfl)
  have hb : val_main_v219 (F := Ideal) x13 (ix3 b o p) = x13 (ix1 o) := by
    rw [val_main_v219_apply, val_main_v218_apply]
    exact congrArg x13 (ext1 rfl)
  have z0 : val_main_v198 (F := Ideal) (ix3 b o p) = (0 : EReal) := by rw [val_main_v198_apply]; exact zero_word
  have z1 : val_main_call7_v0 (F := Ideal) (ix3 b o p) = (0 : EReal) := by rw [val_main_call7_v0_apply]; exact zero_word
  show (max (val_main_v198 (F := Ideal) (ix3 b o p)
      + val_main_v197 (F := Ideal) x0 x1 x2 x3 x4 x5 x6 x7 x8 x9 x10 x11 x12 (ix3 b o p)
      + val_main_v204 (F := Ideal) x0 x1 x2 x3 x4 x5 x6 x7 x8 x9 x10 x11 x12 (ix3 b o p)
      + val_main_v210 (F := Ideal) x0 x1 x2 x3 x4 x5 x6 x7 x8 x9 x10 x11 x12 (ix3 b o p)
      + val_main_v216 (F := Ideal) x0 x1 x2 x3 x4 x5 x6 x7 x8 x9 x10 x11 x12 (ix3 b o p) + val_main_v219 (F := Ideal) x13 (ix3 b o p)) (val_main_call7_v0 (F := Ideal) (ix3 b o p)) : EReal) = _
  rw [z0, z1, zero_add, t0, t1, t2, t3, hb]
  rfl

theorem dec3 (b : Fin 16) (o : Fin 1) (p : Fin 2048) : val_main_v244 (F := Ideal) x0 x1 x2 x3 x4 x5 x6 x7 x8 x9 x10 x11 x12 x13 x14 x15 (ix3 b o p)
    = conv3 (fun o i k => x14 (ix3 o i k)) (fun o => x15 (ix1 o)) (fun i s => (val_main_v221 (F := Ideal) x0 x1 x2 x3 x4 x5 x6 x7 x8 x9 x10 x11 x12 x13) (ix3 b i s)) o p := by
  have t0 : val_main_v227 (F := Ideal) x0 x1 x2 x3 x4 x5 x6 x7 x8 x9 x10 x11 x12 x13 x14 (ix3 b o p) = tap (fun i => x14 (ix3 o i 0)) (fun i s => (val_main_v221 (F := Ideal) x0 x1 x2 x3 x4 x5 x6 x7 x8 x9 x10 x11 x12 x13) (ix3 b i s)) (0 + p.val) := by
    rw [val_main_v227_apply, val_main_v226_apply]
    refine sum_mul_congr (fun k => ?_) (fun k => cut_pad (val_main_v221 (F := Ideal) x0 x1 x2 x3 x4 x5 x6 x7 x8 x9 x10 x11 x12 x13) _ zero_const _ _ _ _)
    rw [val_main_v225_apply, val_main_v224_apply]
    exact congrArg x14 (ext3 (by show 0 = o.val; omega) (by show (o.val * 128 + k.val) / 1 % 128 = k.val; have := k.isLt; omega) rfl)
  have t1 : val_main_v234 (F := Ideal) x0 x1 x2 x3 x4 x5 x6 x7 x8 x9 x10 x11 x12 x13 x14 (ix3 b o p) = tap (fun i => x14 (ix3 o i 1)) (fun i s => (val_main_v221 (F := Ideal) x0 x1 x2 x3 x4 x5 x6 x7 x8 x9 x10 x11 x12 x13) (ix3 b i s)) (1 + p.val) := by
    rw [val_main_v234_apply, val_main_v233_apply]
    refine sum_mul_congr (fun k => ?_) (fun k => cut_pad (val_main_v221 (F := Ideal) x0 x1 x2 x3 x4 x5 x6 x7 x8 x9 x10 x11 x12 x13) _ zero_const _ _ _ _)
    rw [val_main_v232_apply, val_main_v231_apply]
    exact congrArg x14 (ext3 (by show 0 = o.val; omega) (by show (o.val * 128 + k.val) / 1 % 128 = k.val; have := k.isLt; omega) rfl)
  have t2 : val_main_v240 (F := Ideal) x0 x1 x2 x3 x4 x5 x6 x7 x8 x9 x10 x11 x12 x13 x14 (ix3 b o p) = tap (fun i => x14 (ix3 o i 2)) (fun i s => (val_main_v221 (F := Ideal) x0 x1 x2 x3 x4 x5 x6 x7 x8 x9 x10 x11 x12 x13) (ix3 b i s)) (2 + p.val) := by
    rw [val_main_v240_apply, val_main_v239_apply]
    refine sum_mul_congr (fun k => ?_) (fun k => cut_pad (val_main_v221 (F := Ideal) x0 x1 x2 x3 x4 x5 x6 x7 x8 x9 x10 x11 x12 x13) _ zero_const _ _ _ _)
    rw [val_main_v238_apply, val_main_v237_apply]
    exact congrArg x14 (ext3 (by show 0 = o.val; omega) (by show (o.val * 128 + k.val) / 1 % 128 = k.val; have := k.isLt; omega) rfl)
  have hb : val_main_v243 (F := Ideal) x15 (ix3 b o p) = x15 (ix1 o) := by
    rw [val_main_v243_apply, val_main_v242_apply]
    exact congrArg x15 (ext1 (by show 0 = o.val; omega))
  have z0 : val_main_v228 (F := Ideal) (ix3 b o p) = (0 : EReal) := by rw [val_main_v228_apply]; exact zero_word
  show (val_main_v228 (F := Ideal) (ix3 b o p)
      + val_main_v227 (F := Ideal) x0 x1 x2 x3 x4 x5 x6 x7 x8 x9 x10 x11 x12 x13 x14 (ix3 b o p)
      + val_main_v234 (F := Ideal) x0 x1 x2 x3 x4 x5 x6 x7 x8 x9 x10 x11 x12 x13 x14 (ix3 b o p)
      + val_main_v240 (F := Ideal) x0 x1 x2 x3 x4 x5 x6 x7 x8 x9 x10 x11 x12 x13 x14 (ix3 b o p) + val_main_v243 (F := Ideal) x15 (ix3 b o p) : EReal) = _
  rw [z0, zero_add, t0, t1, t2, hb]
  rfl

end

end Cert.RefConv

end
-- ==== Proof.RefCode.lean ====
/- The reference's nearest row of the codebook: the arg-min over the rows of the codebook, and the row taken. -/
module

public import proofs.«01_k».proof.Proof.RefConv
public import Idealize.ShloMosaic.Lib.ValueIdxCore

@[expose] public section

set_option maxRecDepth 16384

noncomputable section

namespace Cert.RefCode

open Cert.ReferenceIdeal Cert.ReferenceIdeal.Gen Cert.ReferenceIdeal.Read Cert.Spec Cert.RefConv Idealize.ShloMosaic.TcCoe
open Idealize.ShloMosaic hiding ix0 ix1 ix2 ix3 ix4
open Idealize.ShloMosaic.ValueIdx

/-- A pair before another one: the lesser value, and at equal values the lesser place. -/
def Bef (a b : EReal × BitVec 32) : Prop := a.1 < b.1 ∨ (a.1 = b.1 ∧ a.2.toInt ≤ b.2.toInt)

theorem Bef.refl (a : EReal × BitVec 32) : Bef a a := Or.inr ⟨rfl, le_refl _⟩

theorem Bef.trans {a b c : EReal × BitVec 32} (h : Bef a b) (h' : Bef b c) : Bef a c := by
  rcases h with h | ⟨h, i⟩ <;> rcases h' with h' | ⟨h', i'⟩
  · exact Or.inl (h.trans h')
  · exact Or.inl (h' ▸ h)
  · exact Or.inl (h ▸ h')
  · exact Or.inr ⟨h.trans h', i.trans i'⟩

theorem step (a b : EReal × BitVec 32) :
    (reducer_argmin_f32_i32 (F := Ideal) a b = a ∧ Bef a b) ∨ (reducer_argmin_f32_i32 (F := Ideal) a b = b ∧ Bef b a) := by
  obtain ⟨a1, a2⟩ := a
  obtain ⟨b1, b2⟩ := b
  have hf : reducer_argmin_f32_i32 (F := Ideal) (a1, a2) (b1, b2)
      = (if a1 < b1 then a1 else b1, if a1 < b1 ∨ (a1 = b1 ∧ a2.toInt < b2.toInt) then a2 else b2) := by
    unfold reducer_argmin_f32_i32
    simp only [Ideal.cmpf_def, Ideal.cmp, IntOp.cmpi, IntOp.ori, IntOp.andi, Scalar.select, ne_eq, not_true_eq_false, decide_false, BitVec.slt]
    by_cases h1 : a1 < b1 <;> by_cases h2 : a1 = b1 <;> by_cases h3 : a2.toInt < b2.toInt <;> simp [h1, h2, h3]
  rw [hf]
  unfold Bef
  rcases lt_trichotomy a1 b1 with h | h | h
  · left; simp [h]
  · subst h
    by_cases hi : a2.toInt < b2.toInt
    · left; simp [hi, hi.le]
    · right; simp [hi, not_lt.mp hi]
  · right
    simp [h, h.not_gt, h.ne']

theorem fold_mem (l : List (EReal × BitVec 32)) (i : EReal × BitVec 32) :
    (l.foldl (reducer_argmin_f32_i32 (F := Ideal)) i = i ∨ l.foldl (reducer_argmin_f32_i32 (F := Ideal)) i ∈ l)
      ∧ Bef (l.foldl (reducer_argmin_f32_i32 (F := Ideal)) i) i ∧ ∀ p ∈ l, Bef (l.foldl (reducer_argmin_f32_i32 (F := Ideal)) i) p := by
  induction l generalizing i with
  | nil => exact ⟨Or.inl rfl, Bef.refl _, fun p hp => absurd hp List.not_mem_nil⟩
  | cons a l ih =>
    rw [List.foldl_cons]
    obtain ⟨h1, h2, h3⟩ := ih (reducer_argmin_f32_i32 (F := Ideal) i a)
    rcases step i a with ⟨he, hb⟩ | ⟨he, hb⟩
    · rw [he] at h1 h2 h3 ⊢
      refine ⟨h1.imp id (List.mem_cons_of_mem a), h2, fun p hp => ?_⟩
      rcases List.mem_cons.mp hp with rfl | hp
      · exact h2.trans hb
      · exact h3 p hp
    · rw [he] at h1 h2 h3 ⊢
      refine ⟨Or.inr ?_, h2.trans hb, fun p hp => ?_⟩
      · rcases h1 with h1 | h1
        · rw [h1]; exact List.mem_cons_self
        · exact List.mem_cons_of_mem a h1
      · rcases List.mem_cons.mp hp with rfl | hp
        · exact h2
        · exact h3 p hp

/-- The arg-min over the second axis, at a row of real numbers below the starting value: the first place of the least value. -/
theorem argmin_read (x : FVec Ideal S8192x512 .f32) (y : S8192x512.Idx → BitVec 32)
    (hy : ∀ i, y i = BitVec.ofNat 32 (i 1).val) (v : S_.Idx → Ideal .f32) (hv : ∀ i, v i = (⊤ : EReal)) (c : S_.Idx → BitVec 32)
    (h : S8192x512.ReducesTo [1] S8192) (hu : 0 < S_.numel) (n : Fin 8192) (hx : ∀ k : Fin 512, (x (ix2 n k) : EReal) < ⊤) :
    (Host.argReduce (reducer_argmin_f32_i32 (F := Ideal)) x y v c h hu (ix1 n)).2 = BitVec.ofNat 32 (code (fun k => (x (ix2 n k) : EReal))).val := by
  rw [Ideal.argReduce_eq_reduce2, Host.reduce2_eq_foldl_fiber]
  have hmem : ∀ p : EReal × BitVec 32, p ∈ Host.argReduceFiber x y h (ix1 n) ↔ ∃ k : Fin 512, p = (x (ix2 n k), BitVec.ofNat 32 k.val) := by
    intro p
    unfold Host.argReduceFiber
    rw [List.mem_map]
    constructor
    · rintro ⟨m, hm, rfl⟩
      have hm : h.drop (S8192x512.rowMajor.symm m) = ix1 n := by simpa using (List.mem_filter.mp hm).2
      generalize S8192x512.rowMajor.symm m = i at hm
      have h0 : (i 0).val = n.val := (show (h.drop i 0).val = (i 0).val from rfl).symm.trans (congrArg (fun j => (j 0).val) hm)
      obtain ⟨k, hk⟩ : ∃ k : Fin 512, i = ix2 n k := ⟨⟨(i 1).val, (i 1).isLt⟩, ext2 h0 rfl⟩
      refine ⟨k, ?_⟩
      rw [hy, hk]
    · rintro ⟨k, rfl⟩
      refine ⟨S8192x512.rowMajor (ix2 n k), List.mem_filter.mpr ⟨List.mem_finRange _, ?_⟩, ?_⟩
      · rw [Equiv.symm_apply_apply, decide_eq_true_eq]
        exact ext1 rfl
      · rw [Equiv.symm_apply_apply, hy]
  generalize Host.argReduceFiber x y h (ix1 n) = l at hmem
  obtain ⟨h1, h2, h3⟩ := fold_mem l (v (Shape.Idx.first hu), c (Shape.Idx.first hu))
  generalize l.foldl (reducer_argmin_f32_i32 (F := Ideal)) (v (Shape.Idx.first hu), c (Shape.Idx.first hu)) = r at h1 h2 h3
  have hr : r ∈ l := by
    rcases h1 with h1 | h1
    · exfalso
      have := h3 _ ((hmem _).mpr ⟨0, rfl⟩)
      rw [h1] at this
      rcases this with hlt | ⟨he, -⟩
      · simp only [hv] at hlt
        exact absurd hlt (not_lt.mpr le_top)
      · simp only [hv] at he
        exact absurd (hx 0) (by rw [← he]; exact lt_irrefl _)
    · exact h1
  obtain ⟨k, rfl⟩ := (hmem r).mp hr
  have toI : ∀ j : Fin 512, (BitVec.ofNat 32 j.val).toInt = (j.val : ℤ) := fun j => by
    have := j.isLt
    rw [BitVec.toInt_eq_toNat_of_lt (by rw [BitVec.toNat_ofNat]; omega), BitVec.toNat_ofNat]; omega
  have hk : IsCode (fun k => (x (ix2 n k) : EReal)) k := by
    refine ⟨fun j => ?_, fun j hj => ?_⟩
    · rcases h3 _ ((hmem _).mpr ⟨j, rfl⟩) with hlt | ⟨he, -⟩
      · exact hlt.le
      · exact he.le
    · rcases h3 _ ((hmem _).mpr ⟨j, rfl⟩) with hlt | ⟨he, hi⟩
      · exact hlt
      · exfalso
        simp only [toI] at hi
        have : j.val < k.val := hj
        omega
  rw [← eq_code hk]

end Cert.RefCode

end
-- ==== Proof.RefVal.lean ====
/- The reference's results in the terms of the specification. -/
module

public import proofs.«01_k».proof.Proof.RefCode
public import Idealize.ShloMosaic.Lib.Routing.OpsPair

@[expose] public section

set_option maxRecDepth 16384

noncomputable section

namespace Cert.RefVal

open Cert.ReferenceIdeal Cert.ReferenceIdeal.Gen Cert.ReferenceIdeal.Read Cert.Spec Cert.RefConv Idealize.ShloMosaic.TcCoe
open Idealize.ShloMosaic hiding ix0 ix1 ix2 ix3 ix4
open Idealize.ShloMosaic.ValueIdx

theorem coe_sum {ι : Type} (s : Finset ι) (f : ι → ℝ) : ∑ i ∈ s, ((f i : ℝ) : EReal) = ((∑ i ∈ s, f i : ℝ) : EReal) := by
  classical
  induction s using Finset.induction_on with
  | empty => rfl
  | insert a s ha ih => rw [Finset.sum_insert ha, Finset.sum_insert ha, ih, EReal.coe_add]

/-- Comparing the whole squared distances picks the row that comparing them without the part common to all picks. -/
theorem code_dist (z : Fin 128 → EReal) (cb : Fin 512 → Fin 128 → EReal) (hz : ∀ d, IsR (z d)) (hc : ∀ k d, IsR (cb k d)) :
    (∀ k, (∑ d, z d * z d) - (∑ d, (((2 : ℝ) : EReal) * z d) * cb k d) + (∑ d, cb k d * cb k d) < ⊤) ∧
    code (fun k => (∑ d, z d * z d) - (∑ d, (((2 : ℝ) : EReal) * z d) * cb k d) + ∑ d, cb k d * cb k d) = code (dist z cb) := by
  choose zr hz using hz
  choose cr hc using hc
  have e1 : ∀ k, (∑ d, z d * z d) - (∑ d, (((2 : ℝ) : EReal) * z d) * cb k d) + (∑ d, cb k d * cb k d)
      = ((((∑ d, zr d * zr d) - (∑ d, (2 * zr d) * cr k d) + ∑ d, cr k d * cr k d : ℝ)) : EReal) := fun k => by
    simp only [hz, hc, ← EReal.coe_mul, coe_sum, ← EReal.coe_sub, ← EReal.coe_add]
  have e2 : ∀ k, dist z cb k = (((∑ d, zr d * (-2 * cr k d)) + ∑ d, cr k d * cr k d : ℝ) : EReal) := fun k => by
    simp only [Cert.Spec.dist, hz, hc, ← EReal.coe_mul, coe_sum, ← EReal.coe_add]
  have e3 : ∀ k, ((∑ d, zr d * zr d) - (∑ d, (2 * zr d) * cr k d) + ∑ d, cr k d * cr k d : ℝ)
      = (∑ d, zr d * zr d) + ((∑ d, zr d * (-2 * cr k d)) + ∑ d, cr k d * cr k d) := fun k => by
    have : (∑ d, zr d * (-2 * cr k d)) = -(∑ d, (2 * zr d) * cr k d) := by
      rw [← Finset.sum_neg_distrib]; exact Finset.sum_congr rfl fun d _ => by ring
    rw [this]; ring
  refine ⟨fun k => by rw [e1]; exact EReal.coe_lt_top _, ?_⟩
  refine eq_code ?_
  have h := code_spec (fun k => (∑ d, z d * z d) - (∑ d, (((2 : ℝ) : EReal) * z d) * cb k d) + ∑ d, cb k d * cb k d)
  revert h
  generalize code (fun k => (∑ d, z d * z d) - (∑ d, (((2 : ℝ) : EReal) * z d) * cb k d) + ∑ d, cb k d * cb k d) = k
  rintro ⟨h1, h2⟩
  refine ⟨fun j => ?_, fun j hj => ?_⟩
  · have := h1 j
    simp only [e1, e3] at this
    rw [e2, e2, EReal.coe_le_coe_iff]
    rw [EReal.coe_le_coe_iff] at this
    linarith
  · have := h2 j hj
    simp only [e1, e3] at this
    rw [e2, e2, EReal.coe_lt_coe_iff]
    rw [EReal.coe_lt_coe_iff] at this
    linarith

theorem two_word : (FloatOps.ofBits (F := Ideal) .f32 0x40000000#32 : EReal) = ((2 : ℝ) : EReal) := by
  show Ideal.ofBits .f32 0x40000000#32 = _
  simp [Ideal.ofBits, Ideal.ieee]
  rw [← EReal.coe_mul]
  norm_num

theorem inf_word (i : S_.Idx) : (val_main_call2_cst (F := Ideal) i : EReal) = ⊤ := by
  show Ideal.ofBits .f32 0x7F800000#32 = _
  simp [Ideal.ofBits, Ideal.ieee]

/-- A batch's step among all the rows. -/
def row (b : Fin 16) (t : Fin 512) : Fin 8192 := ⟨512 * b.val + t.val, by omega⟩

theorem sum_row {M : Type} [AddCommMonoid M] (f : Fin 8192 → M) : ∑ n, f n = ∑ b, ∑ t, f (row b t) := by
  rw [← Fintype.sum_prod_type' (f := fun b t => f (row b t))]
  refine (Fintype.sum_equiv (finProdFinEquiv (m := 16) (n := 512)) _ _ fun p => ?_).symm
  congr 1
  apply Fin.ext
  show 512 * p.1.val + p.2.val = p.2.val + 512 * p.1.val
  omega

variable {n : Net} {x0 : (⟨S16x1x2048, .f32⟩ : BufTy).Contents (Elt Ideal)}
  {x1 : (⟨S128x1x4, .f32⟩ : BufTy).Contents (Elt Ideal)}
  {x2 : (⟨S128, .f32⟩ : BufTy).Contents (Elt Ideal)}
  {x3 : (⟨S128x128x4, .f32⟩ : BufTy).Contents (Elt Ideal)}
  {x4 : (⟨S128, .f32⟩ : BufTy).Contents (Elt Ideal)}
  {x5 : (⟨S128x128x3, .f32⟩ : BufTy).Contents (Elt Ideal)}
  {x6 : (⟨S128, .f32⟩ : BufTy).Contents (Elt Ideal)}
  {x7 : (⟨S512x128, .f32⟩ : BufTy).Contents (Elt Ideal)}
  {x8 : (⟨S128x128x3, .f32⟩ : BufTy).Contents (Elt Ideal)}
  {x9 : (⟨S128, .f32⟩ : BufTy).Contents (Elt Ideal)}
  {x10 : (⟨S128x128x4, .f32⟩ : BufTy).Contents (Elt Ideal)}
  {x11 : (⟨S128, .f32⟩ : BufTy).Contents (Elt Ideal)}
  {x12 : (⟨S128x128x4, .f32⟩ : BufTy).Contents (Elt Ideal)}
  {x13 : (⟨S128, .f32⟩ : BufTy).Contents (Elt Ideal)}
  {x14 : (⟨S1x128x3, .f32⟩ : BufTy).Contents (Elt Ideal)}
  {x15 : (⟨S1, .f32⟩ : BufTy).Contents (Elt Ideal)}
  (hn : n = netOf x0 x1 x2 x3 x4 x5 x6 x7 x8 x9 x10 x11 x12 x13 x14 x15)
include hn

theorem r_h1 (b : Fin 16) (o : Fin 128) (p : Fin 1024) : val_main_v29 (F := Ideal) x0 x1 x2 (ix3 b o p) = n.h1 b o p := by
  rw [enc1, hn]; rfl

theorem r_h2 (b : Fin 16) (o : Fin 128) (p : Fin 512) : val_main_v59 (F := Ideal) x0 x1 x2 x3 x4 (ix3 b o p) = n.h2 b o p := by
  rw [enc2]
  have : (fun i s => val_main_v29 (F := Ideal) x0 x1 x2 (ix3 b i s)) = n.h1 b :=
    funext fun i => funext fun s => r_h1 hn b i s
  rw [this, hn]; rfl

theorem r_z (b : Fin 16) (o : Fin 128) (t : Fin 512) : val_main_v82 (F := Ideal) x0 x1 x2 x3 x4 x5 x6 (ix3 b o t) = n.z b o t := by
  rw [enc3]
  have : (fun i s => val_main_v59 (F := Ideal) x0 x1 x2 x3 x4 (ix3 b i s)) = n.h2 b :=
    funext fun i => funext fun s => r_h2 hn b i s
  rw [this, hn]; rfl

theorem r_zf (b : Fin 16) (t : Fin 512) (d : Fin 128) : val_main_v84 (F := Ideal) x0 x1 x2 x3 x4 x5 x6 (ix2 (row b t) d) = n.z b d t := by
  rw [val_main_v84_apply, val_main_v83_apply]
  refine Eq.trans (congrArg (val_main_v82 (F := Ideal) x0 x1 x2 x3 x4 x5 x6) (ext3 (x := b) (y := d) (z := t) ?_ ?_ ?_)) (r_z hn b d t)
  · show ((512 * b.val + t.val) * 128 + d.val) / 65536 = b.val; omega
  · show ((512 * b.val + t.val) * 128 + d.val) % 128 = d.val; omega
  · show ((512 * b.val + t.val) * 128 + d.val) / 128 % 512 = t.val; omega

theorem r_dist (b : Fin 16) (t : Fin 512) (k : Fin 512) : val_main_v98 (F := Ideal) x0 x1 x2 x3 x4 x5 x6 x7 (ix2 (row b t) k)
    = (∑ d, n.z b d t * n.z b d t) - (∑ d, (((2 : ℝ) : EReal) * n.z b d t) * n.cb k d) + ∑ d, n.cb k d * n.cb k d := by
  have hz := r_zf hn b t
  have e1 : val_main_v92 (F := Ideal) x0 x1 x2 x3 x4 x5 x6 (ix2 (row b t) k) = ∑ d, n.z b d t * n.z b d t := by
    rw [val_main_v92_apply, val_main_v87_apply, val_main_v86_apply]
    refine Eq.trans (congrArg₂ (· + ·) zero_word (sum_mul_congr (fun d => ?_) (fun d => ?_))) (zero_add _)
    · refine Eq.trans (congrArg (val_main_v84 (F := Ideal) x0 x1 x2 x3 x4 x5 x6) (ext2 (x := row b t) (y := d) rfl rfl)) (hz d)
    · refine Eq.trans (congrArg (val_main_v84 (F := Ideal) x0 x1 x2 x3 x4 x5 x6) (ext2 (x := row b t) (y := d) rfl rfl)) (hz d)
  have e2 : val_main_v91 (F := Ideal) x0 x1 x2 x3 x4 x5 x6 x7 (ix2 (row b t) k) = ∑ d, (((2 : ℝ) : EReal) * n.z b d t) * n.cb k d := by
    rw [val_main_v91_apply]
    refine sum_mul_congr (fun d => ?_) (fun d => ?_)
    · rw [val_main_v89_apply, val_main_v88_apply, val_main_cst_6_apply, two_word]
      exact congrArg (((2 : ℝ) : EReal) * ·) (Eq.trans (congrArg (val_main_v84 (F := Ideal) x0 x1 x2 x3 x4 x5 x6) (ext2 (x := row b t) (y := d) rfl rfl)) (hz d))
    · rw [val_main_v90_apply]
      rw [hn]; exact congrArg x7 (ext2 (x := k) (y := d) rfl rfl)
  have e3 : val_main_v97 (F := Ideal) x7 (ix2 (row b t) k) = ∑ d, n.cb k d * n.cb k d := by
    rw [val_main_v97_apply, val_main_v96_apply, val_main_v95_apply]
    refine Eq.trans (congrArg₂ (· + ·) zero_word (sum_mul_congr (fun d => ?_) (fun d => ?_))) (zero_add _)
    · rw [hn]; exact congrArg x7 (ext2 (x := k) (y := d) rfl rfl)
    · rw [hn]; exact congrArg x7 (ext2 (x := k) (y := d) rfl rfl)
  show (val_main_v92 (F := Ideal) x0 x1 x2 x3 x4 x5 x6 (ix2 (row b t) k) - val_main_v91 (F := Ideal) x0 x1 x2 x3 x4 x5 x6 x7 (ix2 (row b t) k) : EReal)
      + val_main_v97 (F := Ideal) x7 (ix2 (row b t) k) = _
  rw [e1, e2, e3]

variable (hR : n.Real)
include hR

theorem r_code (b : Fin 16) (t : Fin 512) : val_main_v99 (F := Ideal) x0 x1 x2 x3 x4 x5 x6 x7 (ix1 (row b t)) = BitVec.ofNat 32 (n.code b t).val := by
  have h := code_dist (fun d => n.z b d t) n.cb (fun d => hR.z b d t) hR.cb
  have e := r_dist hn b t
  have key := RefCode.argmin_read (val_main_v98 (F := Ideal) x0 x1 x2 x3 x4 x5 x6 x7) (val_main_call2_v0 (F := Ideal))
    (fun i => val_main_call2_v0_apply i) (val_main_call2_cst (F := Ideal)) inf_word (val_main_call2_c (F := Ideal)) reducesTo_S8192x512_S8192_d1 h_S_ (row b t)
    (fun k => by rw [e]; exact h.1 k)
  have e' : (fun k => (val_main_v98 (F := Ideal) x0 x1 x2 x3 x4 x5 x6 x7 (ix2 (row b t) k) : EReal)) = _ := funext e
  rw [e', h.2] at key
  rw [show n.code b t = code (Cert.Spec.dist (fun d => n.z b d t) n.cb) from rfl, ← key]
  have : ∀ f g : S8192.Idx → BitVec 32, f = g → f (ix1 (row b t)) = g (ix1 (row b t)) := fun f g h => by rw [h]
  refine this (val_main_v99 (F := Ideal) x0 x1 x2 x3 x4 x5 x6 x7) (fun j => (Host.argReduce (reducer_argmin_f32_i32 (F := Ideal)) (val_main_v98 (F := Ideal) x0 x1 x2 x3 x4 x5 x6 x7) (val_main_call2_v0 (F := Ideal)) (val_main_call2_cst (F := Ideal)) (val_main_call2_c (F := Ideal)) reducesTo_S8192x512_S8192_d1 h_S_ j).2) ?_
  rfl

end Cert.RefVal

end
-- ==== Proof.RefOut.lean ====
/- The reference's results in the terms of the specification: the rows taken, how often, and the results. -/
module

public import proofs.«01_k».proof.Proof.RefVal
public import Idealize.ShloMosaic.Lib.Routing.OpsPair
public import Idealize.ShloMosaic.Lib.Routing.Ops

@[expose] public section

set_option maxRecDepth 16384

noncomputable section

namespace Cert.RefVal

open Cert.ReferenceIdeal Cert.ReferenceIdeal.Gen Cert.ReferenceIdeal.Read Cert.Spec Cert.RefConv Idealize.ShloMosaic.TcCoe
open Idealize.ShloMosaic hiding ix0 ix1 ix2 ix3 ix4
open Idealize.ShloMosaic.ValueIdx

/-- A fold that adds one at each place named, over a list of places. -/
theorem fold_count {α : Type} (p : α → Prop) [DecidablePred p] (l : List α) (a : BitVec 32) :
    l.foldl (fun a m => if p m then IntOp.addi a 1#32 else a) a = a + BitVec.ofNat 32 ((l.map fun m => if p m then 1 else 0).sum) := by
  induction l generalizing a with
  | nil => simp
  | cons m l ih =>
    rw [List.foldl_cons, ih, List.map_cons, List.sum_cons]
    by_cases h : p m
    · rw [if_pos h, if_pos h, show IntOp.addi a 1#32 = a + 1#32 from rfl, BitVec.ofNat_add, BitVec.add_assoc]
    · rw [if_neg h, if_neg h, Nat.zero_add]

/-- A place of the updates lands where its index word says. -/
theorem lands {K N : Nat} (d : ScatterDims ⟨1, ![K]⟩ ⟨2, ![N, 1]⟩ ⟨1, ![N]⟩) (hiw : d.insertedWindowDims = [0])
    (hsd : d.scatterDimsToOperandDims = [0]) (hivd : d.indexVectorDim = 1) (idx : IVec ⟨2, ![N, 1]⟩ 32) (i : Fin N) (x : Fin K) :
    d.resultIdx? (ix1 i) idx = some (ix1 x) ↔ (idx (ix2 i (0 : Fin 1))).toInt = (x.val : Int) := by
  have hm : (0 : Fin 1) ∈ d.scatterDimsToOperandDims := by rw [hsd]; exact List.mem_singleton.2 rfl
  have hw : d.window (ix1 i) 0 = 0 := by
    unfold ScatterDims.window
    exact dif_neg fun h => (of_decide_eq_true (List.mem_filter.1 h).2) (by rw [hiw]; exact List.mem_singleton.2 rfl)
  have hi : d.siIdx (ix1 i) ⟨d.scatterDimsToOperandDims.idxOf 0, List.idxOf_lt_length_iff.2 hm⟩ = ix2 i (0 : Fin 1) := by
    refine ext2 ?_ ?_
    · unfold ScatterDims.siIdx
      rw [dif_neg (by rw [hivd]; exact Nat.zero_ne_one)]
      have e : ∀ a : Fin 1, (ix1 i a).val = i.val := fun a => by rw [Subsingleton.elim a 0]
      exact e _
    · unfold ScatterDims.siIdx
      rw [dif_pos (by rw [hivd]; rfl)]
      show List.idxOf (0 : Fin 1) d.scatterDimsToOperandDims = 0
      rw [hsd]; rfl
  have hs : d.start (ix1 i) idx 0 + (d.window (ix1 i) 0 : Int) = (idx (ix2 i (0 : Fin 1))).toInt := by
    rw [hw]; unfold ScatterDims.start
    rw [dif_pos hm, hi]; exact add_zero _
  have hx := x.isLt
  unfold ScatterDims.resultIdx?
  by_cases h : ∀ a, 0 ≤ d.start (ix1 i) idx a + (d.window (ix1 i) a : Int) ∧ d.start (ix1 i) idx a + (d.window (ix1 i) a : Int) < ((⟨1, ![K]⟩ : Shape).size a : Int)
  · rw [dif_pos h]
    have h0 := h 0
    rw [hs] at h0
    constructor
    · intro e
      have e0 : (d.start (ix1 i) idx 0 + (d.window (ix1 i) 0 : Int)).toNat = x.val := congrArg Fin.val (congrFun (Option.some.inj e) 0)
      rw [hs] at e0; omega
    · intro e
      refine congrArg some (ext1 ?_)
      show (d.start (ix1 i) idx 0 + (d.window (ix1 i) 0 : Int)).toNat = x.val
      rw [hs]; omega
  · rw [dif_neg h]
    refine ⟨fun e => (Option.some_ne_none _ e.symm).elim, fun e => (h fun a => ?_).elim⟩
    obtain rfl : a = 0 := Subsingleton.elim a 0
    rw [hs, e]
    exact ⟨by omega, by show (x.val : Int) < (K : Int); omega⟩

/-- Adding one at each place named: each entry ends with the number of words that name it. -/
theorem hist {K N : Nat} (d : ScatterDims ⟨1, ![K]⟩ ⟨2, ![N, 1]⟩ ⟨1, ![N]⟩) (hiw : d.insertedWindowDims = [0])
    (hsd : d.scatterDimsToOperandDims = [0]) (hivd : d.indexVectorDim = 1) (z : IVec ⟨1, ![K]⟩ 32) (hz : ∀ i, z i = 0#32)
    (idx : IVec ⟨2, ![N, 1]⟩ 32) (u : IVec ⟨1, ![N]⟩ 32) (hu : ∀ i, u i = 1#32) (x : Fin K) :
    Host.scatter d IntOp.addi z idx u (ix1 x) = BitVec.ofNat 32 (∑ i : Fin N, if (idx (ix2 i 0)).toInt = (x.val : Int) then 1 else 0) := by
  rw [Routing.scatter_at]
  simp only [hu]
  rw [fold_count (fun m => d.resultIdx? ((⟨1, ![N]⟩ : Shape).rowMajor.symm m) idx = some (ix1 x)), hz, BitVec.zero_add, ← Fin.sum_univ_def]
  congr 1
  refine Fintype.sum_equiv (finCongr (Routing.numel1 N)) _ _ fun m => ?_
  rw [Routing.symm1]
  exact if_congr (lands d hiw hsd hivd idx _ x) rfl rfl

theorem word_int (m : ℕ) (h : m < 2 ^ 31) : (BitVec.ofNat 32 m).toInt = (m : ℤ) := by
  rw [BitVec.toInt_eq_toNat_of_lt (by rw [BitVec.toNat_ofNat]; omega), BitVec.toNat_ofNat]; omega

theorem not_negative (m : ℕ) (h : m < 512) : (BitVec.ofNat 32 m).slt 0#32 = false := by
  rw [BitVec.slt, word_int m (by omega)]
  simp

theorem word_real (m : ℕ) (h : m < 2 ^ 31) : (FloatOps.sitofp (F := Ideal) .f32 (BitVec.ofNat 32 m) : EReal) = ((m : ℝ) : EReal) := by
  show (((BitVec.ofNat 32 m).toInt : ℝ) : EReal) = _
  rw [word_int m h]; norm_cast

theorem cast_sum {ι : Type} [Fintype ι] (p : ι → Prop) [DecidablePred p] : (((∑ i, if p i then 1 else 0 : ℕ) : ℝ) : EReal) = ∑ i, if p i then (1 : EReal) else 0 := by
  rw [Nat.cast_sum, ← coe_sum]
  refine Finset.sum_congr rfl fun i _ => ?_
  split_ifs <;> norm_num

/-- A sum over the places of a vector. -/
theorem sum_at (f : S512.Idx → EReal) : ∑ j, f j = ∑ k : Fin 512, f (ix1 k) :=
  (Fintype.sum_equiv { toFun := fun k => ix1 k, invFun := fun j => j 0, left_inv := fun _ => rfl, right_inv := fun _ => (ext1 rfl).symm } _ _ fun _ => rfl).symm

/-- The mean squared distance. -/
def _root_.Cert.Spec.Net.commit (n : Net) : EReal := (∑ b, n.sq b) * ((1 / 1048576 : ℝ) : EReal)
/-- How often each row is taken, of all the steps. -/
def _root_.Cert.Spec.Net.prob (n : Net) (k : Fin 512) : EReal := n.count k * ((1 / 8192 : ℝ) : EReal)
def _root_.Cert.Spec.Net.perplexity (n : Net) : EReal :=
  Ideal.exp (-(∑ k, n.prob k * Ideal.log (n.prob k + Ideal.ofBits .f32 0x322BCC77#32)))
/-- The rows taken at all, of all the rows. -/
def _root_.Cert.Spec.Net.usage (n : Net) : EReal := (∑ k, if 0 < n.count k then (1 : EReal) else 0) * ((1 / 512 : ℝ) : EReal)
def _root_.Cert.Spec.Net.metrics (n : Net) (j : Fin 2) : EReal := if j = 0 then n.perplexity else n.usage

theorem _root_.Cert.Spec.Net.sum_count (n : Net) : ∑ k, n.count k = ((8192 : ℝ) : EReal) := by
  have e : ∀ b : Fin 16, ∑ k, n.cnt b k = ((512 : ℝ) : EReal) := fun b => by
    unfold Net.cnt
    rw [Finset.sum_comm]
    have : ∀ t : Fin 512, (∑ k : Fin 512, if n.code b t = k then (1 : EReal) else 0) = 1 := fun t => by
      rw [Finset.sum_ite_eq, if_pos (Finset.mem_univ _)]
    rw [Finset.sum_congr rfl fun t _ => this t, show (1 : EReal) = ((1 : ℝ) : EReal) from rfl, coe_sum, Finset.sum_const, Finset.card_univ, Fintype.card_fin]
    norm_num
  unfold Net.count
  rw [Finset.sum_comm, Finset.sum_congr rfl fun b _ => e b, coe_sum, Finset.sum_const, Finset.card_univ, Fintype.card_fin]
  norm_num

theorem mean_word : Ideal.ofBits .f32 0x49800000#32 = ((1048576 : ℝ) : EReal) := by
  simp [Ideal.ofBits, Ideal.ieee]
  rw [← EReal.coe_mul]; norm_num
theorem rows_word : Ideal.ofBits .f32 0x44000000#32 = ((512 : ℝ) : EReal) := by
  simp [Ideal.ofBits, Ideal.ieee]
  rw [← EReal.coe_mul]; norm_num
theorem zero_bits : Ideal.ofBits .f32 0x00000000#32 = (0 : EReal) := by
  simp [Ideal.ofBits, Ideal.ieee]

variable {n : Net} {x0 : (⟨S16x1x2048, .f32⟩ : BufTy).Contents (Elt Ideal)}
  {x1 : (⟨S128x1x4, .f32⟩ : BufTy).Contents (Elt Ideal)}
  {x2 : (⟨S128, .f32⟩ : BufTy).Contents (Elt Ideal)}
  {x3 : (⟨S128x128x4, .f32⟩ : BufTy).Contents (Elt Ideal)}
  {x4 : (⟨S128, .f32⟩ : BufTy).Contents (Elt Ideal)}
  {x5 : (⟨S128x128x3, .f32⟩ : BufTy).Contents (Elt Ideal)}
  {x6 : (⟨S128, .f32⟩ : BufTy).Contents (Elt Ideal)}
  {x7 : (⟨S512x128, .f32⟩ : BufTy).Contents (Elt Ideal)}
  {x8 : (⟨S128x128x3, .f32⟩ : BufTy).Contents (Elt Ideal)}
  {x9 : (⟨S128, .f32⟩ : BufTy).Contents (Elt Ideal)}
  {x10 : (⟨S128x128x4, .f32⟩ : BufTy).Contents (Elt Ideal)}
  {x11 : (⟨S128, .f32⟩ : BufTy).Contents (Elt Ideal)}
  {x12 : (⟨S128x128x4, .f32⟩ : BufTy).Contents (Elt Ideal)}
  {x13 : (⟨S128, .f32⟩ : BufTy).Contents (Elt Ideal)}
  {x14 : (⟨S1x128x3, .f32⟩ : BufTy).Contents (Elt Ideal)}
  {x15 : (⟨S1, .f32⟩ : BufTy).Contents (Elt Ideal)}
  (hn : n = netOf x0 x1 x2 x3 x4 x5 x6 x7 x8 x9 x10 x11 x12 x13 x14 x15)
include hn
variable (hR : n.Real)
include hR

theorem r_q (b : Fin 16) (t : Fin 512) (d : Fin 128) : val_main_v100 (F := Ideal) x0 x1 x2 x3 x4 x5 x6 x7 (ix2 (row b t) d) = n.q b d t := by
  have hc := r_code hn hR b t
  have hi : val_main_call3_v0 (F := Ideal) x0 x1 x2 x3 x4 x5 x6 x7 (ix2 (row b t) 0) = BitVec.ofNat 32 (n.code b t).val := by
    rw [val_main_call3_v0_apply]
    exact Eq.trans (congrArg _ (ext1 rfl)) hc
  have hcb : ∀ k d, n.cb k d = x7 (ix2 k d) := fun k d => by rw [hn]; rfl
  rw [show n.q b d t = n.cb (n.code b t) d from rfl, hcb]
  exact Routing.gather_row gather_S512x128_S8192x1_S8192x128_1_0_n_n_0_1_1128 rfl rfl rfl rfl rfl x7 _ (row b t) d (n.code b t) hi (by norm_num)

theorem r_scatterIdx (b : Fin 16) (t : Fin 512) : val_main_v112 (F := Ideal) x0 x1 x2 x3 x4 x5 x6 x7 (ix2 (row b t) 0) = BitVec.ofNat 32 (n.code b t).val := by
  have hc := r_code hn hR b t
  have hlt : (n.code b t).val < 512 := (n.code b t).isLt
  have hs := fun m (h : m < 512) => not_negative m h
  rw [val_main_v112_apply]
  have e : idx_main_v112 (ix2 (row b t) 0) = ix1 (row b t) := ext1 rfl
  have e106 : val_main_v106 (F := Ideal) x0 x1 x2 x3 x4 x5 x6 x7 (ix1 (row b t)) = BitVec.ofNat 32 (n.code b t).val := by
    rw [val_main_v106_apply, hc, val_main_call4_v1_apply]
    show (if (BitVec.ofNat 32 (n.code b t).val).slt 0#32 then 0#32 else BitVec.ofNat 32 (n.code b t).val) = _
    rw [hs _ hlt]; rfl
  rw [e, val_main_v111_apply, val_main_v108_apply, e106, val_main_v107_apply]
  show (if BitVec.ofBool ((BitVec.ofNat 32 (n.code b t).val).slt 0#32) = 1#1 then _ else _) = _
  rw [hs _ hlt]; rfl

theorem r_counts (k : Fin 512) : val_main_v115 (F := Ideal) x0 x1 x2 x3 x4 x5 x6 x7 (ix1 k) = n.count k := by
  have hc := r_scatterIdx hn hR
  have h := hist scatter_S512_S8192x1_S8192_n_0_0_1 rfl rfl rfl (val_main_v105 (F := Ideal)) (fun i => val_main_v105_apply i)
    (val_main_v112 (F := Ideal) x0 x1 x2 x3 x4 x5 x6 x7) (val_main_v113 (F := Ideal)) (fun i => val_main_v113_apply i) k
  have e : val_main_v115 (F := Ideal) x0 x1 x2 x3 x4 x5 x6 x7 (ix1 k)
      = FloatOps.sitofp (F := Ideal) .f32 (Host.scatter scatter_S512_S8192x1_S8192_n_0_0_1 IntOp.addi (val_main_v105 (F := Ideal)) (val_main_v112 (F := Ideal) x0 x1 x2 x3 x4 x5 x6 x7) (val_main_v113 (F := Ideal)) (ix1 k)) := by
    rw [val_main_v115_apply]; rfl
  rw [e, h]
  have hle : (∑ i : Fin 8192, if (val_main_v112 (F := Ideal) x0 x1 x2 x3 x4 x5 x6 x7 (ix2 i 0)).toInt = (k.val : ℤ) then 1 else 0) ≤ 8192 :=
    (Finset.sum_le_card_nsmul _ _ 1 fun i _ => by split_ifs <;> omega).trans (by simp)
  rw [word_real _ (by omega), cast_sum, sum_row]
  refine Finset.sum_congr rfl fun b _ => Finset.sum_congr rfl fun t _ => ?_
  rw [hc b t, word_int _ (by omega)]
  by_cases hk : n.code b t = k
  · rw [if_pos hk, if_pos (by rw [hk])]
  · rw [if_neg hk, if_neg fun h => hk (Fin.ext (by exact_mod_cast h))]

/-- How the reference's mean squared distance reads. -/
theorem r_commit (i : S1x1.Idx) : val_main_v246 (F := Ideal) x0 x1 x2 x3 x4 x5 x6 x7 i = n.commit := by
  have e : val_main_v246 (F := Ideal) x0 x1 x2 x3 x4 x5 x6 x7 i = val_main_v104 (F := Ideal) x0 x1 x2 x3 x4 x5 x6 x7 (Shape.Idx.first h_S_) := by
    unfold val_main_v246 shapeCast
    exact congrArg _ (funext fun a => Fin.elim0 a)
  rw [e, val_main_v104_apply, val_main_v103_apply]
  show Ideal.div _ (Ideal.ofBits .f32 0x49800000#32) = _
  rw [mean_word, Ideal.div_coe (by norm_num)]
  refine congrArg₂ (· * ·) (Eq.trans (congrArg₂ (· + ·) zero_word ?_) (zero_add _)) rfl
  rw [ValueIdx.sum_idx2, sum_row]
  refine Finset.sum_congr rfl fun b _ => Finset.sum_congr rfl fun t _ => Finset.sum_congr rfl fun d _ => ?_
  rw [val_main_v102_apply, val_main_v101_apply, r_zf hn b t d, r_q hn hR b t d]
  rfl

theorem r_prob (k : Fin 512) : val_main_v118 (F := Ideal) x0 x1 x2 x3 x4 x5 x6 x7 (ix1 k) = n.prob k := by
  rw [val_main_v118_apply, r_counts hn hR k, val_main_v117_apply, val_main_v116_apply]
  have : (∑ j : S512.Idx, (val_main_v115 (F := Ideal) x0 x1 x2 x3 x4 x5 x6 x7) j : EReal) = ((8192 : ℝ) : EReal) := by
    rw [sum_at]
    rw [← n.sum_count]
    exact Finset.sum_congr rfl fun k _ => r_counts hn hR k
  rw [this]
  show Ideal.div (n.count k) ((Ideal.ofBits .f32 0x00000000#32 : EReal) + _) = _
  rw [zero_bits, zero_add, Ideal.div_coe (by norm_num)]
  rfl

theorem r_metric0 (i : S_.Idx) : val_main_v125 (F := Ideal) x0 x1 x2 x3 x4 x5 x6 x7 i = n.perplexity := by
  rw [val_main_v125_apply, val_main_v124_apply, val_main_v123_apply]
  refine congrArg (fun a => Ideal.exp (-a)) (Eq.trans (congrArg₂ (· + ·) zero_word ?_) (zero_add _))
  rw [sum_at]
  refine Finset.sum_congr rfl fun k _ => ?_
  rw [val_main_v122_apply, val_main_v121_apply, val_main_v120_apply, r_prob hn hR k]
  rfl

theorem r_metric1 (i : S_.Idx) : val_main_v130 (F := Ideal) x0 x1 x2 x3 x4 x5 x6 x7 i = n.usage := by
  rw [val_main_v130_apply, val_main_v129_apply]
  show Ideal.div _ (Ideal.ofBits .f32 0x44000000#32) = _
  rw [rows_word, Ideal.div_coe (by norm_num)]
  refine congrArg₂ (· * ·) (Eq.trans (congrArg₂ (· + ·) zero_word ?_) (zero_add _)) rfl
  rw [sum_at]
  refine Finset.sum_congr rfl fun k _ => ?_
  rw [val_main_v128_apply, val_main_v127_apply, r_counts hn hR k, val_main_v126_apply]
  show (((BitVec.ofBool (decide ((Ideal.ofBits .f32 0x00000000#32 : EReal) < n.count k))).toNat : ℝ) : EReal) = _
  rw [zero_bits]
  by_cases h : (0 : EReal) < n.count k
  · rw [if_pos h, decide_eq_true h]; norm_num; rfl
  · rw [if_neg h, decide_eq_false h]; norm_num

theorem r_metrics (j : Fin 2) : val_main_v247 (F := Ideal) x0 x1 x2 x3 x4 x5 x6 x7 (ix2 0 j) = n.metrics j := by
  rw [val_main_v247_apply]
  unfold val_main_v133
  match j with
  | ⟨0, _⟩ =>
    refine (concatenate_pair_apply_left (t := S2) (s₁ := S1) (s₂ := S1) 0 _ _ _ _ rfl (ix1 0) (fun b => ?_)).trans ?_
    · obtain rfl : b = 0 := Subsingleton.elim b 0
      rfl
    · rw [val_main_v131_apply]; exact r_metric0 hn hR _
  | ⟨1, _⟩ =>
    refine (concatenate_pair_apply_right (t := S2) (s₁ := S1) (s₂ := S1) 0 _ _ _ _ rfl rfl (ix1 0) (fun b h => (h (Subsingleton.elim _ _)).elim) rfl).trans ?_
    rw [val_main_v132_apply]; exact r_metric1 hn hR _

theorem r_st (b : Fin 16) (d : Fin 128) (t : Fin 512) : val_main_v137 (F := Ideal) x0 x1 x2 x3 x4 x5 x6 x7 (ix3 b d t) = n.q b d t := by
  rw [val_main_v137_apply, val_main_v136_apply]
  have e : idx_main_v136 (idx_main_v137 (ix3 b d t)) = ix2 (row b t) d := by
    refine ext2 ?_ ?_
    · show ((b.val * 512 + t.val) * 128 + d.val) / 128 = 512 * b.val + t.val; omega
    · show ((b.val * 512 + t.val) * 128 + d.val) % 128 = d.val; omega
  rw [e, val_main_v135_apply, val_main_v134_apply, r_zf hn b t d, r_q hn hR b t d]
  obtain ⟨z, hz⟩ := hR.z b d t
  obtain ⟨q, hq⟩ := hR.q b d t
  show (n.z b d t + (n.q b d t - n.z b d t) : EReal) = n.q b d t
  rw [hz, hq, ← EReal.coe_sub, ← EReal.coe_add]
  congr 1; ring

theorem r_u (b : Fin 16) (o : Fin 128) (p : Fin 512) : val_main_v161 (F := Ideal) x0 x1 x2 x3 x4 x5 x6 x7 x8 x9 (ix3 b o p) = n.u b o p := by
  rw [dec0, show (fun i s => val_main_v137 (F := Ideal) x0 x1 x2 x3 x4 x5 x6 x7 (ix3 b i s)) = n.q b from funext fun i => funext fun s => r_st hn hR b i s]
  rw [hn]; rfl

theorem r_v1 (b : Fin 16) (o : Fin 128) (p : Fin 1024) : val_main_v191 (F := Ideal) x0 x1 x2 x3 x4 x5 x6 x7 x8 x9 x10 x11 (ix3 b o p) = n.v1 b o p := by
  rw [dec1, show (fun i s => val_main_v161 (F := Ideal) x0 x1 x2 x3 x4 x5 x6 x7 x8 x9 (ix3 b i s)) = n.u b from funext fun i => funext fun s => r_u hn hR b i s]
  rw [hn]; rfl

theorem r_v2 (b : Fin 16) (o : Fin 128) (p : Fin 2048) : val_main_v221 (F := Ideal) x0 x1 x2 x3 x4 x5 x6 x7 x8 x9 x10 x11 x12 x13 (ix3 b o p) = n.v2 b o p := by
  rw [dec2, show (fun i s => val_main_v191 (F := Ideal) x0 x1 x2 x3 x4 x5 x6 x7 x8 x9 x10 x11 (ix3 b i s)) = n.v1 b from funext fun i => funext fun s => r_v1 hn hR b i s]
  rw [hn]; rfl

theorem r_out (b : Fin 16) (t : Fin 512) (c : Fin 4) : val_main_v245 (F := Ideal) x0 x1 x2 x3 x4 x5 x6 x7 x8 x9 x10 x11 x12 x13 x14 x15 (ix3 b t c) = n.out b ⟨4 * t.val + c.val, by omega⟩ := by
  rw [val_main_v245_apply]
  have e : idx_main_v245 (ix3 b t c) = ix3 b 0 ⟨4 * t.val + c.val, by omega⟩ := by
    refine ext3 (x := b) (y := 0) (z := ⟨4 * t.val + c.val, by omega⟩) ?_ ?_ ?_
    · show ((b.val * 512 + t.val) * 4 + c.val) / 2048 = b.val; omega
    · rfl
    · show ((b.val * 512 + t.val) * 4 + c.val) % 2048 = 4 * t.val + c.val; omega
  rw [e, dec3, show (fun i s => val_main_v221 (F := Ideal) x0 x1 x2 x3 x4 x5 x6 x7 x8 x9 x10 x11 x12 x13 (ix3 b i s)) = n.v2 b from funext fun i => funext fun s => r_v2 hn hR b i s]
  rw [hn]; rfl

end Cert.RefVal

end
-- ==== Proof.Rows.lean ====
/- Rows of a padded work buffer: eight batches of 512 rows, each after a gap of 8 rows, with 16 rows at the end. A batch's row `t` lies at row `520 * k + 8 + t`. -/
module

public import Idealize.ShloMosaic.Lib.Pipeline.ValueKit
public import Idealize.ShloMosaic.Lib.WritesUnit

@[expose] public section

noncomputable section

namespace Cert.Rows

open Idealize.ShloMosaic hiding ix0 ix1 ix2 ix3 ix4
open Idealize.ShloMosaic.ValueIdx

variable {sig : RefSig} {κ : Kind} {sp : Space} {e : EltTy} {Val : EltTy → Type}

/-- One store of a block of rows and columns, read at a row and a column: the payload inside the block, the contents before outside. -/
theorem read_block {N C H W : ℕ} (v : View sig κ sp (⟨2, ![N, C]⟩ : Shape) e) (f : v.ty.Contents Val) (o c0 : ℕ)
    (inb : ∀ a, (![o, c0] : Fin 2 → ℕ) a + (![H, W] : Fin 2 → ℕ) a ≤ (![N, C] : Fin 2 → ℕ) a)
    (w : (⟨2, ![H, W]⟩ : Shape).Idx → Val e) (L : List (View.Piece Val (⟨2, ![N, C]⟩ : Shape) e)) (r : Fin N) (c : Fin C) :
    v.read Val (v.writes Val f ((⟨Rect.unit (s := ⟨2, ![N, C]⟩) ![o, c0] ![H, W] inb, w⟩ : View.Piece Val (⟨2, ![N, C]⟩ : Shape) e) :: L)) (ix2 r c)
      = if h : (o ≤ r.val ∧ r.val < o + H) ∧ (c0 ≤ c.val ∧ c.val < c0 + W) then
          w (ix2 ⟨r.val - o, by omega⟩ ⟨c.val - c0, by omega⟩)
        else v.read Val (v.writes Val f L) (ix2 r c) := by
  split_ifs with h
  · refine View.read_writes_cons_unit_of_mem v f inb w L (ix2 r c) (ix2 ⟨r.val - o, by omega⟩ ⟨c.val - c0, by omega⟩) rfl ?_
    rw [Fin.forall_fin_two]
    constructor
    · show r.val = o + (r.val - o); omega
    · show c.val = c0 + (c.val - c0); omega
  · by_cases h0 : o ≤ r.val ∧ r.val < o + H
    · refine View.read_writes_cons_unit_of_not_mem v f inb w L (ix2 r c) rfl 1 ?_
      show c.val < c0 ∨ c0 + W ≤ c.val
      omega
    · refine View.read_writes_cons_unit_of_not_mem v f inb w L (ix2 r c) rfl 0 ?_
      show r.val < o ∨ o + H ≤ r.val
      omega

/-- Whether a row of the buffer belongs to a batch. -/
def inBatch (r : ℕ) : Prop := 8 ≤ r % 520 ∧ r < 4160

instance (r : ℕ) : Decidable (inBatch r) := by unfold inBatch; infer_instance

/-- A block of 512 rows of a value of 4160 rows, from row `o` on. -/
def IsSlice {α : Type} {W : ℕ} (val : Fin 4160 → Fin W → α) (o : ℕ) (w : (⟨2, ![512, W]⟩ : Shape).Idx → α) : Prop :=
  ∀ (t : Fin 512) (c : Fin W) (r : Fin 4160), r.val = o + t.val → w (ix2 t c) = val r c

/-- The eight stores of the batches' rows into some of the columns, read back: the value at a batch's rows, the contents before elsewhere. -/
theorem read_stores {C W : ℕ} (v : View sig κ sp (⟨2, ![4176, C]⟩ : Shape) e) (f : v.ty.Contents Val) (c0 : ℕ)
    (val : Fin 4160 → Fin W → Val e) {w0 w1 w2 w3 w4 w5 w6 w7 : (⟨2, ![512, W]⟩ : Shape).Idx → Val e}
    (h0 : IsSlice val 0 w0) (h1 : IsSlice val 520 w1) (h2 : IsSlice val 1040 w2) (h3 : IsSlice val 1560 w3) (h4 : IsSlice val 2080 w4) (h5 : IsSlice val 2600 w5)
    (h6 : IsSlice val 3120 w6) (h7 : IsSlice val 3640 w7) {i0 i1 i2 i3 i4 i5 i6 i7} (L : List (View.Piece Val (⟨2, ![4176, C]⟩ : Shape) e))
    (r : Fin 4176) (c : Fin C) :
    v.read Val (v.writes Val f
      ((⟨Rect.unit (s := ⟨2, ![4176, C]⟩) ![3648, c0] ![512, W] i7, w7⟩ : View.Piece Val (⟨2, ![4176, C]⟩ : Shape) e) ::
      (⟨Rect.unit (s := ⟨2, ![4176, C]⟩) ![3128, c0] ![512, W] i6, w6⟩ : View.Piece Val (⟨2, ![4176, C]⟩ : Shape) e) ::
      (⟨Rect.unit (s := ⟨2, ![4176, C]⟩) ![2608, c0] ![512, W] i5, w5⟩ : View.Piece Val (⟨2, ![4176, C]⟩ : Shape) e) ::
      (⟨Rect.unit (s := ⟨2, ![4176, C]⟩) ![2088, c0] ![512, W] i4, w4⟩ : View.Piece Val (⟨2, ![4176, C]⟩ : Shape) e) ::
      (⟨Rect.unit (s := ⟨2, ![4176, C]⟩) ![1568, c0] ![512, W] i3, w3⟩ : View.Piece Val (⟨2, ![4176, C]⟩ : Shape) e) ::
      (⟨Rect.unit (s := ⟨2, ![4176, C]⟩) ![1048, c0] ![512, W] i2, w2⟩ : View.Piece Val (⟨2, ![4176, C]⟩ : Shape) e) ::
      (⟨Rect.unit (s := ⟨2, ![4176, C]⟩) ![528, c0] ![512, W] i1, w1⟩ : View.Piece Val (⟨2, ![4176, C]⟩ : Shape) e) ::
      (⟨Rect.unit (s := ⟨2, ![4176, C]⟩) ![8, c0] ![512, W] i0, w0⟩ : View.Piece Val (⟨2, ![4176, C]⟩ : Shape) e) :: L)) (ix2 r c)
      = if h : inBatch r.val ∧ (c0 ≤ c.val ∧ c.val < c0 + W) then val ⟨r.val - 8, by have := h.1; unfold inBatch at this; omega⟩ ⟨c.val - c0, by omega⟩
        else v.read Val (v.writes Val f L) (ix2 r c) := by
  have hb : inBatch r.val ↔ (3648 ≤ r.val ∧ r.val < 3648 + 512) ∨ (3128 ≤ r.val ∧ r.val < 3128 + 512) ∨ (2608 ≤ r.val ∧ r.val < 2608 + 512)
      ∨ (2088 ≤ r.val ∧ r.val < 2088 + 512) ∨ (1568 ≤ r.val ∧ r.val < 1568 + 512) ∨ (1048 ≤ r.val ∧ r.val < 1048 + 512)
      ∨ (528 ≤ r.val ∧ r.val < 528 + 512) ∨ (8 ≤ r.val ∧ r.val < 8 + 512) := by unfold inBatch; omega
  simp only [read_block]
  by_cases h : inBatch r.val ∧ (c0 ≤ c.val ∧ c.val < c0 + W)
  · rw [dif_pos h]
    have hc := h.2
    have hr := hb.mp h.1
    split_ifs with a7 a6 a5 a4 a3 a2 a1 a0
    · exact h7 _ _ _ (by simp only; omega)
    · exact h6 _ _ _ (by simp only; omega)
    · exact h5 _ _ _ (by simp only; omega)
    · exact h4 _ _ _ (by simp only; omega)
    · exact h3 _ _ _ (by simp only; omega)
    · exact h2 _ _ _ (by simp only; omega)
    · exact h1 _ _ _ (by simp only; omega)
    · exact h0 _ _ _ (by simp only; omega)
    · exfalso; omega
  · rw [dif_neg h]
    rw [hb] at h
    iterate 8 rw [dif_neg]
    all_goals omega

/-- The nine fills of the rows between the batches, read back. -/
theorem read_fills {C : ℕ} (v : View sig κ sp (⟨2, ![4176, C]⟩ : Shape) e) (f : v.ty.Contents Val)
    (z : Val e) {w0 w1 w2 w3 w4 w5 w6 w7 : (⟨2, ![8, C]⟩ : Shape).Idx → Val e} {w8 : (⟨2, ![16, C]⟩ : Shape).Idx → Val e}
    (h0 : ∀ x, w0 x = z) (h1 : ∀ x, w1 x = z) (h2 : ∀ x, w2 x = z) (h3 : ∀ x, w3 x = z) (h4 : ∀ x, w4 x = z) (h5 : ∀ x, w5 x = z)
    (h6 : ∀ x, w6 x = z) (h7 : ∀ x, w7 x = z) (h8 : ∀ x, w8 x = z) {i0 i1 i2 i3 i4 i5 i6 i7 i8} (L : List (View.Piece Val (⟨2, ![4176, C]⟩ : Shape) e))
    (r : Fin 4176) (c : Fin C) (hr : ¬inBatch r.val) :
    v.read Val (v.writes Val f
      ((⟨Rect.unit (s := ⟨2, ![4176, C]⟩) ![4160, 0] ![16, C] i8, w8⟩ : View.Piece Val (⟨2, ![4176, C]⟩ : Shape) e) ::
      (⟨Rect.unit (s := ⟨2, ![4176, C]⟩) ![3640, 0] ![8, C] i7, w7⟩ : View.Piece Val (⟨2, ![4176, C]⟩ : Shape) e) ::
      (⟨Rect.unit (s := ⟨2, ![4176, C]⟩) ![3120, 0] ![8, C] i6, w6⟩ : View.Piece Val (⟨2, ![4176, C]⟩ : Shape) e) ::
      (⟨Rect.unit (s := ⟨2, ![4176, C]⟩) ![2600, 0] ![8, C] i5, w5⟩ : View.Piece Val (⟨2, ![4176, C]⟩ : Shape) e) ::
      (⟨Rect.unit (s := ⟨2, ![4176, C]⟩) ![2080, 0] ![8, C] i4, w4⟩ : View.Piece Val (⟨2, ![4176, C]⟩ : Shape) e) ::
      (⟨Rect.unit (s := ⟨2, ![4176, C]⟩) ![1560, 0] ![8, C] i3, w3⟩ : View.Piece Val (⟨2, ![4176, C]⟩ : Shape) e) ::
      (⟨Rect.unit (s := ⟨2, ![4176, C]⟩) ![1040, 0] ![8, C] i2, w2⟩ : View.Piece Val (⟨2, ![4176, C]⟩ : Shape) e) ::
      (⟨Rect.unit (s := ⟨2, ![4176, C]⟩) ![520, 0] ![8, C] i1, w1⟩ : View.Piece Val (⟨2, ![4176, C]⟩ : Shape) e) ::
      (⟨Rect.unit (s := ⟨2, ![4176, C]⟩) ![0, 0] ![8, C] i0, w0⟩ : View.Piece Val (⟨2, ![4176, C]⟩ : Shape) e) :: L)) (ix2 r c) = z := by
  have hc : 0 ≤ c.val ∧ c.val < 0 + C := by have := c.isLt; omega
  simp only [read_block, h0, h1, h2, h3, h4, h5, h6, h7, h8, hc, and_true]
  split_ifs
  all_goals first | rfl | (exfalso; unfold inBatch at hr; have := r.isLt; omega)

end Cert.Rows

end
-- ==== Proof.Pay.lean ====
/- The kernel's vectors, read at an index: a work buffer's row `520 * k + t` belongs to batch `k` at step `t`, and the last 8 rows of each 520 to none. -/
module

public import Idealize.ShloMosaic.Lib.Pipeline.ValueKit
public import Idealize.ShloMosaic.Lib.MatmulPlain
public import proofs.«01_k».proof.Proof.Gen.KernelIdeal.Skeleton
public import proofs.«01_k».proof.Proof.Rows
public import proofs.«01_k».proof.Proof.Spec

@[expose] public section
set_option maxRecDepth 16384
noncomputable section
namespace Cert.Pay
open Idealize.ShloMosaic hiding ix0 ix1 ix2 ix3 ix4
open Idealize.ShloMosaic.ValueIdx
open Cert.Spec Cert.Rows Cert.KernelIdeal Cert.KernelIdeal.Gen
variable [Cert.KernelIdeal.Facts]

/-- The row of batch `k` at step `t`. -/
def row (k : Fin 8) (t : Fin 512) : Fin 4160 := ⟨520 * k.val + t.val, by omega⟩

/-- A value of 4160 rows holds `h` at the batches' rows. -/
def Agree {C : ℕ} (P : (⟨2, ![4160, C]⟩ : Shape).Idx → EReal) (h : Fin 8 → Fin C → Fin 512 → EReal) : Prop := ∀ k t c, P (ix2 (row k t) c) = h k c t

/-- A window of a padded buffer that starts `d` rows behind its first. -/
def Win {C : ℕ} (P : (⟨2, ![4160, C]⟩ : Shape).Idx → EReal) (d : ℕ) (h : Fin 8 → Fin C → Fin 512 → EReal) : Prop :=
  ∀ k t c, P (ix2 (row k t) c) = rd (h k c) (t.val + d)

/-- A padded buffer: each batch's rows with a zero row before and a zero row behind. -/
def Padded {C : ℕ} (P : (⟨2, ![4176, C]⟩ : Shape).Idx → EReal) (h : Fin 8 → Fin C → Fin 512 → EReal) : Prop :=
  ∀ (k : Fin 8) (j : Fin 514) c, P (ix2 ⟨520 * k.val + 7 + j.val, by omega⟩ c) = rd (h k c) j.val

/-- The rows of no batch are zero. -/
def Gap {C : ℕ} (P : (⟨2, ![4176, C]⟩ : Shape).Idx → EReal) : Prop := ∀ r c, ¬inBatch r.val → P (ix2 r c) = 0

theorem padded_of {C : ℕ} {P : (⟨2, ![4176, C]⟩ : Shape).Idx → EReal} {h : Fin 8 → Fin C → Fin 512 → EReal} (hz : Gap P)
    (hb : ∀ k t c (hr : 520 * k.val + 8 + t.val < 4176), P (ix2 ⟨520 * k.val + 8 + t.val, hr⟩ c) = h k c t) : Padded P h := by
  intro k j c
  unfold rd
  split_ifs with hj
  · rw [← hb k ⟨j.val - 1, hj.2⟩ c (by simp only; omega)]
    congr 2
    apply Fin.ext; simp only; omega
  · refine hz _ _ ?_
    unfold inBatch; simp only; omega

/-- A buffer of three lanes of positions. -/
def laneX (x : Fin 1 → Fin 2048 → EReal) : Fin 4 → Fin 512 → EReal := fun q s => x 0 ⟨4 * s.val + q.val, by omega⟩
def lane2 (h : Fin 128 → Fin 1024 → EReal) : Fin 256 → Fin 512 → EReal := fun c s => h ⟨c.val % 128, by omega⟩ ⟨2 * s.val + c.val / 128, by omega⟩
def lane4 (h : Fin 128 → Fin 2048 → EReal) : Fin 512 → Fin 512 → EReal := fun c s => h ⟨c.val % 128, by omega⟩ ⟨4 * s.val + c.val / 128, by omega⟩

theorem rd_lane {T T' : ℕ} (m q : ℕ) (hq : q < m) (hT : T' = m * T) (f : Fin T' → EReal) (g : Fin T → EReal)
    (hg : ∀ s (h : m * s.val + q < T'), g s = f ⟨m * s.val + q, h⟩) (j : ℕ) : rd g (j + 1) = rd f (m * j + q + 1) := by
  subst hT
  have key : j < T ↔ m * j + q < m * T := by
    constructor
    · intro h
      calc m * j + q < m * j + m := by omega
        _ = m * (j + 1) := by ring
        _ ≤ m * T := Nat.mul_le_mul_left m h
    · intro h
      by_contra hn
      have := Nat.mul_le_mul_left m (not_lt.mp hn)
      omega
  unfold rd
  by_cases h : j < T
  · have h' := key.mp h
    rw [dif_pos ⟨by omega, by omega⟩, dif_pos ⟨by omega, by omega⟩, hg _ (by simp only; simpa using h')]
    congr 1
  · have h' := mt key.mpr h
    rw [dif_neg (by omega), dif_neg (by omega)]

theorem rd_last {T T' : ℕ} (m : ℕ) (hm : 0 < m) (hT : T' = m * T) (f : Fin T' → EReal) (g : Fin T → EReal)
    (hg : ∀ s (h : m * s.val + (m - 1) < T'), g s = f ⟨m * s.val + (m - 1), h⟩) (j : ℕ) : rd g j = rd f (m * j) := by
  cases j with
  | zero => simp [rd]
  | succ j =>
    rw [rd_lane m (m - 1) (by omega) hT f g hg j]
    congr 1
    have : m * (j + 1) = m * j + m := by ring
    omega

theorem ext2 {A B : ℕ} (h : Fin A → Fin B → EReal) {a c : Fin A} {b d : Fin B} (e : a.val = c.val) (e' : b.val = d.val) : h a b = h c d := by
  rw [Fin.ext e, Fin.ext e']
theorem rd_x (x : Fin 1 → Fin 2048 → EReal) (q : Fin 4) (t : ℕ) : rd (laneX x q) (t + 1) = rd (x 0) (4 * t + q.val + 1) :=
  rd_lane (T := 512) 4 q.val q.isLt rfl (x 0) (laneX x q) (fun _ _ => rfl) t
theorem rd_x3 (x : Fin 1 → Fin 2048 → EReal) (t : ℕ) : rd (laneX x 3) t = rd (x 0) (4 * t) :=
  rd_last (T := 512) 4 (by decide) rfl (x 0) (laneX x 3) (fun _ _ => rfl) t
theorem rd_2a (h : Fin 128 → Fin 1024 → EReal) (i : Fin 128) (hi : i.val < 256) (t : ℕ) : rd (lane2 h ⟨i.val, hi⟩) (t + 1) = rd (h i) (2 * t + 1) :=
  rd_lane (T := 512) 2 0 (by decide) rfl (h i) (lane2 h ⟨i.val, hi⟩) (fun s _ => ext2 h (by dsimp only; omega) (by dsimp only; omega)) t
theorem rd_2b (h : Fin 128 → Fin 1024 → EReal) (i : Fin 128) (hi : 128 + i.val < 256) (t : ℕ) : rd (lane2 h ⟨128 + i.val, hi⟩) t = rd (h i) (2 * t) :=
  rd_last (T := 512) 2 (by decide) rfl (h i) (lane2 h ⟨128 + i.val, hi⟩) (fun s _ => ext2 h (by dsimp only; omega) (by dsimp only; omega)) t
theorem rd_4 (h : Fin 128 → Fin 2048 → EReal) (q : ℕ) (hq : q < 4) (i : Fin 128) (c : Fin 512) (hc : c.val = 128 * q + i.val) (t : ℕ) : rd (lane4 h c) (t + 1) = rd (h i) (4 * t + q + 1) :=
  rd_lane (T := 512) 4 q hq rfl (h i) (lane4 h c) (fun s _ => ext2 h (by dsimp only; omega) (by dsimp only; omega)) t
theorem rd_4d (h : Fin 128 → Fin 2048 → EReal) (i : Fin 128) (c : Fin 512) (hc : c.val = 384 + i.val) (t : ℕ) : rd (lane4 h c) t = rd (h i) (4 * t) :=
  rd_last (T := 512) 4 (by decide) rfl (h i) (lane4 h c) (fun s _ => ext2 h (by dsimp only; omega) (by dsimp only; omega)) t

theorem sum256 (f : Fin 256 → EReal) : ∑ i, f i = (∑ i : Fin 128, f ⟨i.val, by omega⟩) + ∑ i : Fin 128, f ⟨128 + i.val, by omega⟩ := Fin.sum_univ_add (a := 128) (b := 128) f

theorem sum512 (f : Fin 512 → EReal) : ∑ i, f i = (∑ i : Fin 128, f ⟨i.val, by omega⟩) + (∑ i : Fin 128, f ⟨128 + i.val, by omega⟩)
    + (∑ i : Fin 128, f ⟨256 + i.val, by omega⟩) + ∑ i : Fin 128, f ⟨384 + i.val, by omega⟩ := by
  rw [Fin.sum_univ_add (a := 384) (b := 128) f, Fin.sum_univ_add (a := 256) (b := 128), sum256]
  rfl

/-- A product's sum as a tap. -/
theorem sum_tap {n T : ℕ} (a b w : Fin n → EReal) (h : Fin n → Fin T → EReal) (j : ℕ) (ha : ∀ i, a i = rd (h i) j) (hb : ∀ i, b i = w i) :
    ∑ i, a i * b i = tap w h j := Finset.sum_congr rfl fun i _ => by rw [ha, hb, mul_comm]

section Encoder
variable {H1 : Fin 8 → Fin 128 → Fin 1024 → EReal} {X : Fin 8 → Fin 1 → Fin 2048 → EReal}

/-- The first layer, two positions a row. -/
theorem st_h1 {w : Fin 128 → Fin 1 → Fin 4 → EReal} {b : Fin 128 → EReal} {v43 v44 v45 v47 v50} (h43 : ∀ k t, v43 (ix2 (row k t) 0) = rd (laneX (X k) 3) (t.val + 0))
    (h44 : Win v44 1 (fun k => laneX (X k))) (h45 : ∀ k t, v45 (ix2 (row k t) 0) = rd (laneX (X k) 0) (t.val + 2))
    (h47 : ∀ o, v47 (ix2 0 o) = b o) (h50 : ∀ (j : Fin 6) (c : Fin 256), v50 (ix2 j c) = if h : c.val < 128 then (if h' : j.val < 4 then w ⟨c.val, h⟩ 0 ⟨j.val, h'⟩ else 0)
      else if j.val < 2 then 0 else if h' : j.val - 2 < 4 then w ⟨c.val - 128, by omega⟩ 0 ⟨j.val - 2, h'⟩ else 0) :
    Agree (k0_pay127 (F := Ideal) v43 v44 v45 v47 v50) fun k => lane2 fun o p => max (conv4 w b (X k) o p) 0 := by
  intro k t c
  have e : k0_pay127 (F := Ideal) v43 v44 v45 v47 v50 (ix2 (row k t) c) = max ((∑ j : Fin 6, (if h : j.val < 1 then v43 (ix2 (row k t) ⟨j.val, h⟩) else if h : j.val - 1 < 4 then v44 (ix2 (row k t) ⟨j.val - 1, h⟩) else v45 (ix2 (row k t) ⟨j.val - 1 - 4, by omega⟩)) * v50 (ix2 j c))
      + if h : c.val < 128 then v47 (ix2 0 ⟨c.val, h⟩) else v47 (ix2 0 ⟨c.val - 128, by omega⟩)) 0 := by
    pointwise [k0_pay127]
    rfl
  have g : ∀ j : Fin 6, (if h : j.val < 1 then v43 (ix2 (row k t) ⟨j.val, h⟩) else if h : j.val - 1 < 4 then v44 (ix2 (row k t) ⟨j.val - 1, h⟩) else v45 (ix2 (row k t) ⟨j.val - 1 - 4, by omega⟩)) = rd (X k 0) (j.val + 4 * t.val) := by
    have h4 : ∀ q : Fin 4, v44 (ix2 (row k t) q) = rd (X k 0) (q.val + 1 + 4 * t.val) := fun q => by
      rw [h44 k t q, rd_x]; congr 1; omega
    have h5 : v45 (ix2 (row k t) 0) = rd (X k 0) (5 + 4 * t.val) := by
      rw [h45 k t, rd_x (X k) 0 (t.val + 1)]; congr 1; show 4 * (t.val + 1) + 0 + 1 = _; omega
    have h3 : v43 (ix2 (row k t) 0) = rd (X k 0) (0 + 4 * t.val) := by
      rw [h43 k t, rd_x3]; congr 1; omega
    intro j
    match j with
    | ⟨0, _⟩ => exact h3
    | ⟨1, _⟩ => exact h4 0
    | ⟨2, _⟩ => exact h4 1
    | ⟨3, _⟩ => exact h4 2
    | ⟨4, _⟩ => exact h4 3
    | ⟨5, _⟩ => exact h5
  rw [e]
  simp only [g, h50]
  unfold lane2
  by_cases hc : c.val < 128
  · have e1 : (⟨c.val % 128, by omega⟩ : Fin 128) = ⟨c.val, hc⟩ := Fin.ext (Nat.mod_eq_of_lt hc)
    rw [e1]
    simp only [dif_pos hc, h47, conv4, tap, Fin.sum_univ_one, Fin.sum_univ_six]
    congr 2
    simp only [show ((0 : Fin 6).val < 4) from by decide, show ((1 : Fin 6).val < 4) from by decide, show ((2 : Fin 6).val < 4) from by decide, show ((3 : Fin 6).val < 4) from by decide,
      show ¬((4 : Fin 6).val < 4) from by decide, show ¬((5 : Fin 6).val < 4) from by decide, dite_true, dite_false, mul_zero, add_zero]
    have a : ∀ j : ℕ, j + 2 * (2 * t.val + c.val / 128) = j + 4 * t.val := fun j => by omega
    simp only [a, mul_comm (rd _ _) _]
    rfl
  · have e1 : (⟨c.val % 128, by omega⟩ : Fin 128) = ⟨c.val - 128, by omega⟩ := Fin.ext (by simp only; omega)
    rw [e1]
    simp only [dif_neg hc, h47, conv4, tap, Fin.sum_univ_one, Fin.sum_univ_six]
    congr 2
    simp only [show ((0 : Fin 6).val < 2) from by decide, show ((1 : Fin 6).val < 2) from by decide, show ¬((2 : Fin 6).val < 2) from by decide, show ¬((3 : Fin 6).val < 2) from by decide,
      show ¬((4 : Fin 6).val < 2) from by decide, show ¬((5 : Fin 6).val < 2) from by decide, show ((2 : Fin 6).val - 2 < 4) from by decide, show ((3 : Fin 6).val - 2 < 4) from by decide,
      show ((4 : Fin 6).val - 2 < 4) from by decide, show ((5 : Fin 6).val - 2 < 4) from by decide, if_true, if_false, dite_true, mul_zero, zero_add]
    have a : ∀ j : ℕ, j + 2 * (2 * t.val + c.val / 128) = (j + 2) + 4 * t.val := fun j => by omega
    have a0 : 2 * (2 * t.val + c.val / 128) = 2 + 4 * t.val := by omega
    simp only [a0, ← add_assoc, mul_comm (rd _ _) _]
    rfl

/-- The second layer. -/
theorem st_h2 {w : Fin 128 → Fin 128 → Fin 4 → EReal} {b : Fin 128 → EReal} {v88 v89 v91 v92 v95 v96 v99}
    (h88 : ∀ k t (i : Fin 128), v88 (ix2 (row k t) i) = rd (lane2 (H1 k) ⟨128 + i.val, by omega⟩) (t.val + 0)) (h91 : Win v91 1 (fun k => lane2 (H1 k)))
    (h95 : ∀ k t (i : Fin 128), v95 (ix2 (row k t) i) = rd (lane2 (H1 k) ⟨i.val, by omega⟩) (t.val + 2))
    (h89 : ∀ i o, v89 (ix2 i o) = w o i 0) (h92a : ∀ (i : Fin 128) o, v92 (ix2 ⟨i.val, by omega⟩ o) = w o i 1) (h92b : ∀ (i : Fin 128) o, v92 (ix2 ⟨128 + i.val, by omega⟩ o) = w o i 2)
    (h96 : ∀ i o, v96 (ix2 i o) = w o i 3) (h99 : ∀ o, v99 (ix2 0 o) = b o) :
    Agree (k0_pay136 (F := Ideal) v88 v89 v91 v92 v95 v96 v99) fun k o t => max (conv4 w b (H1 k) o t) 0 := by
  intro k t o
  have e : k0_pay136 (F := Ideal) v88 v89 v91 v92 v95 v96 v99 (ix2 (row k t) o) = max ((∑ i : Fin 128, v88 (ix2 (row k t) i) * v89 (ix2 i o)) + (∑ i : Fin 256, v91 (ix2 (row k t) i) * v92 (ix2 i o))
      + (∑ i : Fin 128, v95 (ix2 (row k t) i) * v96 (ix2 i o)) + v99 (ix2 0 o)) 0 := by
    pointwise [k0_pay136]
    rfl
  rw [e, sum256]
  rw [sum_tap _ _ (fun i => w o i 0) (H1 k) (0 + 2 * t.val) (fun i => by rw [h88, rd_2b]; congr 1; omega) (fun i => h89 i o)]
  rw [sum_tap _ _ (fun i => w o i 1) (H1 k) (1 + 2 * t.val) (fun i => by rw [h91 k t, rd_2a]; congr 1; omega) (fun i => h92a i o)]
  rw [sum_tap _ _ (fun i => w o i 2) (H1 k) (2 + 2 * t.val) (fun i => by rw [h91 k t, rd_2b]; congr 1; omega) (fun i => h92b i o)]
  rw [sum_tap _ _ (fun i => w o i 3) (H1 k) (3 + 2 * t.val) (fun i => by rw [h95, rd_2a (H1 k) i _ (t.val + 1)]; congr 1; omega) (fun i => h96 i o)]
  rw [h99]
  unfold conv4
  congr 1
  simp only [add_assoc]

/-- Three taps. -/
theorem taps3 {H : Fin 8 → Fin 128 → Fin 512 → EReal} {w : Fin 128 → Fin 128 → Fin 3 → EReal} {b : Fin 128 → EReal} {p0 p1 p2 : (⟨2, ![4160, 128]⟩ : Shape).Idx → EReal}
    {w0 w1 w2 : (⟨2, ![128, 128]⟩ : Shape).Idx → EReal} {bb : (⟨2, ![1, 128]⟩ : Shape).Idx → EReal}
    (h0 : Win p0 0 H) (h1 : Win p1 1 H) (h2 : Win p2 2 H) (g0 : ∀ i o, w0 (ix2 i o) = w o i 0) (g1 : ∀ i o, w1 (ix2 i o) = w o i 1) (g2 : ∀ i o, w2 (ix2 i o) = w o i 2)
    (gb : ∀ o, bb (ix2 0 o) = b o) (k : Fin 8) (t : Fin 512) (o : Fin 128) :
    (∑ i : Fin 128, p0 (ix2 (row k t) i) * w0 (ix2 i o)) + (∑ i : Fin 128, p1 (ix2 (row k t) i) * w1 (ix2 i o))
      + (∑ i : Fin 128, p2 (ix2 (row k t) i) * w2 (ix2 i o)) + bb (ix2 0 o) = conv3 w b (H k) o t := by
  rw [sum_tap _ _ (fun i => w o i 0) (H k) (0 + t.val) (fun i => by rw [h0 k t]; congr 1; omega) (fun i => g0 i o)]
  rw [sum_tap _ _ (fun i => w o i 1) (H k) (1 + t.val) (fun i => by rw [h1 k t]; congr 1; omega) (fun i => g1 i o)]
  rw [sum_tap _ _ (fun i => w o i 2) (H k) (2 + t.val) (fun i => by rw [h2 k t]; congr 1; omega) (fun i => g2 i o)]
  rw [gb]
  rfl

variable {H : Fin 8 → Fin 128 → Fin 512 → EReal} {w : Fin 128 → Fin 128 → Fin 3 → EReal} {b : Fin 128 → EReal}

/-- The third layer. -/
theorem st_z {p0 w0 p1 w1 p2 w2 bb} (h0 : Win p0 0 H) (h1 : Win p1 1 H) (h2 : Win p2 2 H) (g0 : ∀ i o, w0 (ix2 i o) = w o i 0) (g1 : ∀ i o, w1 (ix2 i o) = w o i 1)
    (g2 : ∀ i o, w2 (ix2 i o) = w o i 2) (gb : ∀ o, bb (ix2 0 o) = b o) :
    Agree (k0_pay146 (F := Ideal) p0 w0 p1 w1 p2 w2 bb) fun k o t => conv3 w b (H k) o t := by
  intro k t o
  beta_reduce
  rw [← taps3 h0 h1 h2 g0 g1 g2 gb k t o]
  pointwise [k0_pay146]
  rfl

/-- The decoder's first layer. -/
theorem st_u {p0 w0 p1 w1 p2 w2 bb} (h0 : Win p0 0 H) (h1 : Win p1 1 H) (h2 : Win p2 2 H) (g0 : ∀ i o, w0 (ix2 i o) = w o i 0) (g1 : ∀ i o, w1 (ix2 i o) = w o i 1)
    (g2 : ∀ i o, w2 (ix2 i o) = w o i 2) (gb : ∀ o, bb (ix2 0 o) = b o) :
    Agree (k0_pay167 (F := Ideal) p0 w0 p1 w1 p2 w2 bb) fun k o t => max (conv3 w b (H k) o t) 0 := by
  intro k t o
  beta_reduce
  rw [← taps3 h0 h1 h2 g0 g1 g2 gb k t o]
  pointwise [k0_pay167]
  rfl
end Encoder

section Quantize

theorem minsi_fold {ι : Type} [DecidableEq ι] (b : BitVec 32) (g : ι → BitVec 32) (S : Finset ι) :
    (∀ x ∈ S, (S.fold IntOp.minsi b g).toInt ≤ (g x).toInt) ∧ (S.fold IntOp.minsi b g).toInt ≤ b.toInt ∧ (S.fold IntOp.minsi b g = b ∨ ∃ x ∈ S, S.fold IntOp.minsi b g = g x) := by
  induction S using Finset.induction_on with
  | empty => exact ⟨by simp, le_refl _, Or.inl rfl⟩
  | insert a S ha ih =>
    obtain ⟨h1, h2, h3⟩ := ih
    rw [Finset.fold_insert ha]
    have hm : ∀ x y : BitVec 32, IntOp.minsi x y = if x.toInt < y.toInt then x else y := fun x y => by
      unfold IntOp.minsi
      simp only [BitVec.slt, decide_eq_true_eq]
    rw [hm]
    split_ifs with h
    · refine ⟨fun x hx => ?_, by omega, Or.inr ⟨a, Finset.mem_insert_self _ _, rfl⟩⟩
      rcases Finset.mem_insert.mp hx with rfl | hx
      · exact le_refl _
      · exact h.le.trans (h1 x hx)
    · refine ⟨fun x hx => ?_, h2, h3.imp id fun ⟨x, hx, e⟩ => ⟨x, Finset.mem_insert_of_mem hx, e⟩⟩
      rcases Finset.mem_insert.mp hx with rfl | hx
      · omega
      · exact h1 x hx

theorem inf_word : Ideal.ofBits .f32 0x7F800000#32 = ⊤ := by simp [Ideal.ofBits, Ideal.ieee]

/-- The least value of a row. -/
theorem fold_min (D : Fin 512 → EReal) : Finset.fold min (Ideal.ofBits .f32 0x7F800000#32) D Finset.univ = D (code D) := by
  have hc := code_spec D
  rw [inf_word]
  apply le_antisymm
  · exact (Finset.fold_min_le _).mpr (Or.inr ⟨_, Finset.mem_univ _, le_refl _⟩)
  · exact (Finset.le_fold_min _).mpr ⟨le_top, fun x _ => hc.1 x⟩

theorem toInt_small (x : ℕ) (h : x ≤ 512) : (BitVec.ofNat 32 x).toInt = x := by
  rw [BitVec.toInt_eq_toNat_of_lt]
  · rw [BitVec.toNat_ofNat]; omega
  · rw [BitVec.toNat_ofNat]; omega

/-- The first place of the least value, as the kernel finds it. -/
theorem fold_code (D : Fin 512 → EReal) : Finset.fold IntOp.minsi 2147483647#32 (fun x : Fin 512 => if D x ≤ D (code D) then BitVec.ofNat 32 x.val else 512#32) Finset.univ
    = BitVec.ofNat 32 (code D).val := by
  have hc := code_spec D
  obtain ⟨h1, -, h3⟩ := minsi_fold 2147483647#32 (fun x : Fin 512 => if D x ≤ D (code D) then BitVec.ofNat 32 x.val else 512#32) Finset.univ
  have hk := h1 (code D) (Finset.mem_univ _)
  apply BitVec.eq_of_toInt_eq
  simp only [le_refl, if_true] at hk
  rw [toInt_small _ (by omega)] at hk ⊢
  apply le_antisymm hk
  rcases h3 with h | ⟨x, -, h⟩
  · rw [h]
    have e : (2147483647#32).toInt = 2147483647 := by decide
    rw [e]; omega
  · rw [h]
    split_ifs with hx
    · rw [toInt_small _ (by omega)]
      by_contra hlt
      exact absurd (hc.2 x (by rw [Fin.lt_def]; omega)) (not_lt.mpr hx)
    · have e : (512#32).toInt = 512 := by decide
      rw [e]; omega

/-- The row of the codebook that a row takes. -/
def rowCode (a : (⟨2, ![4160, 128]⟩ : Shape).Idx → EReal) (b : (⟨2, ![128, 512]⟩ : Shape).Idx → EReal) (d : (⟨2, ![1, 512]⟩ : Shape).Idx → EReal) (r : Fin 4160) : Fin 512 :=
  code fun k => (∑ i : Fin 128, a (ix2 r i) * b (ix2 i k)) + d (ix2 0 k)

/-- A bit as a number. -/
theorem bit_val (p : Bool) : FloatOps.sitofp (F := Ideal) .f32 (BitVec.setWidth 32 (BitVec.ofBool p)) = if p = true then (1 : EReal) else 0 := by
  have e1 : (BitVec.setWidth 32 (BitVec.ofBool true)).toInt = 1 := by decide
  have e0 : (BitVec.setWidth 32 (BitVec.ofBool false)).toInt = 0 := by decide
  cases p
  · show (((BitVec.setWidth 32 (BitVec.ofBool false)).toInt : ℝ) : EReal) = _
    rw [e0]; simp
  · show (((BitVec.setWidth 32 (BitVec.ofBool true)).toInt : ℝ) : EReal) = _
    rw [e1]; simp

theorem onehot (a b d) (r : Fin 4160) (k : Fin 512) : k0_pay147 (F := Ideal) a b d (ix2 r k) = if rowCode a b d r = k then 1 else 0 := by
  have e : k0_pay147 (F := Ideal) a b d (ix2 r k) = FloatOps.sitofp (F := Ideal) .f32 (BitVec.setWidth 32 (IntOp.cmpi CmpIPredicate.eq (BitVec.ofNat 32 k.val)
      (Finset.fold IntOp.minsi (2147483647#32) (fun x : Fin 512 => if (∑ i : Fin 128, a (ix2 r i) * b (ix2 i x)) + d (ix2 0 x) ≤
        Finset.fold min (Ideal.ofBits FTy.f32 0x7F800000#32) (fun x : Fin 512 => (∑ i : Fin 128, a (ix2 r i) * b (ix2 i x)) + d (ix2 0 x)) Finset.univ
        then BitVec.ofNat 32 x.val else 512#32) Finset.univ))) := by
    pointwise [k0_pay147]
    rfl
  rw [e, fold_min]
  have := fold_code fun k => (∑ i : Fin 128, a (ix2 r i) * b (ix2 i k)) + d (ix2 0 k)
  rw [this]
  change FloatOps.sitofp (F := Ideal) .f32 (BitVec.setWidth 32 (IntOp.cmpi CmpIPredicate.eq (BitVec.ofNat 32 k.val) (BitVec.ofNat 32 (rowCode a b d r).val))) = _
  have hk : ∀ x y : Fin 512, BitVec.ofNat 32 x.val = BitVec.ofNat 32 y.val ↔ x = y := fun x y => by
    constructor
    · intro h
      have := congrArg BitVec.toNat h
      rw [BitVec.toNat_ofNat, BitVec.toNat_ofNat] at this
      apply Fin.ext; omega
    · intro h; rw [h]
  show FloatOps.sitofp (F := Ideal) .f32 (BitVec.setWidth 32 (BitVec.ofBool (BitVec.ofNat 32 k.val == BitVec.ofNat 32 (rowCode a b d r).val))) = _
  simp only [bit_val, beq_iff_eq, hk]
  by_cases h : k = rowCode a b d r
  · rw [if_pos h, if_pos h.symm]
  · rw [if_neg h, if_neg (Ne.symm h)]

/-- The rows taken. -/
theorem st_q {a b d cb} {C : Fin 512 → Fin 128 → EReal} (hcb : ∀ k i, cb (ix2 k i) = C k i) (r : Fin 4160) (i : Fin 128) :
    k0_pay148 (F := Ideal) a cb b d (ix2 r i) = C (rowCode a b d r) i := by
  have e : k0_pay148 (F := Ideal) a cb b d (ix2 r i) = ∑ k : Fin 512, k0_pay147 a b d (ix2 r k) * cb (ix2 k i) := by
    pointwise [k0_pay148]
    rfl
  rw [e]
  simp only [onehot, hcb, ite_mul, one_mul, zero_mul]
  rw [Finset.sum_ite_eq Finset.univ (rowCode a b d r) (fun k => C k i), if_pos (Finset.mem_univ _)]

theorem two_word : Ideal.ofBits .f32 0xC0000000#32 = ((-2 : ℝ) : EReal) := by
  simp [Ideal.ofBits, Ideal.ieee]
  rw [← EReal.coe_mul]
  norm_num

/-- … is the nearest one, at a batch's row. -/
theorem rowCode_eq {a : (⟨2, ![4160, 128]⟩ : Shape).Idx → EReal} {b : (⟨2, ![128, 512]⟩ : Shape).Idx → EReal} {d : (⟨2, ![1, 512]⟩ : Shape).Idx → EReal} {Z : Fin 8 → Fin 128 → Fin 512 → EReal} {C : Fin 512 → Fin 128 → EReal}
    (ha : Agree a Z) (hb : ∀ i k, b (ix2 i k) = ((-2 : ℝ) : EReal) * C k i) (hd : ∀ k, d (ix2 0 k) = ∑ i, C k i * C k i) (k : Fin 8) (t : Fin 512) :
    rowCode a b d (row k t) = code (dist (fun i => Z k i t) C) := by
  unfold rowCode
  congr 1
  funext j
  rw [hd]
  unfold Spec.dist
  congr 1
  exact Finset.sum_congr rfl fun i _ => by rw [ha, hb]

/-- A sum over the rows: the batches' rows and the others. -/
theorem sum_rows {M : Type} [AddCommMonoid M] (f : Fin 4160 → M) : ∑ r, f r = (∑ k : Fin 8, ∑ t : Fin 512, f (row k t)) + ∑ k : Fin 8, ∑ x : Fin 8, f ⟨520 * k.val + 512 + x.val, by omega⟩ := by
  have e : ∑ r, f r = ∑ k : Fin 8, ∑ j : Fin 520, f ⟨520 * k.val + j.val, by omega⟩ := by
    rw [← Finset.sum_product' (f := fun (k : Fin 8) (j : Fin 520) => f ⟨520 * k.val + j.val, by omega⟩)]
    refine (Fintype.sum_equiv (finProdFinEquiv (m := 8) (n := 520)) _ _ fun x => ?_).symm
    congr 1
    apply Fin.ext
    simp [finProdFinEquiv]; ring
  rw [e, ← Finset.sum_add_distrib]
  exact Finset.sum_congr rfl fun k _ => Fin.sum_univ_add (a := 512) (b := 8) (fun j => f ⟨520 * k.val + j.val, by omega⟩)

/-- How often each row is taken by the batches: the count over every row less the others'. -/
theorem st_count (a b d) (k : Fin 512) :
    k0_pay151 (F := Ideal) (k0_pay147 a b d) (k0_pay149 a b d) (k0_pay150 a b d) (ix2 0 k) = ∑ i : Fin 8, ∑ t : Fin 512, if rowCode a b d (row i t) = k then 1 else 0 := by
  have e : k0_pay151 (F := Ideal) (k0_pay147 a b d) (k0_pay149 a b d) (k0_pay150 a b d) (ix2 0 k) = (∑ r : Fin 4160, k0_pay147 a b d (ix2 r k)) - (∑ x : Fin 8, k0_pay147 a b d (ix2 ⟨512 + x.val, by omega⟩ k))
      - (∑ x : Fin 8, k0_pay147 a b d (ix2 ⟨1032 + x.val, by omega⟩ k)) - (∑ x : Fin 8, k0_pay147 a b d (ix2 ⟨1552 + x.val, by omega⟩ k)) - (∑ x : Fin 8, k0_pay147 a b d (ix2 ⟨2072 + x.val, by omega⟩ k))
      - (∑ x : Fin 8, k0_pay147 a b d (ix2 ⟨2592 + x.val, by omega⟩ k)) - (∑ x : Fin 8, k0_pay147 a b d (ix2 ⟨3112 + x.val, by omega⟩ k)) - (∑ x : Fin 8, k0_pay147 a b d (ix2 ⟨3632 + x.val, by omega⟩ k))
      - (∑ x : Fin 8, k0_pay147 a b d (ix2 ⟨4152 + x.val, by omega⟩ k)) := by
    pointwise [k0_pay151, k0_pay149, k0_pay150]
    rfl
  have hc : ∀ r, k0_pay147 (F := Ideal) a b d (ix2 r k) = (((if rowCode a b d r = k then 1 else 0 : ℝ)) : EReal) := fun r => by
    rw [onehot]; split_ifs <;> simp
  have hr : ∀ (i : Fin 8) (t : Fin 512), (if rowCode a b d (row i t) = k then (1 : EReal) else 0) = (((if rowCode a b d (row i t) = k then 1 else 0 : ℝ)) : EReal) := fun i t => by
    split_ifs <;> simp
  rw [e, sum_rows]
  simp only [hc, hr]
  have hsum : ∀ {n : ℕ} (g : Fin n → ℝ), ∑ i, ((g i : ℝ) : EReal) = ((∑ i, g i : ℝ) : EReal) := fun g => by
    induction (Finset.univ : Finset (Fin _)) using Finset.induction_on with
    | empty => simp
    | insert a s ha ih => rw [Finset.sum_insert ha, Finset.sum_insert ha, ih, EReal.coe_add]
  obtain ⟨f, hf⟩ : ∃ f : Fin 4160 → ℝ, ∀ r, (if rowCode a b d r = k then (1 : ℝ) else 0) = f r := ⟨_, fun _ => rfl⟩
  simp only [hf]
  simp only [hsum, ← EReal.coe_add, ← EReal.coe_sub]
  congr 1
  have h8 : ∑ k : Fin 8, ∑ x : Fin 8, f ⟨520 * k.val + 512 + x.val, by omega⟩ = (∑ x : Fin 8, f ⟨512 + x.val, by omega⟩) + (∑ x : Fin 8, f ⟨1032 + x.val, by omega⟩) + (∑ x : Fin 8, f ⟨1552 + x.val, by omega⟩)
      + (∑ x : Fin 8, f ⟨2072 + x.val, by omega⟩) + (∑ x : Fin 8, f ⟨2592 + x.val, by omega⟩) + (∑ x : Fin 8, f ⟨3112 + x.val, by omega⟩) + (∑ x : Fin 8, f ⟨3632 + x.val, by omega⟩)
      + (∑ x : Fin 8, f ⟨4152 + x.val, by omega⟩) := by
    rw [Fin.sum_univ_eight]
    rfl
  rw [h8]
  ring

theorem sge_nat (x c : ℕ) (hx : x < 5000) (hc : c < 5000) : IntOp.cmpi CmpIPredicate.sge (BitVec.ofNat 32 x) (BitVec.ofNat 32 c) = BitVec.ofBool (decide (c ≤ x)) := by
  have t : ∀ n : ℕ, n < 5000 → (BitVec.ofNat 32 n).toInt = n := fun n h => by
    rw [BitVec.toInt_eq_toNat_of_lt] <;> rw [BitVec.toNat_ofNat] <;> omega
  unfold IntOp.cmpi
  simp only [BitVec.sle, t x hx, t c hc, Nat.cast_le]

theorem slt_nat (x c : ℕ) (hx : x < 5000) (hc : c < 5000) : IntOp.cmpi CmpIPredicate.slt (BitVec.ofNat 32 x) (BitVec.ofNat 32 c) = BitVec.ofBool (decide (x < c)) := by
  have t : ∀ n : ℕ, n < 5000 → (BitVec.ofNat 32 n).toInt = n := fun n h => by
    rw [BitVec.toInt_eq_toNat_of_lt] <;> rw [BitVec.toNat_ofNat] <;> omega
  unfold IntOp.cmpi
  simp only [BitVec.slt, t x hx, t c hc, Nat.cast_lt]

theorem and_bit (p q : Bool) : IntOp.andi (BitVec.ofBool p) (BitVec.ofBool q) = BitVec.ofBool (p && q) := by cases p <;> cases q <;> rfl
theorem not_bit (p : Bool) : IntOp.xori (BitVec.ofBool p) 1#1 = BitVec.ofBool (!p) := by cases p <;> rfl
theorem one_bit (p : Bool) : IntOp.andi 1#1 (BitVec.ofBool p) = BitVec.ofBool p := by cases p <;> rfl

/-- The squared distances of the batches' rows to the rows taken. -/
theorem st_sq (z q) : k0_pay154 (F := Ideal) z q (iota .tc S4160x1 32 [0] iota_S4160x1_d0_w32) k0_pay152 k0_pay153 2600#32 (ix2 0 0)
    = ∑ k : Fin 8, ∑ t : Fin 512, ∑ i : Fin 128, (z (ix2 (row k t) i) - q (ix2 (row k t) i)) * (z (ix2 (row k t) i) - q (ix2 (row k t) i)) := by
  have hm : ∀ x : Fin 4160, IntOp.andi (IntOp.andi (IntOp.andi (IntOp.andi (k0_pay152 (ix2 x 0)) (IntOp.xori (IntOp.andi (k0_pay153 (ix2 x 0)) (IntOp.cmpi CmpIPredicate.slt (BitVec.ofNat 32 x.val) 2600#32)) 1#1))
      (IntOp.xori (IntOp.andi (IntOp.cmpi CmpIPredicate.sge (BitVec.ofNat 32 x.val) 3112#32) (IntOp.cmpi CmpIPredicate.slt (BitVec.ofNat 32 x.val) 3120#32)) 1#1))
      (IntOp.xori (IntOp.andi (IntOp.cmpi CmpIPredicate.sge (BitVec.ofNat 32 x.val) 3632#32) (IntOp.cmpi CmpIPredicate.slt (BitVec.ofNat 32 x.val) 3640#32)) 1#1))
      (IntOp.xori (IntOp.andi (IntOp.cmpi CmpIPredicate.sge (BitVec.ofNat 32 x.val) 4152#32) (IntOp.cmpi CmpIPredicate.slt (BitVec.ofNat 32 x.val) 4160#32)) 1#1)
      = BitVec.ofBool (decide (x.val % 520 < 512)) := by
    intro x
    have e : k0_pay152 (ix2 x 0) = IntOp.andi (IntOp.andi (IntOp.andi (IntOp.andi 1#1
        (IntOp.xori (IntOp.andi (IntOp.cmpi CmpIPredicate.sge (BitVec.ofNat 32 x.val) 512#32) (IntOp.cmpi CmpIPredicate.slt (BitVec.ofNat 32 x.val) 520#32)) 1#1))
        (IntOp.xori (IntOp.andi (IntOp.cmpi CmpIPredicate.sge (BitVec.ofNat 32 x.val) 1032#32) (IntOp.cmpi CmpIPredicate.slt (BitVec.ofNat 32 x.val) 1040#32)) 1#1))
        (IntOp.xori (IntOp.andi (IntOp.cmpi CmpIPredicate.sge (BitVec.ofNat 32 x.val) 1552#32) (IntOp.cmpi CmpIPredicate.slt (BitVec.ofNat 32 x.val) 1560#32)) 1#1))
        (IntOp.xori (IntOp.andi (IntOp.cmpi CmpIPredicate.sge (BitVec.ofNat 32 x.val) 2072#32) (IntOp.cmpi CmpIPredicate.slt (BitVec.ofNat 32 x.val) 2080#32)) 1#1) := by
      pointwise [k0_pay152]
    have e' : k0_pay153 (ix2 x 0) = IntOp.cmpi CmpIPredicate.sge (BitVec.ofNat 32 x.val) 2592#32 := by
      pointwise [k0_pay153]
    have hx : x.val < 5000 := by omega
    rw [e, e', sge_nat _ 512 hx (by decide), sge_nat _ 1032 hx (by decide), sge_nat _ 1552 hx (by decide), sge_nat _ 2072 hx (by decide), sge_nat _ 2592 hx (by decide), sge_nat _ 3112 hx (by decide),
      sge_nat _ 3632 hx (by decide), sge_nat _ 4152 hx (by decide), slt_nat _ 520 hx (by decide), slt_nat _ 1040 hx (by decide), slt_nat _ 1560 hx (by decide), slt_nat _ 2080 hx (by decide),
      slt_nat _ 2600 hx (by decide), slt_nat _ 3120 hx (by decide), slt_nat _ 3640 hx (by decide), slt_nat _ 4160 hx (by decide)]
    simp only [and_bit, not_bit, one_bit]
    congr 1
    rw [Bool.eq_iff_iff]
    simp only [Bool.and_eq_true, Bool.not_eq_true', Bool.and_eq_false_iff, decide_eq_true_eq, decide_eq_false_iff_not]
    have := x.isLt
    omega
  have e : k0_pay154 (F := Ideal) z q (iota .tc S4160x1 32 [0] iota_S4160x1_d0_w32) k0_pay152 k0_pay153 2600#32 (ix2 0 0) = ∑ x : Fin 4160, ∑ i : Fin 128,
      (z (ix2 x i) - q (ix2 x i)) * (z (ix2 x i) - q (ix2 x i)) * FloatOps.sitofp (F := Ideal) .f32 (BitVec.setWidth 32 (BitVec.ofBool (decide (x.val % 520 < 512)))) := by
    simp only [← hm]
    pointwise [k0_pay154]
    rfl
  rw [e, sum_rows]
  have g : ∀ (k : Fin 8) (x : Fin 8), ∑ i : Fin 128, (z (ix2 ⟨520 * k.val + 512 + x.val, by omega⟩ i) - q (ix2 ⟨520 * k.val + 512 + x.val, by omega⟩ i)) * (z (ix2 ⟨520 * k.val + 512 + x.val, by omega⟩ i) - q (ix2 ⟨520 * k.val + 512 + x.val, by omega⟩ i)) * FloatOps.sitofp (F := Ideal) .f32 (BitVec.setWidth 32 (BitVec.ofBool (decide ((520 * k.val + 512 + x.val) % 520 < 512)))) = 0 := fun k x => by
    refine Finset.sum_eq_zero fun i _ => ?_
    rw [bit_val, if_neg (by rw [decide_eq_true_eq]; omega), mul_zero]
  rw [Finset.sum_congr rfl fun k _ => Finset.sum_congr rfl fun x _ => g k x]
  simp only [Finset.sum_const_zero, add_zero]
  refine Finset.sum_congr rfl fun k _ => Finset.sum_congr rfl fun t _ => Finset.sum_congr rfl fun i _ => ?_
  rw [bit_val, if_pos (by rw [decide_eq_true_eq]; unfold row; dsimp only; omega), mul_one]
end Quantize
end Cert.Pay
-- ==== Proof.Dec.lean ====
/- The kernel's vectors, read at an index: the decoder, and the numbers of the batch. -/
module

public import proofs.«01_k».proof.Proof.Pay
public import proofs.«01_k».proof.Proof.RefOut

@[expose] public section
set_option maxRecDepth 16384
noncomputable section
namespace Cert.Pay
open Idealize.ShloMosaic hiding ix0 ix1 ix2 ix3 ix4
open Idealize.ShloMosaic.ValueIdx
open Cert.Spec Cert.Rows Cert.KernelIdeal Cert.KernelIdeal.Gen
variable [Cert.KernelIdeal.Facts]

/-- The even positions of the decoder's second layer. -/
theorem st_v1e {U : Fin 8 → Fin 128 → Fin 512 → EReal} {w : Fin 128 → Fin 128 → Fin 4 → EReal} {b : Fin 128 → EReal} {bb w2 w1 p1 p0 w0}
    (hb : ∀ o, bb (ix2 0 o) = b o) (h0 : Win p0 0 U) (h1 : Win p1 1 U) (g0 : ∀ i o, w0 (ix2 i o) = w o i 0) (g2 : ∀ i o, w2 (ix2 i o) = w o i 2) :
    Agree (k0_pay179 (F := Ideal) bb w2 w1 p1 p0 w0) fun k o t => max (convT (T' := 1024) w b (U k) o ⟨2 * t.val, by omega⟩) 0 := by
  intro k t o
  have e : k0_pay179 (F := Ideal) bb w2 w1 p1 p0 w0 (ix2 (row k t) o) = max ((∑ i : Fin 128, p0 (ix2 (row k t) i) * w0 (ix2 i o))
      + (∑ i : Fin 128, p1 (ix2 (row k t) i) * (if h : o.val < 128 then w2 (ix2 i ⟨o.val, h⟩) else w1 (ix2 i ⟨o.val - 128, by omega⟩))) + bb (ix2 0 o)) 0 := by
    pointwise [k0_pay179, k0_pay178, k0_pay177]
    rfl
  rw [e]
  beta_reduce
  rw [convT_even w b (U k) o _ t.val rfl]
  rw [sum_tap _ _ (fun i => w o i 0) (U k) t.val (fun i => by rw [h0 k t]; rfl) (fun i => g0 i o)]
  rw [sum_tap _ _ (fun i => w o i 2) (U k) (t.val + 1) (fun i => by rw [h1 k t]) (fun i => by rw [dif_pos o.isLt]; exact g2 i o), hb]

/-- The odd positions of the decoder's second layer. -/
theorem st_v1o {U : Fin 8 → Fin 128 → Fin 512 → EReal} {w : Fin 128 → Fin 128 → Fin 4 → EReal} {b : Fin 128 → EReal} {bb w2 w1 p1 p2 w3}
    (hb : ∀ o, bb (ix2 0 o) = b o) (h1 : Win p1 1 U) (h2 : Win p2 2 U) (g1 : ∀ i o, w1 (ix2 i o) = w o i 1) (g3 : ∀ i o, w3 (ix2 i o) = w o i 3) :
    Agree (k0_pay180 (F := Ideal) bb (k0_pay178 w2 w1 p1) p2 w3) fun k o t => max (convT (T' := 1024) w b (U k) o ⟨2 * t.val + 1, by omega⟩) 0 := by
  intro k t o
  have e : k0_pay180 (F := Ideal) bb (k0_pay178 w2 w1 p1) p2 w3 (ix2 (row k t) o) = max ((∑ i : Fin 128, p2 (ix2 (row k t) i) * w3 (ix2 i o))
      + (∑ i : Fin 128, p1 (ix2 (row k t) i) * (if h : 128 + o.val < 128 then w2 (ix2 i ⟨128 + o.val, h⟩) else w1 (ix2 i ⟨128 + o.val - 128, by omega⟩))) + bb (ix2 0 o)) 0 := by
    pointwise [k0_pay180, k0_pay178]
    rfl
  rw [e]
  beta_reduce
  rw [convT_odd w b (U k) o _ t.val rfl]
  rw [sum_tap _ _ (fun i => w o i 3) (U k) (t.val + 2) (fun i => by rw [h2 k t]) (fun i => g3 i o)]
  rw [sum_tap _ _ (fun i => w o i 1) (U k) (t.val + 1) (fun i => by rw [h1 k t]) (fun i => by
    rw [dif_neg (by omega)]; exact (congrArg (fun c => w1 (ix2 i c)) (Fin.ext (by simp))).trans (g1 i o)), hb, add_comm (tap _ _ _)]

section V2
variable {V : Fin 8 → Fin 128 → Fin 1024 → EReal} {w : Fin 128 → Fin 128 → Fin 4 → EReal} {b : Fin 128 → EReal}

/-- The decoder's third layer at the first of four positions. -/
theorem st_v2a {bb p0 w0 p1 w2} (hb : ∀ o, bb (ix2 0 o) = b o)
    (h0 : ∀ k t (i : Fin 128), p0 (ix2 (row k t) i) = rd (lane2 (V k) ⟨128 + i.val, by omega⟩) (t.val + 0))
    (h1 : ∀ k t (i : Fin 128), p1 (ix2 (row k t) i) = rd (lane2 (V k) ⟨i.val, by omega⟩) (t.val + 1)) (g0 : ∀ i o, w0 (ix2 i o) = w o i 0) (g2 : ∀ i o, w2 (ix2 i o) = w o i 2) :
    Agree (k0_pay200 (F := Ideal) bb p0 w0 p1 w2) fun k o t => max (convT (T' := 2048) w b (V k) o ⟨4 * t.val, by omega⟩) 0 := by
  intro k t o
  have e : k0_pay200 (F := Ideal) bb p0 w0 p1 w2 (ix2 (row k t) o) = max ((∑ i : Fin 128, p0 (ix2 (row k t) i) * w0 (ix2 i o))
      + (∑ i : Fin 128, p1 (ix2 (row k t) i) * w2 (ix2 i o)) + bb (ix2 0 o)) 0 := by
    pointwise [k0_pay200, k0_pay199]
    rfl
  rw [e]
  beta_reduce
  rw [convT_even w b (V k) o _ (2 * t.val) (by dsimp only; omega)]
  rw [sum_tap _ _ (fun i => w o i 0) (V k) (2 * t.val) (fun i => by rw [h0, rd_2b]; rfl) (fun i => g0 i o)]
  rw [sum_tap _ _ (fun i => w o i 2) (V k) (2 * t.val + 1) (fun i => by rw [h1, rd_2a]) (fun i => g2 i o), hb]

/-- The decoder's third layer at the fourth position. -/
theorem st_v2d {bb p1 w1 p2 w3} (hb : ∀ o, bb (ix2 0 o) = b o)
    (h1 : ∀ k t (i : Fin 128), p1 (ix2 (row k t) i) = rd (lane2 (V k) ⟨128 + i.val, by omega⟩) (t.val + 1))
    (h2 : ∀ k t (i : Fin 128), p2 (ix2 (row k t) i) = rd (lane2 (V k) ⟨i.val, by omega⟩) (t.val + 2)) (g1 : ∀ i o, w1 (ix2 i o) = w o i 1) (g3 : ∀ i o, w3 (ix2 i o) = w o i 3) :
    Agree (k0_pay202 (F := Ideal) bb p1 w1 p2 w3) fun k o t => max (convT (T' := 2048) w b (V k) o ⟨4 * t.val + 3, by omega⟩) 0 := by
  intro k t o
  have e : k0_pay202 (F := Ideal) bb p1 w1 p2 w3 (ix2 (row k t) o) = max ((∑ i : Fin 128, p1 (ix2 (row k t) i) * w1 (ix2 i o))
      + (∑ i : Fin 128, p2 (ix2 (row k t) i) * w3 (ix2 i o)) + bb (ix2 0 o)) 0 := by
    pointwise [k0_pay202]
    rfl
  rw [e]
  beta_reduce
  rw [convT_odd w b (V k) o _ (2 * t.val + 1) (by dsimp only; omega)]
  rw [sum_tap _ _ (fun i => w o i 1) (V k) (2 * t.val + 1 + 1) (fun i => by rw [h1, rd_2b]; congr 1) (fun i => g1 i o)]
  rw [sum_tap _ _ (fun i => w o i 3) (V k) (2 * t.val + 1 + 2) (fun i => by rw [h2, rd_2a]; congr 1) (fun i => g3 i o), hb]

/-- The decoder's third layer at the two positions between. -/
theorem st_v2m {bb w1 w0 w3 w2 p} (hb : ∀ o, bb (ix2 0 o) = b o) (hp : Win p 1 (fun k => lane2 (V k))) (g0 : ∀ i o, w0 (ix2 i o) = w o i 0) (g1 : ∀ i o, w1 (ix2 i o) = w o i 1)
    (g2 : ∀ i o, w2 (ix2 i o) = w o i 2) (g3 : ∀ i o, w3 (ix2 i o) = w o i 3) (k t) (o : Fin 128) :
    k0_pay201 (F := Ideal) bb w1 w0 w3 w2 p (ix2 (row k t) ⟨o.val, by omega⟩) = max (convT (T' := 2048) w b (V k) o ⟨4 * t.val + 1, by omega⟩) 0
    ∧ k0_pay201 (F := Ideal) bb w1 w0 w3 w2 p (ix2 (row k t) ⟨128 + o.val, by omega⟩) = max (convT (T' := 2048) w b (V k) o ⟨4 * t.val + 2, by omega⟩) 0 := by
  have e : ∀ c : Fin 256, k0_pay201 (F := Ideal) bb w1 w0 w3 w2 p (ix2 (row k t) c) = max ((∑ i : Fin 256, p (ix2 (row k t) i) *
      (if h : i.val < 128 then (if h' : c.val < 128 then w1 (ix2 ⟨i.val, h⟩ ⟨c.val, h'⟩) else w0 (ix2 ⟨i.val, h⟩ ⟨c.val - 128, by omega⟩))
        else (if h' : c.val < 128 then w3 (ix2 ⟨i.val - 128, by omega⟩ ⟨c.val, h'⟩) else w2 (ix2 ⟨i.val - 128, by omega⟩ ⟨c.val - 128, by omega⟩))))
      + (if h' : c.val < 128 then bb (ix2 0 ⟨c.val, h'⟩) else bb (ix2 0 ⟨c.val - 128, by omega⟩))) 0 := fun c => by
    pointwise [k0_pay201, k0_pay199]
    rfl
  have f1 : ∀ i : Fin 128, (⟨128 + i.val - 128, by omega⟩ : Fin 128) = i := fun i => Fin.ext (by simp)
  have hn : ∀ i : Fin 128, ¬(128 + i.val < 128) := fun i => by omega
  constructor
  · rw [e, convT_odd w b (V k) o _ (2 * t.val) (by dsimp only; omega), sum256]
    simp only [Fin.is_lt, dite_true, hn, dite_false, f1, Fin.eta, hb]
    rw [sum_tap _ _ (fun i => w o i 1) (V k) (2 * t.val + 1) (fun i => by rw [hp k t, rd_2a]) (fun i => g1 i o)]
    rw [sum_tap _ _ (fun i => w o i 3) (V k) (2 * t.val + 2) (fun i => by rw [hp k t, rd_2b]; congr 1) (fun i => g3 i o)]
  · rw [e, convT_even w b (V k) o _ (2 * t.val + 1) (by dsimp only; omega), sum256]
    simp only [Fin.is_lt, dite_true, hn, dite_false, f1, Fin.eta, hb]
    rw [sum_tap _ _ (fun i => w o i 0) (V k) (2 * t.val + 1) (fun i => by rw [hp k t, rd_2a]) (fun i => g0 i o)]
    rw [sum_tap _ _ (fun i => w o i 2) (V k) (2 * t.val + 1 + 1) (fun i => by rw [hp k t, rd_2b]; congr 1) (fun i => g2 i o)]
end V2

section Out
/-- The last layer's weights by lane, for the rows before, at, and after a step. -/
def wA (w : Fin 1 → Fin 128 → Fin 3 → EReal) (l q : ℕ) (i : Fin 128) : EReal := if l = 3 ∧ q = 0 then w 0 i 0 else 0
def wB (w : Fin 1 → Fin 128 → Fin 3 → EReal) (l q : ℕ) (i : Fin 128) : EReal := if l + 1 = q then w 0 i 0 else if l = q then w 0 i 1 else if l = q + 1 then w 0 i 2 else 0
def wC (w : Fin 1 → Fin 128 → Fin 3 → EReal) (l q : ℕ) (i : Fin 128) : EReal := if l = 0 ∧ q = 3 then w 0 i 2 else 0

/-- A matrix given by lanes. -/
def ByLane (m : (⟨2, ![512, 4]⟩ : Shape).Idx → EReal) (g : ℕ → ℕ → Fin 128 → EReal) : Prop := ∀ (c : Fin 512) (q : Fin 4), m (ix2 c q) = g (c.val / 128) q.val ⟨c.val % 128, by omega⟩

variable {V : Fin 8 → Fin 128 → Fin 2048 → EReal} {w : Fin 1 → Fin 128 → Fin 3 → EReal} {b : Fin 1 → EReal}

/-- The decoder's last layer. -/
theorem st_out {p0 m0 p1 m1 p2 m2 bb} (h0 : Win p0 0 (fun k => lane4 (V k))) (h1 : Win p1 1 (fun k => lane4 (V k))) (h2 : Win p2 2 (fun k => lane4 (V k)))
    (g0 : ByLane m0 (wA w)) (g1 : ByLane m1 (wB w)) (g2 : ByLane m2 (wC w)) (hb : bb (ix2 0 0) = b 0) :
    Agree (k0_pay228 (F := Ideal) p0 m0 p1 m1 p2 m2 bb) fun k q t => conv3 (T' := 2048) w b (V k) 0 ⟨4 * t.val + q.val, by omega⟩ := by
  intro k t q
  have e : k0_pay228 (F := Ideal) p0 m0 p1 m1 p2 m2 bb (ix2 (row k t) q) = (∑ c : Fin 512, p0 (ix2 (row k t) c) * m0 (ix2 c q)) + (∑ c : Fin 512, p1 (ix2 (row k t) c) * m1 (ix2 c q))
      + (∑ c : Fin 512, p2 (ix2 (row k t) c) * m2 (ix2 c q)) + bb (ix2 0 0) := by
    pointwise [k0_pay228]
    rfl
  rw [e]
  have lanes : ∀ (p : (⟨2, ![4160, 512]⟩ : Shape).Idx → EReal) m g, ByLane m g → ∑ c : Fin 512, p (ix2 (row k t) c) * m (ix2 c q) = (∑ i : Fin 128, p (ix2 (row k t) ⟨i.val, by omega⟩) * g 0 q.val i)
      + (∑ i : Fin 128, p (ix2 (row k t) ⟨128 + i.val, by omega⟩) * g 1 q.val i) + (∑ i : Fin 128, p (ix2 (row k t) ⟨256 + i.val, by omega⟩) * g 2 q.val i)
      + (∑ i : Fin 128, p (ix2 (row k t) ⟨384 + i.val, by omega⟩) * g 3 q.val i) := fun p m g hm => by
    rw [sum512]
    have one : ∀ (l : ℕ) (i : Fin 128) (h : 128 * l + i.val < 512), m (ix2 ⟨128 * l + i.val, h⟩ q) = g l q.val i := fun l i h => by
      rw [hm]
      congr 1
      · dsimp only; omega
      · apply Fin.ext; dsimp only; omega
    refine congrArg₂ _ (congrArg₂ _ (congrArg₂ _ ?_ ?_) ?_) ?_ <;> refine Finset.sum_congr rfl fun i _ => congrArg _ ?_
    · exact (congrArg (fun c => m (ix2 c q)) (Fin.ext (by simp))).trans (one 0 i (by omega))
    · exact one 1 i (by omega)
    · exact one 2 i (by omega)
    · exact one 3 i (by omega)
  rw [lanes _ _ _ g0, lanes _ _ _ g1, lanes _ _ _ g2, hb]
  have tp : ∀ (p : (⟨2, ![4160, 512]⟩ : Shape).Idx → EReal) (c : Fin 128 → Fin 512) (j : ℕ) (u : Fin 128 → EReal), (∀ i, p (ix2 (row k t) (c i)) = rd (V k i) j) → ∑ i : Fin 128, p (ix2 (row k t) (c i)) * u i = tap u (V k) j :=
    fun p c j u h => sum_tap _ _ u (V k) j h fun _ => rfl
  have b0 := tp p1 (fun i => ⟨i.val, by omega⟩) (4 * t.val + 0 + 1) (wB w 0 q.val) fun i => by rw [h1 k t]; exact rd_4 (V k) 0 (by decide) i _ (by dsimp only; omega) _
  have b1 := tp p1 (fun i => ⟨128 + i.val, by omega⟩) (4 * t.val + 1 + 1) (wB w 1 q.val) fun i => by rw [h1 k t]; exact rd_4 (V k) 1 (by decide) i _ (by dsimp only) _
  have b2 := tp p1 (fun i => ⟨256 + i.val, by omega⟩) (4 * t.val + 2 + 1) (wB w 2 q.val) fun i => by rw [h1 k t]; exact rd_4 (V k) 2 (by decide) i _ (by dsimp only) _
  have b3 := tp p1 (fun i => ⟨384 + i.val, by omega⟩) (4 * t.val + 3 + 1) (wB w 3 q.val) fun i => by rw [h1 k t]; exact rd_4 (V k) 3 (by decide) i _ (by dsimp only) _
  have a3 := tp p0 (fun i => ⟨384 + i.val, by omega⟩) (4 * t.val) (wA w 3 q.val) fun i => by rw [h0 k t]; exact rd_4d (V k) i _ (by dsimp only) _
  have c0 := tp p2 (fun i => ⟨i.val, by omega⟩) (4 * (t.val + 1) + 0 + 1) (wC w 0 q.val) fun i => by rw [h2 k t]; exact rd_4 (V k) 0 (by decide) i _ (by dsimp only; omega) (t.val + 1)
  have zA : ∀ l, l < 3 → wA w l q.val = fun _ => 0 := fun l hl => funext fun i => if_neg (by omega)
  have zC : ∀ l, 0 < l → wC w l q.val = fun _ => 0 := fun l hl => funext fun i => if_neg (by omega)
  rw [b0, b1, b2, b3, a3, c0, zA 0 (by decide), zA 1 (by decide), zA 2 (by decide), zC 1 (by decide), zC 2 (by decide), zC 3 (by decide)]
  have tz : ∀ j, tap (fun _ : Fin 128 => (0 : EReal)) (V k) j = 0 := fun j => by simp [tap]
  simp only [mul_zero, Finset.sum_const_zero, zero_add, add_zero]
  unfold conv3
  have eA : ∀ l q, wA w l q = if l = 3 ∧ q = 0 then (fun i => w 0 i 0) else fun _ => 0 := fun l q => by funext i; unfold wA; split_ifs <;> rfl
  have eB : ∀ l q, wB w l q = if l + 1 = q then (fun i => w 0 i 0) else if l = q then (fun i => w 0 i 1) else if l = q + 1 then (fun i => w 0 i 2) else fun _ => 0 :=
    fun l q => by funext i; unfold wB; split_ifs <;> rfl
  have eC : ∀ l q, wC w l q = if l = 0 ∧ q = 3 then (fun i => w 0 i 2) else fun _ => 0 := fun l q => by funext i; unfold wC; split_ifs <;> rfl
  have n1 : 1 + 4 * t.val = 4 * t.val + 1 := by omega
  have n2 : 2 + 4 * t.val = 4 * t.val + 2 := by omega
  have m1 : ∀ j, 1 + (4 * t.val + j) = 4 * t.val + (1 + j) := fun j => by omega
  have m2 : ∀ j, 2 + (4 * t.val + j) = 4 * t.val + (2 + j) := fun j => by omega
  have n3 : 4 * (t.val + 1) + 1 = 4 * t.val + 5 := by omega
  match q with
  | ⟨0, _⟩ => simp [eA, eB, eC, tz, add_assoc, n1, n2, m1, m2, n3]
  | ⟨1, _⟩ => simp [eA, eB, eC, tz, add_assoc, n1, n2, m1, m2, n3]
  | ⟨2, _⟩ => simp [eA, eB, eC, tz, add_assoc, n1, n2, m1, m2, n3]
  | ⟨3, _⟩ => simp [eA, eB, eC, tz, add_assoc, n1, n2, m1, m2, n3]
end Out

section Numbers
theorem w_step : Ideal.ofBits .f32 0x39000000#32 = ((1 / 8192 : ℝ) : EReal) := by
  simp [Ideal.ofBits, Ideal.ieee]
  rw [← EReal.coe_mul]
  norm_num
theorem w_rows : Ideal.ofBits .f32 0x3B000000#32 = ((1 / 512 : ℝ) : EReal) := by
  simp [Ideal.ofBits, Ideal.ieee]
  rw [← EReal.coe_mul]
  norm_num
theorem w_all : Ideal.ofBits .f32 0x35800000#32 = ((1 / 1048576 : ℝ) : EReal) := by
  simp [Ideal.ofBits, Ideal.ieee]
  rw [← EReal.coe_mul]
  norm_num

theorem st_commit (n : Net) {v} (hv : v (ix2 0 0) = ∑ b, n.sq b) : k0_pay2 (F := Ideal) v (ix2 0 0) = n.commit := by
  have e : k0_pay2 (F := Ideal) v (ix2 0 0) = v (ix2 0 0) * Ideal.ofBits .f32 0x35800000#32 := by
    pointwise [k0_pay2]
    try rfl
  rw [e, hv, w_all]
  rfl

theorem st_metrics (n : Net) {v} (hv : ∀ k, v (ix2 0 k) = n.count k) (j : Fin 2) : k0_pay1 (F := Ideal) v (ix2 0 j) = n.metrics j := by
  have e : k0_pay1 (F := Ideal) v (ix2 0 j) = if j.val < 1 then Ideal.exp (0 - ∑ k : Fin 512, (v (ix2 0 k) * Ideal.ofBits .f32 0x39000000#32) * Ideal.log (v (ix2 0 k) * Ideal.ofBits .f32 0x39000000#32 + Ideal.ofBits .f32 0x322BCC77#32))
      else (∑ k : Fin 512, FloatOps.sitofp (F := Ideal) .f32 (BitVec.setWidth 32 (BitVec.ofBool (decide (0 < v (ix2 0 k)))))) * Ideal.ofBits .f32 0x3B000000#32 := by
    pointwise [k0_pay1]
    rfl
  rw [e]
  simp only [hv, w_step, w_rows, bit_val, decide_eq_true_eq]
  unfold Net.metrics
  by_cases hj : j.val < 1
  · rw [if_pos hj, if_pos (Fin.ext (by simpa using hj)), zero_sub]
    rfl
  · rw [if_neg hj, if_neg fun h => hj (by rw [h]; decide)]
    rfl
end Numbers
end Cert.Pay
end
-- ==== Proof.Win.lean ====
/- Windows of the work buffers: what a load reads after the batches' rows are stored, and the layers on them. -/
module

public import Idealize.ShloMosaic.Lib.Pipeline.ValueKit
public import proofs.«01_k».proof.Proof.Dec

@[expose] public section
set_option maxRecDepth 16384
noncomputable section
namespace Cert.Pay
open Idealize.ShloMosaic hiding ix0 ix1 ix2 ix3 ix4
open Idealize.ShloMosaic.ValueIdx
open Cert.Spec Cert.Rows Cert.KernelIdeal Cert.KernelIdeal.Gen

section General
variable {sg : RefSig} {κ : Kind} {sp : Space}

/-- `w` is the part of `P` from a row and a column on. -/
def Seen {N C R W : ℕ} (P : (⟨2, ![N, C]⟩ : Shape).Idx → EReal) (o c0 : ℕ) (w : (⟨2, ![R, W]⟩ : Shape).Idx → EReal) : Prop :=
  ∀ (r : Fin R) (c : Fin W) (h : o + r.val < N) (h' : c0 + c.val < C), w (ix2 r c) = P (ix2 ⟨o + r.val, h⟩ ⟨c0 + c.val, h'⟩)

theorem seen_at {N C R W : ℕ} (v : View sg κ sp (⟨2, ![N, C]⟩ : Shape) .f32) (f : v.ty.Contents (Elt Ideal)) (o c0 : ℕ)
    (inb : ∀ a, (![o, c0] : Fin 2 → ℕ) a + (![R, W] : Fin 2 → ℕ) a ≤ (![N, C] : Fin 2 → ℕ) a) :
    Seen (R := R) (W := W) (v.read (Elt Ideal) f) o c0 (View.readAt (Elt Ideal) v (Rect.unit (s := ⟨2, ![N, C]⟩) ![o, c0] ![R, W] inb).toLoadRect f) := by
  intro r c h h'
  show v.read (Elt Ideal) f _ = v.read (Elt Ideal) f _
  congr 1
  funext a
  fin_cases a
  · apply Fin.ext
    show o + 1 * r.val = o + r.val; omega
  · apply Fin.ext
    show c0 + 1 * c.val = c0 + c.val; omega

theorem seen_un {N C R W : ℕ} {v : Memref sg κ sp (⟨2, ![N, C]⟩ : Shape) .f32} (hv : v.IsWhole) (x : (⟨2, ![N, C]⟩ : Shape).Idx → EReal) (o c0 : ℕ)
    (inb : ∀ a, (![o, c0] : Fin 2 → ℕ) a + (![R, W] : Fin 2 → ℕ) a ≤ (![N, C] : Fin 2 → ℕ) a) :
    Seen (R := R) (W := W) x o c0 (View.readAt (Elt Ideal) v.view (Rect.unit (s := ⟨2, ![N, C]⟩) ![o, c0] ![R, W] inb).toLoadRect (hv.unread (Val := Elt Ideal) x)) := by
  have := seen_at (R := R) (W := W) v.view (hv.unread (Val := Elt Ideal) x) o c0 inb
  rwa [hv.read_unread] at this

theorem seen3_un {K T Q : ℕ} {v : Memref sg κ sp (⟨3, ![K, T, Q]⟩ : Shape) .f32} (hv : v.IsWhole) (x : (⟨3, ![K, T, Q]⟩ : Shape).Idx → EReal) (k : ℕ) (hk : k < K)
    (inb : ∀ a, (![k, 0, 0] : Fin 3 → ℕ) a + (![1, T, Q] : Fin 3 → ℕ) a ≤ (![K, T, Q] : Fin 3 → ℕ) a) (t : Fin T) (q : Fin Q) :
    View.readAt (Elt Ideal) v.view (Rect.unit (s := ⟨3, ![K, T, Q]⟩) ![k, 0, 0] ![1, T, Q] inb).toLoadRect (hv.unread (Val := Elt Ideal) x) (ix3 0 t q) = x (ix3 ⟨k, hk⟩ t q) := by
  show v.view.read (Elt Ideal) (hv.unread (Val := Elt Ideal) x) _ = _
  rw [hv.read_unread]
  congr 1
  funext a
  fin_cases a
  · apply Fin.ext
    show k + 1 * 0 = k; omega
  · apply Fin.ext
    show 0 + 1 * t.val = t.val; omega
  · apply Fin.ext
    show 0 + 1 * q.val = q.val; omega

/-- A whole block, read whole. -/
theorem Seen.all {N C : ℕ} {P w : (⟨2, ![N, C]⟩ : Shape).Idx → EReal} (h : Seen P 0 0 w) : w = P := by
  funext i
  obtain ⟨a, b, rfl⟩ : ∃ (a : Fin N) (b : Fin C), i = ix2 a b := ⟨i 0, i 1, by funext a; fin_cases a <;> rfl⟩
  rw [h a b (by omega) (by omega)]
  congr 2 <;> exact Fin.ext (by simp)

/-- The batches' rows of `R` stored into the columns from `c0` on. -/
def Put {C W : ℕ} (v : View sg κ sp (⟨2, ![4176, C]⟩ : Shape) .f32) (f : v.ty.Contents (Elt Ideal)) (c0 : ℕ) (R : (⟨2, ![4160, W]⟩ : Shape).Idx → EReal)
    (L' L : List (View.Piece (Elt Ideal) (⟨2, ![4176, C]⟩ : Shape) .f32)) : Prop :=
  ∀ (r : Fin 4176) (c : Fin C), v.read (Elt Ideal) (v.writes (Elt Ideal) f L') (ix2 r c) =
    if h : inBatch r.val ∧ (c0 ≤ c.val ∧ c.val < c0 + W) then R (ix2 ⟨r.val - 8, by have := h.1; unfold inBatch at this; omega⟩ ⟨c.val - c0, by omega⟩)
    else v.read (Elt Ideal) (v.writes (Elt Ideal) f L) (ix2 r c)

/-- A block of the batches' rows. -/
def Cut {W : ℕ} (R : (⟨2, ![4160, W]⟩ : Shape).Idx → EReal) (o : ℕ) (w : (⟨2, ![512, W]⟩ : Shape).Idx → EReal) : Prop := IsSlice (fun r c => R (ix2 r c)) o w

theorem put_stores {C W : ℕ} (v : View sg κ sp (⟨2, ![4176, C]⟩ : Shape) .f32) (f : v.ty.Contents (Elt Ideal)) (c0 : ℕ) (R : (⟨2, ![4160, W]⟩ : Shape).Idx → EReal)
    {w0 w1 w2 w3 w4 w5 w6 w7 : (⟨2, ![512, W]⟩ : Shape).Idx → EReal} {i0 i1 i2 i3 i4 i5 i6 i7} {L : List (View.Piece (Elt Ideal) (⟨2, ![4176, C]⟩ : Shape) .f32)}
    (h7 : Cut R 3640 w7) (h6 : Cut R 3120 w6) (h5 : Cut R 2600 w5) (h4 : Cut R 2080 w4) (h3 : Cut R 1560 w3) (h2 : Cut R 1040 w2) (h1 : Cut R 520 w1) (h0 : Cut R 0 w0) :
    Put v f c0 R
      ((⟨Rect.unit (s := ⟨2, ![4176, C]⟩) ![3648, c0] ![512, W] i7, w7⟩ : View.Piece (Elt Ideal) (⟨2, ![4176, C]⟩ : Shape) .f32) ::
      (⟨Rect.unit (s := ⟨2, ![4176, C]⟩) ![3128, c0] ![512, W] i6, w6⟩ : View.Piece (Elt Ideal) (⟨2, ![4176, C]⟩ : Shape) .f32) ::
      (⟨Rect.unit (s := ⟨2, ![4176, C]⟩) ![2608, c0] ![512, W] i5, w5⟩ : View.Piece (Elt Ideal) (⟨2, ![4176, C]⟩ : Shape) .f32) ::
      (⟨Rect.unit (s := ⟨2, ![4176, C]⟩) ![2088, c0] ![512, W] i4, w4⟩ : View.Piece (Elt Ideal) (⟨2, ![4176, C]⟩ : Shape) .f32) ::
      (⟨Rect.unit (s := ⟨2, ![4176, C]⟩) ![1568, c0] ![512, W] i3, w3⟩ : View.Piece (Elt Ideal) (⟨2, ![4176, C]⟩ : Shape) .f32) ::
      (⟨Rect.unit (s := ⟨2, ![4176, C]⟩) ![1048, c0] ![512, W] i2, w2⟩ : View.Piece (Elt Ideal) (⟨2, ![4176, C]⟩ : Shape) .f32) ::
      (⟨Rect.unit (s := ⟨2, ![4176, C]⟩) ![528, c0] ![512, W] i1, w1⟩ : View.Piece (Elt Ideal) (⟨2, ![4176, C]⟩ : Shape) .f32) ::
      (⟨Rect.unit (s := ⟨2, ![4176, C]⟩) ![8, c0] ![512, W] i0, w0⟩ : View.Piece (Elt Ideal) (⟨2, ![4176, C]⟩ : Shape) .f32) :: L) L :=
  fun r c => read_stores (Val := Elt Ideal) (e := .f32) v f c0 (fun r c => R (ix2 r c)) h0 h1 h2 h3 h4 h5 h6 h7 L r c

theorem cut_slice {W : ℕ} (R : (⟨2, ![4160, W]⟩ : Shape).Idx → EReal) (o : ℕ) (hs hc) :
    Cut R o (shapeCast (⟨2, ![512, W]⟩ : Shape) (extractStridedSlice (s := ⟨2, ![4160, W]⟩) (⟨2, ![512, W]⟩ : Shape) ![o, 0] R hs) hc) := by
  intro t c r hr
  rw [shapeCast_self]
  show R _ = R _
  congr 1
  funext a
  fin_cases a
  · apply Fin.ext
    show o + t.val = r.val; omega
  · apply Fin.ext
    show 0 + c.val = c.val; omega

variable {C : ℕ} {v : View sg κ sp (⟨2, ![4176, C]⟩ : Shape) .f32} {f : v.ty.Contents (Elt Ideal)} {L L1 L2 L3 : List (View.Piece (Elt Ideal) (⟨2, ![4176, C]⟩ : Shape) .f32)}

theorem Put.gap {W c0 : ℕ} {R : (⟨2, ![4160, W]⟩ : Shape).Idx → EReal} (h : Put v f c0 R L1 L) (hg : Gap (v.read (Elt Ideal) (v.writes (Elt Ideal) f L))) :
    Gap (v.read (Elt Ideal) (v.writes (Elt Ideal) f L1)) := fun r c hr => by
  rw [h r c, dif_neg (fun e => hr e.1)]; exact hg r c hr

theorem in_row (k : Fin 8) (t : Fin 512) : inBatch (520 * k.val + 8 + t.val) := by unfold inBatch; omega

theorem Put.at {W c0 : ℕ} {R : (⟨2, ![4160, W]⟩ : Shape).Idx → EReal} (h : Put v f c0 R L1 L) (k : Fin 8) (t : Fin 512) (c : Fin C) (hr : 520 * k.val + 8 + t.val < 4176)
    (h0 : c0 ≤ c.val) (h1 : c.val < c0 + W) :
    v.read (Elt Ideal) (v.writes (Elt Ideal) f L1) (ix2 ⟨520 * k.val + 8 + t.val, hr⟩ c) = R (ix2 (row k t) ⟨c.val - c0, by omega⟩) := by
  rw [h, dif_pos ⟨in_row k t, h0, h1⟩]
  congr 2
  apply Fin.ext
  show 520 * k.val + 8 + t.val - 8 = 520 * k.val + t.val; omega

theorem Put.keep {W c0 : ℕ} {R : (⟨2, ![4160, W]⟩ : Shape).Idx → EReal} (h : Put v f c0 R L1 L) (r : Fin 4176) (c : Fin C) (h0 : c.val < c0 ∨ c0 + W ≤ c.val) :
    v.read (Elt Ideal) (v.writes (Elt Ideal) f L1) (ix2 r c) = v.read (Elt Ideal) (v.writes (Elt Ideal) f L) (ix2 r c) := by
  rw [h, dif_neg (by omega)]

theorem Put.padded {R : (⟨2, ![4160, C]⟩ : Shape).Idx → EReal} {h : Fin 8 → Fin C → Fin 512 → EReal} (p : Put v f 0 R L1 L)
    (hg : Gap (v.read (Elt Ideal) (v.writes (Elt Ideal) f L))) (a : Agree R h) : Padded (v.read (Elt Ideal) (v.writes (Elt Ideal) f L1)) h :=
  padded_of (p.gap hg) fun k t c hr => (p.at k t c hr (Nat.zero_le _) (by omega)).trans (a k t c)

end General

section Two
variable {sg : RefSig} {κ : Kind} {sp : Space} {v : View sg κ sp (⟨2, ![4176, 256]⟩ : Shape) .f32} {f : v.ty.Contents (Elt Ideal)} {L L1 L2 : List (View.Piece (Elt Ideal) (⟨2, ![4176, 256]⟩ : Shape) .f32)}

theorem padded_two {R0 R1 : (⟨2, ![4160, 128]⟩ : Shape).Idx → EReal} {V : Fin 8 → Fin 128 → Fin 1024 → EReal} (p1 : Put v f 128 R1 L2 L1) (p0 : Put v f 0 R0 L1 L)
    (hg : Gap (v.read (Elt Ideal) (v.writes (Elt Ideal) f L))) (a1 : Agree R1 fun k o t => V k o ⟨2 * t.val + 1, by omega⟩) (a0 : Agree R0 fun k o t => V k o ⟨2 * t.val, by omega⟩) :
    Padded (v.read (Elt Ideal) (v.writes (Elt Ideal) f L2)) fun k => lane2 (V k) :=
  padded_of (p1.gap (p0.gap hg)) fun k t c hr => by
    by_cases hc : c.val < 128
    · rw [p1.keep _ c (.inl hc), p0.at k t c hr (Nat.zero_le _) (by omega), a0]
      exact ext2 (V k) (by simp only; omega) (by simp only; omega)
    · rw [p1.at k t c hr (by omega) (by omega), a1]
      exact ext2 (V k) (by simp only; omega) (by simp only; omega)
end Two

section Four
variable {sg : RefSig} {κ : Kind} {sp : Space} {v : View sg κ sp (⟨2, ![4176, 512]⟩ : Shape) .f32} {f : v.ty.Contents (Elt Ideal)} {L L1 L2 L3 : List (View.Piece (Elt Ideal) (⟨2, ![4176, 512]⟩ : Shape) .f32)}

theorem padded_four {R0 R2 : (⟨2, ![4160, 128]⟩ : Shape).Idx → EReal} {R1 : (⟨2, ![4160, 256]⟩ : Shape).Idx → EReal} {V : Fin 8 → Fin 128 → Fin 2048 → EReal}
    (p2 : Put v f 384 R2 L3 L2) (p1 : Put v f 128 R1 L2 L1) (p0 : Put v f 0 R0 L1 L)
    (hg : Gap (v.read (Elt Ideal) (v.writes (Elt Ideal) f L))) (a2 : Agree R2 fun k o t => V k o ⟨4 * t.val + 3, by omega⟩)
    (a1 : ∀ k t (o : Fin 128), R1 (ix2 (row k t) ⟨o.val, by omega⟩) = V k o ⟨4 * t.val + 1, by omega⟩ ∧ R1 (ix2 (row k t) ⟨128 + o.val, by omega⟩) = V k o ⟨4 * t.val + 2, by omega⟩)
    (a0 : Agree R0 fun k o t => V k o ⟨4 * t.val, by omega⟩) :
    Padded (v.read (Elt Ideal) (v.writes (Elt Ideal) f L3)) fun k => lane4 (V k) :=
  padded_of (p2.gap (p1.gap (p0.gap hg))) fun k t c hr => by
    by_cases h2 : 384 ≤ c.val
    · rw [p2.at k t c hr h2 (by omega), a2]
      exact ext2 (V k) (by simp only; omega) (by simp only; omega)
    · rw [p2.keep _ c (.inl (by omega))]
      by_cases h0 : c.val < 128
      · rw [p1.keep _ c (.inl h0), p0.at k t c hr (Nat.zero_le _) (by omega), a0]
        exact ext2 (V k) (by simp only; omega) (by simp only; omega)
      · rw [p1.at k t c hr (by omega) (by omega)]
        by_cases h1 : c.val < 256
        · have e := (a1 k t ⟨c.val - 128, by omega⟩).1
          rw [e]
          exact ext2 (V k) (by simp only; omega) (by simp only; omega)
        · have e := (a1 k t ⟨c.val - 256, by omega⟩).2
          have e' : (⟨c.val - 128, by omega⟩ : Fin 256) = ⟨128 + (c.val - 256), by omega⟩ := Fin.ext (by simp only; omega)
          rw [e', e]
          exact ext2 (V k) (by simp only; omega) (by simp only; omega)
end Four

/-- A window `d` rows behind the first, in some columns. -/
theorem Seen.win_at {C W : ℕ} {P : (⟨2, ![4176, C]⟩ : Shape).Idx → EReal} {h : Fin 8 → Fin C → Fin 512 → EReal} {w : (⟨2, ![4160, W]⟩ : Shape).Idx → EReal} {o c0 : ℕ}
    (d : ℕ) (s : Seen P o c0 w) (hP : Padded P h) (hd : d ≤ 2) (ho : o = 7 + d) (k t) (c : Fin W) (hc : c0 + c.val < C) :
    w (ix2 (row k t) c) = rd (h k ⟨c0 + c.val, hc⟩) (t.val + d) := by
  rw [s (row k t) c (by unfold row; simp only; omega) hc, ← hP k ⟨t.val + d, by omega⟩]
  congr 2
  apply Fin.ext
  show o + (520 * k.val + t.val) = 520 * k.val + 7 + (t.val + d); omega

theorem Seen.win {C : ℕ} {P : (⟨2, ![4176, C]⟩ : Shape).Idx → EReal} {h : Fin 8 → Fin C → Fin 512 → EReal} {w : (⟨2, ![4160, C]⟩ : Shape).Idx → EReal} {o : ℕ}
    (d : ℕ) (s : Seen P o 0 w) (hP : Padded P h) (hd : d ≤ 2) (ho : o = 7 + d) : Win w d h := fun k t c => by
  rw [s.win_at d hP hd ho k t c (by omega)]
  congr 2
  exact Fin.ext (by simp)

/-- A weight buffer: tap `k`'s matrix at the rows from `128 * k` on. -/
def Taps {T : ℕ} (Q : (⟨2, ![128 * T, 128]⟩ : Shape).Idx → EReal) (w : Fin 128 → Fin 128 → Fin T → EReal) : Prop :=
  ∀ (k : Fin T) (i o : Fin 128) (h : 128 * k.val + i.val < 128 * T), Q (ix2 ⟨128 * k.val + i.val, h⟩ o) = w o i k

theorem Seen.tap {T R : ℕ} {Q : (⟨2, ![128 * T, 128]⟩ : Shape).Idx → EReal} {w : Fin 128 → Fin 128 → Fin T → EReal} {m : (⟨2, ![R, 128]⟩ : Shape).Idx → EReal} {o0 : ℕ}
    (k : Fin T) (s : Seen Q o0 0 m) (hQ : Taps Q w) (r : Fin R) (i o : Fin 128) (h : o0 + r.val = 128 * k.val + i.val) : m (ix2 r o) = w o i k := by
  have hk : 128 * k.val + i.val < 128 * T := by have := k.isLt; have := i.isLt; nlinarith
  rw [s r o (by omega) (by omega), ← hQ k i o hk]
  congr 2
  · exact Fin.ext h
  · exact Fin.ext (by simp)

end Cert.Pay
end
-- ==== Proof.Lay.lean ====
/- The weights as the first grid point lays them out, and the layers on windows of the work buffers. -/
module

public import Idealize.ShloMosaic.Lib.Pipeline.ValueKit
public import proofs.«01_k».proof.Proof.Win

@[expose] public section
set_option maxRecDepth 16384
noncomputable section
namespace Cert.Pay
open Idealize.ShloMosaic hiding ix0 ix1 ix2 ix3 ix4
open Idealize.ShloMosaic.ValueIdx
open Cert.Spec Cert.Rows Cert.KernelIdeal Cert.KernelIdeal.Gen

section General
variable {sg : RefSig} {κ : Kind} {sp : Space}

/-- One store of a whole buffer. -/
theorem read_whole {N C : ℕ} (v : View sg κ sp (⟨2, ![N, C]⟩ : Shape) .f32) (f : v.ty.Contents (Elt Ideal)) (w : (⟨2, ![N, C]⟩ : Shape).Idx → EReal) (inb)
    (L : List (View.Piece (Elt Ideal) (⟨2, ![N, C]⟩ : Shape) .f32)) (r : Fin N) (c : Fin C) :
    v.read (Elt Ideal) (v.writes (Elt Ideal) f ((⟨Rect.unit (s := ⟨2, ![N, C]⟩) ![0, 0] ![N, C] inb, w⟩ : View.Piece (Elt Ideal) (⟨2, ![N, C]⟩ : Shape) .f32) :: L)) (ix2 r c) = w (ix2 r c) := by
  rw [read_block, dif_pos ⟨⟨by omega, by omega⟩, by omega, by omega⟩]
  rfl

theorem taps_four (v : View sg κ sp (⟨2, ![512, 128]⟩ : Shape) .f32) (f : v.ty.Contents (Elt Ideal)) {w0 w1 w2 w3 : (⟨2, ![128, 128]⟩ : Shape).Idx → EReal} {i0 i1 i2 i3}
    {L : List (View.Piece (Elt Ideal) (⟨2, ![512, 128]⟩ : Shape) .f32)} {w : Fin 128 → Fin 128 → Fin 4 → EReal}
    (h3 : ∀ i o, w3 (ix2 i o) = w o i 3) (h2 : ∀ i o, w2 (ix2 i o) = w o i 2) (h1 : ∀ i o, w1 (ix2 i o) = w o i 1) (h0 : ∀ i o, w0 (ix2 i o) = w o i 0) :
    Taps (T := 4) (v.read (Elt Ideal) (v.writes (Elt Ideal) f
      ((⟨Rect.unit (s := ⟨2, ![512, 128]⟩) ![384, 0] ![128, 128] i3, w3⟩ : View.Piece (Elt Ideal) (⟨2, ![512, 128]⟩ : Shape) .f32) ::
      (⟨Rect.unit (s := ⟨2, ![512, 128]⟩) ![256, 0] ![128, 128] i2, w2⟩ : View.Piece (Elt Ideal) (⟨2, ![512, 128]⟩ : Shape) .f32) ::
      (⟨Rect.unit (s := ⟨2, ![512, 128]⟩) ![128, 0] ![128, 128] i1, w1⟩ : View.Piece (Elt Ideal) (⟨2, ![512, 128]⟩ : Shape) .f32) ::
      (⟨Rect.unit (s := ⟨2, ![512, 128]⟩) ![0, 0] ![128, 128] i0, w0⟩ : View.Piece (Elt Ideal) (⟨2, ![512, 128]⟩ : Shape) .f32) :: L))) w := by
  intro k i o h
  have e (j r : ℕ) (hr : r < 128) (he : r = i.val) (ho : o.val - 0 < 128) (u : (⟨2, ![128, 128]⟩ : Shape).Idx → EReal) : u (ix2 ⟨r, hr⟩ ⟨o.val - 0, ho⟩) = u (ix2 i o) := by
    subst he; rfl
  have hi := i.isLt
  have ho := o.isLt
  match k, h with
  | 3, h =>
    rw [← h3]
    refine (read_block v f 384 0 i3 w3 _ ⟨_, _⟩ o).trans ?_
    rw [dif_pos ⟨⟨by simp only; omega, by simp only; omega⟩, by omega, by omega⟩]
    exact e 0 _ _ (by simp only; omega) _ _
  | 2, h =>
    rw [← h2]
    refine (read_block v f 384 0 i3 w3 _ ⟨_, _⟩ o).trans ?_
    rw [dif_neg (by simp only; omega), read_block, dif_pos ⟨⟨by simp only; omega, by simp only; omega⟩, by omega, by omega⟩]
    exact e 0 _ _ (by simp only; omega) _ _
  | 1, h =>
    rw [← h1]
    refine (read_block v f 384 0 i3 w3 _ ⟨_, _⟩ o).trans ?_
    rw [dif_neg (by simp only; omega), read_block, dif_neg (by simp only; omega), read_block, dif_pos ⟨⟨by simp only; omega, by simp only; omega⟩, by omega, by omega⟩]
    exact e 0 _ _ (by simp only; omega) _ _
  | 0, h =>
    rw [← h0]
    refine (read_block v f 384 0 i3 w3 _ ⟨_, _⟩ o).trans ?_
    rw [dif_neg (by simp only; omega), read_block, dif_neg (by simp only; omega), read_block, dif_neg (by simp only; omega), read_block,
      dif_pos ⟨⟨by simp only; omega, by simp only; omega⟩, by omega, by omega⟩]
    exact e 0 _ _ (by simp only; omega) _ _

theorem taps_three (v : View sg κ sp (⟨2, ![384, 128]⟩ : Shape) .f32) (f : v.ty.Contents (Elt Ideal)) {w0 w1 w2 : (⟨2, ![128, 128]⟩ : Shape).Idx → EReal} {i0 i1 i2}
    {L : List (View.Piece (Elt Ideal) (⟨2, ![384, 128]⟩ : Shape) .f32)} {w : Fin 128 → Fin 128 → Fin 3 → EReal}
    (h2 : ∀ i o, w2 (ix2 i o) = w o i 2) (h1 : ∀ i o, w1 (ix2 i o) = w o i 1) (h0 : ∀ i o, w0 (ix2 i o) = w o i 0) :
    Taps (T := 3) (v.read (Elt Ideal) (v.writes (Elt Ideal) f
      ((⟨Rect.unit (s := ⟨2, ![384, 128]⟩) ![256, 0] ![128, 128] i2, w2⟩ : View.Piece (Elt Ideal) (⟨2, ![384, 128]⟩ : Shape) .f32) ::
      (⟨Rect.unit (s := ⟨2, ![384, 128]⟩) ![128, 0] ![128, 128] i1, w1⟩ : View.Piece (Elt Ideal) (⟨2, ![384, 128]⟩ : Shape) .f32) ::
      (⟨Rect.unit (s := ⟨2, ![384, 128]⟩) ![0, 0] ![128, 128] i0, w0⟩ : View.Piece (Elt Ideal) (⟨2, ![384, 128]⟩ : Shape) .f32) :: L))) w := by
  intro k i o h
  have e (r : ℕ) (hr : r < 128) (he : r = i.val) (ho : o.val - 0 < 128) (u : (⟨2, ![128, 128]⟩ : Shape).Idx → EReal) : u (ix2 ⟨r, hr⟩ ⟨o.val - 0, ho⟩) = u (ix2 i o) := by
    subst he; rfl
  have hi := i.isLt
  have ho := o.isLt
  match k, h with
  | 2, h =>
    rw [← h2]
    refine (read_block v f 256 0 i2 w2 _ ⟨_, _⟩ o).trans ?_
    rw [dif_pos ⟨⟨by simp only; omega, by simp only; omega⟩, by omega, by omega⟩]
    exact e _ _ (by simp only; omega) _ _
  | 1, h =>
    rw [← h1]
    refine (read_block v f 256 0 i2 w2 _ ⟨_, _⟩ o).trans ?_
    rw [dif_neg (by simp only; omega), read_block, dif_pos ⟨⟨by simp only; omega, by simp only; omega⟩, by omega, by omega⟩]
    exact e _ _ (by simp only; omega) _ _
  | 0, h =>
    rw [← h0]
    refine (read_block v f 256 0 i2 w2 _ ⟨_, _⟩ o).trans ?_
    rw [dif_neg (by simp only; omega), read_block, dif_neg (by simp only; omega), read_block, dif_pos ⟨⟨by simp only; omega, by simp only; omega⟩, by omega, by omega⟩]
    exact e _ _ (by simp only; omega) _ _

/-- One column of one lane stored. -/
theorem read_col (v : View sg κ sp (⟨2, ![512, 4]⟩ : Shape) .f32) (f : v.ty.Contents (Elt Ideal)) (l o q0 : ℕ) (ho : o = 128 * l) (inb) (w : (⟨2, ![128, 1]⟩ : Shape).Idx → EReal) (a : Fin 128 → EReal)
    (hw : ∀ i, w (ix2 i 0) = a i)
    (L : List (View.Piece (Elt Ideal) (⟨2, ![512, 4]⟩ : Shape) .f32)) (c : Fin 512) (q : Fin 4) :
    v.read (Elt Ideal) (v.writes (Elt Ideal) f ((⟨Rect.unit (s := ⟨2, ![512, 4]⟩) ![o, q0] ![128, 1] inb, w⟩ : View.Piece (Elt Ideal) (⟨2, ![512, 4]⟩ : Shape) .f32) :: L)) (ix2 c q)
      = if c.val / 128 = l ∧ q.val = q0 then a ⟨c.val % 128, by omega⟩ else v.read (Elt Ideal) (v.writes (Elt Ideal) f L) (ix2 c q) := by
  by_cases h : c.val / 128 = l ∧ q.val = q0
  · rw [if_pos h, read_block, dif_pos ⟨⟨by omega, by omega⟩, by omega, by omega⟩, ← hw]
    congr 2
    · exact Fin.ext (by simp only; omega)
    · exact Fin.ext (by simp only; omega)
  · rw [if_neg h, read_block, dif_neg (by omega)]

end General

variable [Cert.KernelIdeal.Facts]

theorem tap4 (m : S128x512.Idx → EReal) (k : Fin 4) (h1 h2 h3 h4 h5 h6) (i o : Fin 128) :
    shapeCast (s := S128x128) S128x128 (shapeCast (s := S128x1x128) S128x128 (extractStridedSlice (s := S128x4x128) S128x1x128 ![0, k.val, 0] (shapeCast (s := S512x128) S128x4x128 (transpose (s := S128x512) S512x128 [1, 0] (shapeCast S128x512 m h1) h2) h3) h4) h5) h6 (ix2 i o)
      = m (ix2 o ⟨4 * i.val + k.val, by omega⟩) := by
  pointwise []
  congr 2
  exact Fin.ext (by show i.val * 4 + k.val = 4 * i.val + k.val; omega)

theorem tap3 (m : S128x384.Idx → EReal) (k : Fin 3) (h1 h2 h3 h4 h5 h6) (i o : Fin 128) :
    shapeCast (s := S128x128) S128x128 (shapeCast (s := S128x1x128) S128x128 (extractStridedSlice (s := S128x3x128) S128x1x128 ![0, k.val, 0] (shapeCast (s := S384x128) S128x3x128 (transpose (s := S128x384) S384x128 [1, 0] (shapeCast S128x384 m h1) h2) h3) h4) h5) h6 (ix2 i o)
      = m (ix2 o ⟨3 * i.val + k.val, by omega⟩) := by
  pointwise []
  congr 2
  exact Fin.ext (by show i.val * 3 + k.val = 3 * i.val + k.val; omega)

theorem col (m : S128x3.Idx → EReal) (k : Fin 3) (h1 h2 h3) (i : Fin 128) :
    shapeCast (s := S128x1) S128x1 (extractStridedSlice (s := S128x3) S128x1 ![0, k.val] (shapeCast S128x3 m h1) h2) h3 (ix2 i 0) = m (ix2 i k) := by
  pointwise []
  congr 2

theorem zeros (a : Fin 512) (b : Fin 4) : k0_pay101 (F := Ideal) (ix2 a b) = 0 ∧ k0_pay102 (F := Ideal) (ix2 a b) = 0 ∧ k0_pay103 (F := Ideal) (ix2 a b) = 0 := by
  refine ⟨?_, ?_, ?_⟩
  · pointwise [k0_pay101]
  · pointwise [k0_pay102]
  · pointwise [k0_pay103]

theorem first_w (x : S128x4.Idx → EReal) (w : Fin 128 → Fin 1 → Fin 4 → EReal) (hx : ∀ o k, x (ix2 o k) = w o 0 k) (j : Fin 8) (c : Fin 256) :
    k0_pay96 (F := Ideal) x (ix2 j c) = if h : c.val < 128 then (if h' : j.val < 4 then w ⟨c.val, h⟩ 0 ⟨j.val, h'⟩ else 0)
      else if j.val < 2 then 0 else if h' : j.val - 2 < 4 then w ⟨c.val - 128, by omega⟩ 0 ⟨j.val - 2, h'⟩ else 0 := by
  pointwise [k0_pay96]
  simp only [← hx]
  rfl

theorem two_cb (x : S512x128.Idx → EReal) (i : Fin 128) (k : Fin 512) : k0_pay99 (F := Ideal) x (ix2 i k) = ((-2 : ℝ) : EReal) * x (ix2 k i) := by
  have e : k0_pay99 (F := Ideal) x (ix2 i k) = Ideal.ofBits .f32 0xC0000000#32 * x (ix2 k i) := by
    pointwise [k0_pay99, k0_pay97]; rfl
  rw [e, two_word]

theorem sq_cb (x : S512x128.Idx → EReal) (k : Fin 512) : k0_pay98 (F := Ideal) x (ix2 0 k) = ∑ i, x (ix2 k i) * x (ix2 k i) := by
  pointwise [k0_pay98, k0_pay97]
  rfl

section Lanes
variable {sg : RefSig} {κ : Kind} {sp : Space} {v : View sg κ sp (⟨2, ![512, 4]⟩ : Shape) .f32} {f : v.ty.Contents (Elt Ideal)} {w : Fin 1 → Fin 128 → Fin 3 → EReal}

theorem lane_A {a : (⟨2, ![128, 1]⟩ : Shape).Idx → EReal} {i0 i1} (h0 : ∀ i, a (ix2 i 0) = w 0 i 0) :
    ByLane (v.read (Elt Ideal) (v.writes (Elt Ideal) f
      [(⟨Rect.unit (s := ⟨2, ![512, 4]⟩) ![384, 0] ![128, 1] i1, a⟩ : View.Piece (Elt Ideal) (⟨2, ![512, 4]⟩ : Shape) .f32),
      (⟨Rect.unit (s := ⟨2, ![512, 4]⟩) ![0, 0] ![512, 4] i0, k0_pay101 (F := Ideal)⟩ : View.Piece (Elt Ideal) (⟨2, ![512, 4]⟩ : Shape) .f32)])) (wA w) := by
  intro c q
  rw [read_col v f 3 384 0 rfl i1 a _ h0, read_whole, (zeros c q).1]
  rfl

theorem lane_C {a : (⟨2, ![128, 1]⟩ : Shape).Idx → EReal} {i0 i1} (h0 : ∀ i, a (ix2 i 0) = w 0 i 2) :
    ByLane (v.read (Elt Ideal) (v.writes (Elt Ideal) f
      [(⟨Rect.unit (s := ⟨2, ![512, 4]⟩) ![0, 3] ![128, 1] i1, a⟩ : View.Piece (Elt Ideal) (⟨2, ![512, 4]⟩ : Shape) .f32),
      (⟨Rect.unit (s := ⟨2, ![512, 4]⟩) ![0, 0] ![512, 4] i0, k0_pay103 (F := Ideal)⟩ : View.Piece (Elt Ideal) (⟨2, ![512, 4]⟩ : Shape) .f32)])) (wC w) := by
  intro c q
  rw [read_col v f 0 0 3 rfl i1 a _ h0, read_whole, (zeros c q).2.2]
  rfl

theorem lane_B {a33 a23 a32 a22 a12 a21 a11 a01 a10 a00 : (⟨2, ![128, 1]⟩ : Shape).Idx → EReal} {j33 j23 j32 j22 j12 j21 j11 j01 j10 j00 i0}
    (h33 : ∀ i, a33 (ix2 i 0) = w 0 i 1) (h23 : ∀ i, a23 (ix2 i 0) = w 0 i 0) (h32 : ∀ i, a32 (ix2 i 0) = w 0 i 2) (h22 : ∀ i, a22 (ix2 i 0) = w 0 i 1)
    (h12 : ∀ i, a12 (ix2 i 0) = w 0 i 0) (h21 : ∀ i, a21 (ix2 i 0) = w 0 i 2) (h11 : ∀ i, a11 (ix2 i 0) = w 0 i 1) (h01 : ∀ i, a01 (ix2 i 0) = w 0 i 0)
    (h10 : ∀ i, a10 (ix2 i 0) = w 0 i 2) (h00 : ∀ i, a00 (ix2 i 0) = w 0 i 1) :
    ByLane (v.read (Elt Ideal) (v.writes (Elt Ideal) f
      [(⟨Rect.unit (s := ⟨2, ![512, 4]⟩) ![384, 3] ![128, 1] j33, a33⟩ : View.Piece (Elt Ideal) (⟨2, ![512, 4]⟩ : Shape) .f32),
      (⟨Rect.unit (s := ⟨2, ![512, 4]⟩) ![256, 3] ![128, 1] j23, a23⟩ : View.Piece (Elt Ideal) (⟨2, ![512, 4]⟩ : Shape) .f32),
      (⟨Rect.unit (s := ⟨2, ![512, 4]⟩) ![384, 2] ![128, 1] j32, a32⟩ : View.Piece (Elt Ideal) (⟨2, ![512, 4]⟩ : Shape) .f32),
      (⟨Rect.unit (s := ⟨2, ![512, 4]⟩) ![256, 2] ![128, 1] j22, a22⟩ : View.Piece (Elt Ideal) (⟨2, ![512, 4]⟩ : Shape) .f32),
      (⟨Rect.unit (s := ⟨2, ![512, 4]⟩) ![128, 2] ![128, 1] j12, a12⟩ : View.Piece (Elt Ideal) (⟨2, ![512, 4]⟩ : Shape) .f32),
      (⟨Rect.unit (s := ⟨2, ![512, 4]⟩) ![256, 1] ![128, 1] j21, a21⟩ : View.Piece (Elt Ideal) (⟨2, ![512, 4]⟩ : Shape) .f32),
      (⟨Rect.unit (s := ⟨2, ![512, 4]⟩) ![128, 1] ![128, 1] j11, a11⟩ : View.Piece (Elt Ideal) (⟨2, ![512, 4]⟩ : Shape) .f32),
      (⟨Rect.unit (s := ⟨2, ![512, 4]⟩) ![0, 1] ![128, 1] j01, a01⟩ : View.Piece (Elt Ideal) (⟨2, ![512, 4]⟩ : Shape) .f32),
      (⟨Rect.unit (s := ⟨2, ![512, 4]⟩) ![128, 0] ![128, 1] j10, a10⟩ : View.Piece (Elt Ideal) (⟨2, ![512, 4]⟩ : Shape) .f32),
      (⟨Rect.unit (s := ⟨2, ![512, 4]⟩) ![0, 0] ![128, 1] j00, a00⟩ : View.Piece (Elt Ideal) (⟨2, ![512, 4]⟩ : Shape) .f32),
      (⟨Rect.unit (s := ⟨2, ![512, 4]⟩) ![0, 0] ![512, 4] i0, k0_pay102 (F := Ideal)⟩ : View.Piece (Elt Ideal) (⟨2, ![512, 4]⟩ : Shape) .f32)])) (wB w) := by
  intro c q
  rw [read_col v f 3 384 3 rfl j33 a33 _ h33, read_col v f 2 256 3 rfl j23 a23 _ h23, read_col v f 3 384 2 rfl j32 a32 _ h32, read_col v f 2 256 2 rfl j22 a22 _ h22,
    read_col v f 1 128 2 rfl j12 a12 _ h12, read_col v f 2 256 1 rfl j21 a21 _ h21, read_col v f 1 128 1 rfl j11 a11 _ h11, read_col v f 0 0 1 rfl j01 a01 _ h01,
    read_col v f 1 128 0 rfl j10 a10 _ h10, read_col v f 0 0 0 rfl j00 a00 _ h00, read_whole, (zeros c q).2.1]
  unfold wB
  have hl : c.val / 128 < 4 := by omega
  generalize c.val / 128 = l at hl ⊢
  generalize (⟨c.val % 128, _⟩ : Fin 128) = x
  fin_cases q <;> (interval_cases l <;> simp)

end Lanes

/-- The arguments of a grid point, whose batches are `bt`. -/
structure Ins (n : Net) (bt : Fin 8 → Fin 16) (x0 : S8x512x4.Idx → EReal) (x1 : S128x4.Idx → EReal) (x2 : S1x128.Idx → EReal) (x3 : S128x512.Idx → EReal) (x4 : S1x128.Idx → EReal)
    (x5 : S128x384.Idx → EReal) (x6 : S1x128.Idx → EReal) (x7 : S512x128.Idx → EReal) (x8 : S128x384.Idx → EReal) (x9 : S1x128.Idx → EReal) (x10 : S128x512.Idx → EReal)
    (x11 : S1x128.Idx → EReal) (x12 : S128x512.Idx → EReal) (x13 : S1x128.Idx → EReal) (x14 : S128x3.Idx → EReal) (x15 : S1x1.Idx → EReal) : Prop where
  a0 : ∀ k t q, x0 (ix3 k t q) = laneX (n.x (bt k)) q t
  a1 : ∀ o k, x1 (ix2 o k) = n.we1 o 0 k
  a2 : ∀ o, x2 (ix2 0 o) = n.be1 o
  a3 : ∀ (o i : Fin 128) (k : Fin 4), x3 (ix2 o ⟨4 * i.val + k.val, by omega⟩) = n.we2 o i k
  a4 : ∀ o, x4 (ix2 0 o) = n.be2 o
  a5 : ∀ (o i : Fin 128) (k : Fin 3), x5 (ix2 o ⟨3 * i.val + k.val, by omega⟩) = n.we3 o i k
  a6 : ∀ o, x6 (ix2 0 o) = n.be3 o
  a7 : ∀ k i, x7 (ix2 k i) = n.cb k i
  a8 : ∀ (o i : Fin 128) (k : Fin 3), x8 (ix2 o ⟨3 * i.val + k.val, by omega⟩) = n.wd0 o i k
  a9 : ∀ o, x9 (ix2 0 o) = n.bd0 o
  a10 : ∀ (o i : Fin 128) (k : Fin 4), x10 (ix2 o ⟨4 * i.val + k.val, by omega⟩) = n.wt1 o i k
  a11 : ∀ o, x11 (ix2 0 o) = n.bt1 o
  a12 : ∀ (o i : Fin 128) (k : Fin 4), x12 (ix2 o ⟨4 * i.val + k.val, by omega⟩) = n.wt2 o i k
  a13 : ∀ o, x13 (ix2 0 o) = n.bt2 o
  a14 : ∀ i k, x14 (ix2 i k) = n.wo 0 i k
  a15 : x15 (ix2 0 0) = n.bo 0

/-- The first layer's weights for two positions at once. -/
def Pair (Q : S8x256.Idx → EReal) (w : Fin 128 → Fin 1 → Fin 4 → EReal) : Prop := ∀ (j : Fin 8) (c : Fin 256),
  Q (ix2 j c) = if h : c.val < 128 then (if h' : j.val < 4 then w ⟨c.val, h⟩ 0 ⟨j.val, h'⟩ else 0)
    else if j.val < 2 then 0 else if h' : j.val - 2 < 4 then w ⟨c.val - 128, by omega⟩ 0 ⟨j.val - 2, h'⟩ else 0

/-- The scratch buffers that carry the weights from the first grid point to the next. -/
structure Wts (n : Net) (q7 : S512x128.Idx → EReal) (q8 q9 : S384x128.Idx → EReal) (q10 q11 : S512x128.Idx → EReal) (q12 : S8x256.Idx → EReal) (q13 q14 q15 : S512x4.Idx → EReal)
    (q16 : S128x512.Idx → EReal) (q17 : S1x512.Idx → EReal) : Prop where
  b7 : Taps (T := 4) q7 n.we2
  b8 : Taps (T := 3) q8 n.we3
  b9 : Taps (T := 3) q9 n.wd0
  b10 : Taps (T := 4) q10 n.wt1
  b11 : Taps (T := 4) q11 n.wt2
  b12 : Pair q12 n.we1
  b13 : ByLane q13 (wA n.wo)
  b14 : ByLane q14 (wB n.wo)
  b15 : ByLane q15 (wC n.wo)
  b16 : ∀ i k, q16 (ix2 i k) = ((-2 : ℝ) : EReal) * n.cb k i
  b17 : ∀ k, q17 (ix2 0 k) = ∑ i, n.cb k i * n.cb k i

section Layers
variable {n : Net} {bt : Fin 8 → Fin 16}

/-- The first layer. -/
theorem layer1 {P : S4176x4.Idx → EReal} {Q : S8x256.Idx → EReal} {B : S1x128.Idx → EReal} {v43 v44 v45 v47 v50} (hP : Padded P fun k => laneX (n.x (bt k))) (hQ : Pair Q n.we1) (hB : ∀ o, B (ix2 0 o) = n.be1 o)
    (s43 : Seen P 7 3 v43) (s44 : Seen P 8 0 v44) (s45 : Seen P 9 0 v45) (s47 : Seen B 0 0 v47) (s50 : Seen Q 0 0 v50) :
    Agree (k0_pay127 (F := Ideal) v43 v44 v45 v47 v50) fun k => lane2 (n.h1 (bt k)) :=
  st_h1 (X := fun k => n.x (bt k)) (fun k t => s43.win_at 0 hP (by omega) rfl k t 0 (by simp)) (s44.win 1 hP (by omega) rfl) (fun k t => s45.win_at 2 hP (by omega) rfl k t 0 (by simp))
    (by rw [s47.all]; exact hB) (fun j c => by
      rw [s50 j c (by omega) (by omega), hQ]
      simp)

/-- The second layer. -/
theorem layer2 {P : S4176x256.Idx → EReal} {Q : S512x128.Idx → EReal} {B : S1x128.Idx → EReal} {v88 v89 v91 v92 v95 v96 v99} (hP : Padded P fun k => lane2 (n.h1 (bt k))) (hQ : Taps (T := 4) Q n.we2) (hB : ∀ o, B (ix2 0 o) = n.be2 o)
    (s88 : Seen P 7 128 v88) (s89 : Seen Q 0 0 v89) (s91 : Seen P 8 0 v91) (s92 : Seen Q 128 0 v92) (s95 : Seen P 9 0 v95) (s96 : Seen Q 384 0 v96) (s99 : Seen B 0 0 v99) :
    Agree (k0_pay136 (F := Ideal) v88 v89 v91 v92 v95 v96 v99) fun k o t => n.h2 (bt k) o t :=
  st_h2 (H1 := fun k => n.h1 (bt k)) (fun k t i => s88.win_at 0 hP (by omega) rfl k t i (by omega)) (s91.win 1 hP (by omega) rfl)
    (fun k t i => (s95.win_at 2 hP (by omega) rfl k t i (by omega)).trans (by congr 2; exact Fin.ext (by simp)))
    (fun i o => Seen.tap 0 s89 hQ i i o (by simp)) (fun i o => Seen.tap 1 s92 hQ _ i o (by simp)) (fun i o => Seen.tap 2 s92 hQ _ i o (by simp; omega))
    (fun i o => Seen.tap 3 s96 hQ i i o (by simp)) (by rw [s99.all]; exact hB)

/-- The rows before the codebook. -/
theorem layer3 {P : S4176x128.Idx → EReal} {Q : S384x128.Idx → EReal} {B : S1x128.Idx → EReal} {p0 w0 p1 w1 p2 w2 bb} (hP : Padded P fun k => n.h2 (bt k)) (hQ : Taps (T := 3) Q n.we3) (hB : ∀ o, B (ix2 0 o) = n.be3 o)
    (s0 : Seen P 7 0 p0) (t0 : Seen Q 0 0 w0) (s1 : Seen P 8 0 p1) (t1 : Seen Q 128 0 w1) (s2 : Seen P 9 0 p2) (t2 : Seen Q 256 0 w2) (sb : Seen B 0 0 bb) :
    Agree (k0_pay146 (F := Ideal) p0 w0 p1 w1 p2 w2 bb) fun k o t => n.z (bt k) o t :=
  st_z (H := fun k => n.h2 (bt k)) (s0.win 0 hP (by omega) rfl) (s1.win 1 hP (by omega) rfl) (s2.win 2 hP (by omega) rfl)
    (fun i o => Seen.tap 0 t0 hQ i i o (by simp)) (fun i o => Seen.tap 1 t1 hQ i i o (by simp)) (fun i o => Seen.tap 2 t2 hQ i i o (by simp)) (by rw [sb.all]; exact hB)

theorem the_code {z : S4160x128.Idx → EReal} {b : S128x512.Idx → EReal} {d : S1x512.Idx → EReal} {q16 : S128x512.Idx → EReal} {q17 : S1x512.Idx → EReal}
    (hz : Agree z fun k o t => n.z (bt k) o t) (h16 : ∀ i k, q16 (ix2 i k) = ((-2 : ℝ) : EReal) * n.cb k i)
    (h17 : ∀ k, q17 (ix2 0 k) = ∑ i, n.cb k i * n.cb k i) (sb : Seen q16 0 0 b) (sd : Seen q17 0 0 d) (k : Fin 8) (t : Fin 512) :
    rowCode z b d (row k t) = n.code (bt k) t :=
  rowCode_eq hz (by rw [sb.all]; exact h16) (by rw [sd.all]; exact h17) k t

/-- The codebook's rows taken. -/
theorem layer4 {z : S4160x128.Idx → EReal} {cb : S512x128.Idx → EReal} {b : S128x512.Idx → EReal} {d : S1x512.Idx → EReal} {x7 : S512x128.Idx → EReal}
    (hc : ∀ k t, rowCode z b d (row k t) = n.code (bt k) t) (h7 : ∀ k i, x7 (ix2 k i) = n.cb k i) (s7 : Seen x7 0 0 cb) :
    Agree (k0_pay148 (F := Ideal) z cb b d) fun k o t => n.q (bt k) o t := fun k t c => by
  rw [st_q (C := n.cb) (by rw [s7.all]; exact h7), hc]
  rfl

theorem counts {z : S4160x128.Idx → EReal} {b : S128x512.Idx → EReal} {d : S1x512.Idx → EReal} (hc : ∀ k t, rowCode z b d (row k t) = n.code (bt k) t) (k : Fin 512) :
    k0_pay151 (F := Ideal) (k0_pay147 z b d) (k0_pay149 z b d) (k0_pay150 z b d) (ix2 0 k) = ∑ i, n.cnt (bt i) k := by
  rw [st_count]
  exact Finset.sum_congr rfl fun i _ => Finset.sum_congr rfl fun t _ => by rw [hc]

theorem squares {z q : S4160x128.Idx → EReal} (hz : Agree z fun k o t => n.z (bt k) o t) (hq : Agree q fun k o t => n.q (bt k) o t) :
    k0_pay154 (F := Ideal) z q (iota .tc S4160x1 32 [0] iota_S4160x1_d0_w32) k0_pay152 k0_pay153 2600#32 (ix2 0 0) = ∑ i, n.sq (bt i) := by
  rw [st_sq]
  exact Finset.sum_congr rfl fun i _ => Finset.sum_congr rfl fun t _ => Finset.sum_congr rfl fun c _ => by rw [hz, hq]

/-- The decoder's first layer. -/
theorem layer5 {P : S4176x128.Idx → EReal} {Q : S384x128.Idx → EReal} {B : S1x128.Idx → EReal} {p0 w0 p1 w1 p2 w2 bb} (hP : Padded P fun k => n.q (bt k)) (hQ : Taps (T := 3) Q n.wd0) (hB : ∀ o, B (ix2 0 o) = n.bd0 o)
    (s0 : Seen P 7 0 p0) (t0 : Seen Q 0 0 w0) (s1 : Seen P 8 0 p1) (t1 : Seen Q 128 0 w1) (s2 : Seen P 9 0 p2) (t2 : Seen Q 256 0 w2) (sb : Seen B 0 0 bb) :
    Agree (k0_pay167 (F := Ideal) p0 w0 p1 w1 p2 w2 bb) fun k o t => n.u (bt k) o t :=
  st_u (H := fun k => n.q (bt k)) (s0.win 0 hP (by omega) rfl) (s1.win 1 hP (by omega) rfl) (s2.win 2 hP (by omega) rfl)
    (fun i o => Seen.tap 0 t0 hQ i i o (by simp)) (fun i o => Seen.tap 1 t1 hQ i i o (by simp)) (fun i o => Seen.tap 2 t2 hQ i i o (by simp)) (by rw [sb.all]; exact hB)

/-- The first step up, even positions. -/
theorem layer6e {P : S4176x128.Idx → EReal} {Q : S512x128.Idx → EReal} {B : S1x128.Idx → EReal} {bb w2 w1 p1 p0 w0} (hP : Padded P fun k => n.u (bt k)) (hQ : Taps (T := 4) Q n.wt1) (hB : ∀ o, B (ix2 0 o) = n.bt1 o)
    (sb : Seen B 0 0 bb) (t2 : Seen Q 256 0 w2) (s1 : Seen P 8 0 p1) (s0 : Seen P 7 0 p0) (t0 : Seen Q 0 0 w0) :
    Agree (k0_pay179 (F := Ideal) bb w2 w1 p1 p0 w0) fun k o t => n.v1 (bt k) o ⟨2 * t.val, by omega⟩ :=
  st_v1e (U := fun k => n.u (bt k)) (by rw [sb.all]; exact hB) (s0.win 0 hP (by omega) rfl) (s1.win 1 hP (by omega) rfl) (fun i o => Seen.tap 0 t0 hQ i i o (by simp)) (fun i o => Seen.tap 2 t2 hQ i i o (by simp))

/-- The first step up, odd positions. -/
theorem layer6o {P : S4176x128.Idx → EReal} {Q : S512x128.Idx → EReal} {B : S1x128.Idx → EReal} {bb w2 w1 p1 p2 w3} (hP : Padded P fun k => n.u (bt k)) (hQ : Taps (T := 4) Q n.wt1) (hB : ∀ o, B (ix2 0 o) = n.bt1 o)
    (sb : Seen B 0 0 bb) (t1 : Seen Q 128 0 w1) (s1 : Seen P 8 0 p1) (s2 : Seen P 9 0 p2) (t3 : Seen Q 384 0 w3) :
    Agree (k0_pay180 (F := Ideal) bb (k0_pay178 w2 w1 p1) p2 w3) fun k o t => n.v1 (bt k) o ⟨2 * t.val + 1, by omega⟩ :=
  st_v1o (U := fun k => n.u (bt k)) (by rw [sb.all]; exact hB) (s1.win 1 hP (by omega) rfl) (s2.win 2 hP (by omega) rfl) (fun i o => Seen.tap 1 t1 hQ i i o (by simp)) (fun i o => Seen.tap 3 t3 hQ i i o (by simp))

section Up
variable {P : S4176x256.Idx → EReal} {Q : S512x128.Idx → EReal} {B : S1x128.Idx → EReal} (hP : Padded P fun k => lane2 (n.v1 (bt k))) (hQ : Taps (T := 4) Q n.wt2) (hB : ∀ o, B (ix2 0 o) = n.bt2 o)
include hP hQ hB

theorem low {o d : ℕ} {p : S4160x128.Idx → EReal} (s : Seen P o 0 p) (hd : d ≤ 2) (ho : o = 7 + d) (k t) (i : Fin 128) : p (ix2 (row k t) i) = rd (lane2 (n.v1 (bt k)) ⟨i.val, by omega⟩) (t.val + d) :=
  (s.win_at d hP hd ho k t i (by omega)).trans (by congr 2; exact Fin.ext (by simp))

theorem layer7a {bb p0 w0 p1 w2} (sb : Seen B 0 0 bb) (s0 : Seen P 7 128 p0) (t0 : Seen Q 0 0 w0) (s1 : Seen P 8 0 p1) (t2 : Seen Q 256 0 w2) :
    Agree (k0_pay200 (F := Ideal) bb p0 w0 p1 w2) fun k o t => n.v2 (bt k) o ⟨4 * t.val, by omega⟩ :=
  st_v2a (V := fun k => n.v1 (bt k)) (by rw [sb.all]; exact hB) (fun k t i => s0.win_at 0 hP (by omega) rfl k t i (by omega)) (fun k t i => low hP hQ hB s1 (by omega) rfl k t i)
    (fun i o => Seen.tap 0 t0 hQ i i o (by simp)) (fun i o => Seen.tap 2 t2 hQ i i o (by simp))

theorem layer7m {bb w1 w0 w3 w2 p} (sb : Seen B 0 0 bb) (t1 : Seen Q 128 0 w1) (t0 : Seen Q 0 0 w0) (t3 : Seen Q 384 0 w3) (t2 : Seen Q 256 0 w2) (s : Seen P 8 0 p) (k t) (o : Fin 128) :
    k0_pay201 (F := Ideal) bb w1 w0 w3 w2 p (ix2 (row k t) ⟨o.val, by omega⟩) = n.v2 (bt k) o ⟨4 * t.val + 1, by omega⟩
    ∧ k0_pay201 (F := Ideal) bb w1 w0 w3 w2 p (ix2 (row k t) ⟨128 + o.val, by omega⟩) = n.v2 (bt k) o ⟨4 * t.val + 2, by omega⟩ :=
  st_v2m (V := fun k => n.v1 (bt k)) (by rw [sb.all]; exact hB) (s.win 1 hP (by omega) rfl)
    (fun i o => Seen.tap 0 t0 hQ i i o (by simp)) (fun i o => Seen.tap 1 t1 hQ i i o (by simp)) (fun i o => Seen.tap 2 t2 hQ i i o (by simp)) (fun i o => Seen.tap 3 t3 hQ i i o (by simp)) k t o

theorem layer7d {bb p1 w1 p2 w3} (sb : Seen B 0 0 bb) (s1 : Seen P 8 128 p1) (t1 : Seen Q 128 0 w1) (s2 : Seen P 9 0 p2) (t3 : Seen Q 384 0 w3) :
    Agree (k0_pay202 (F := Ideal) bb p1 w1 p2 w3) fun k o t => n.v2 (bt k) o ⟨4 * t.val + 3, by omega⟩ :=
  st_v2d (V := fun k => n.v1 (bt k)) (by rw [sb.all]; exact hB) (fun k t i => s1.win_at 1 hP (by omega) rfl k t i (by omega)) (fun k t i => low hP hQ hB s2 (by omega) rfl k t i)
    (fun i o => Seen.tap 1 t1 hQ i i o (by simp)) (fun i o => Seen.tap 3 t3 hQ i i o (by simp))
end Up

/-- The decoder's last layer. -/
theorem layer8 {P : S4176x512.Idx → EReal} {q13 q14 q15 : S512x4.Idx → EReal} {B : S1x1.Idx → EReal} {p0 m0 p1 m1 p2 m2 bb} (hP : Padded P fun k => lane4 (n.v2 (bt k)))
    (h13 : ByLane q13 (wA n.wo)) (h14 : ByLane q14 (wB n.wo)) (h15 : ByLane q15 (wC n.wo)) (hB : B (ix2 0 0) = n.bo 0)
    (s0 : Seen P 7 0 p0) (t0 : Seen q13 0 0 m0) (s1 : Seen P 8 0 p1) (t1 : Seen q14 0 0 m1) (s2 : Seen P 9 0 p2) (t2 : Seen q15 0 0 m2) (sb : Seen B 0 0 bb) :
    Agree (k0_pay228 (F := Ideal) p0 m0 p1 m1 p2 m2 bb) fun k q t => n.out (bt k) ⟨4 * t.val + q.val, by omega⟩ :=
  st_out (V := fun k => n.v2 (bt k)) (s0.win 0 hP (by omega) rfl) (s1.win 1 hP (by omega) rfl) (s2.win 2 hP (by omega) rfl)
    (by rw [t0.all]; exact h13) (by rw [t1.all]; exact h14) (by rw [t2.all]; exact h15) (by rw [sb.all]; exact hB)

end Layers

end Cert.Pay
end
-- ==== Proof.Args.lean ====
/- What the kernel's grid points are given: the launch reshapes the arguments, and each grid point's blocks of them are the coordinates of the model the arguments spell. -/
module

public import proofs.«01_k».proof.Proof.Lay
public import proofs.«01_k».proof.Proof.Gen.Own.KernelIdeal.Value
public import Idealize.ShloMosaic.Lib.Pipeline.ValueKit
public import Idealize.ShloMosaic.Lib.Claim

@[expose] public section

set_option maxRecDepth 16384

noncomputable section

namespace Cert.Pay

open Idealize.ShloMosaic hiding ix0 ix1 ix2 ix3 ix4
open Idealize.ShloMosaic.ValueIdx
open Cert.Spec Cert.Rows Cert.KernelIdeal Cert.KernelIdeal.Gen Idealize.SL.Sem
open Idealize.ShloMosaic.TcCoe

variable [Cert.KernelIdeal.Facts]
variable (m : (ℓ : Loc nD τ sig) → Buf (Elt Ideal) ℓ) (c : Dev nD)

/-- The model the kernel's arguments spell. -/
abbrev model : Net := netOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15))

/-- The batch that a grid point's block holds at place `k`. -/
def batch (t : Fin cfg0.N) (k : Fin 8) : Fin 16 := ⟨8 * (t.val % 2) + k.val, by omega⟩

/-- Every window but the first is the same block at both grid points. -/
theorem places : ∀ t : Fin grid0.N, win0_0.index t = ![t.val % 2, 0, 0] ∧ win0_1.index t = ![0, 0] ∧ win0_2.index t = ![0, 0] ∧ win0_3.index t = ![0, 0] ∧ win0_4.index t = ![0, 0] ∧ win0_5.index t = ![0, 0] ∧ win0_6.index t = ![0, 0] ∧ win0_7.index t = ![0, 0] ∧ win0_8.index t = ![0, 0] ∧ win0_9.index t = ![0, 0] ∧ win0_10.index t = ![0, 0] ∧ win0_11.index t = ![0, 0] ∧ win0_12.index t = ![0, 0] ∧ win0_13.index t = ![0, 0] ∧ win0_14.index t = ![0, 0] ∧ win0_15.index t = ![0, 0] := by
  decide +kernel

/-- The last offset. -/
theorem in15 (t : Fin cfg0.N) : iblk m c 15 t (ix2 0 0) = (model m c).bo 0 := by
  blk_ext! [iblk, V, places t]

set_option maxHeartbeats 2000000 in
/-- Both grid points are given the weights, and the first eight batches and the other eight. -/
theorem ins (t : Fin cfg0.N) : Ins (model m c) (batch t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) where
  a0 := fun k u q => by
    blk_ext! [iblk, V, batch, places t]
    · show t.val % 2 * 8 + k.val = 8 * (t.val % 2) + k.val; omega
    · show u.val * 4 + q.val = 4 * u.val + q.val; omega
  a1 := fun o k => by blk_ext! [iblk, V, places t]
  a2 := fun o => by blk_ext! [iblk, V, places t]
  a3 := fun o i k => by
    blk_ext! [iblk, V, places t]
    · show (4 * i.val + k.val) / 4 = i.val; omega
    · show (4 * i.val + k.val) % 4 = k.val; omega
  a4 := fun o => by blk_ext! [iblk, V, places t]
  a5 := fun o i k => by
    blk_ext! [iblk, V, places t]
    · show (3 * i.val + k.val) / 3 = i.val; omega
    · show (3 * i.val + k.val) % 3 = k.val; omega
  a6 := fun o => by blk_ext! [iblk, V, places t]
  a7 := fun k i => by blk_ext! [iblk, V, places t]
  a8 := fun o i k => by
    blk_ext! [iblk, V, places t]
    · show (3 * i.val + k.val) / 3 = i.val; omega
    · show (3 * i.val + k.val) % 3 = k.val; omega
  a9 := fun o => by blk_ext! [iblk, V, places t]
  a10 := fun o i k => by
    blk_ext! [iblk, V, places t]
    · show (4 * i.val + k.val) / 4 = i.val; omega
    · show (4 * i.val + k.val) % 4 = k.val; omega
  a11 := fun o => by blk_ext! [iblk, V, places t]
  a12 := fun o i k => by
    blk_ext! [iblk, V, places t]
    · show (4 * i.val + k.val) / 4 = i.val; omega
    · show (4 * i.val + k.val) % 4 = k.val; omega
  a13 := fun o => by blk_ext! [iblk, V, places t]
  a14 := fun i k => by blk_ext! [iblk, V, places t]
  a15 := in15 m c t

end Cert.Pay
end
-- ==== Proof.Ends.lean ====
/- The buffers at the two ends of a grid point: the input's rows, the zeroed gaps, the results of each batch, and what is left for the next point. -/
module

public import Idealize.ShloMosaic.Lib.Pipeline.ValueKit
public import proofs.«01_k».proof.Proof.Lay

@[expose] public section
set_option maxRecDepth 16384
noncomputable section
namespace Cert.Pay
open Idealize.ShloMosaic hiding ix0 ix1 ix2 ix3 ix4
open Idealize.ShloMosaic.ValueIdx
open Cert.Spec Cert.Rows Cert.KernelIdeal Cert.KernelIdeal.Gen
variable [Cert.KernelIdeal.Facts]

section General
variable {sg : RefSig} {κ : Kind} {sp : Space}

theorem zero_block {s : Shape} (h : s.ShapeCasts s) (x : s.Idx) : shapeCast s (broadcast s (Scalar.ofBits (F := Ideal) .f32 0x00000000#32)) h x = 0 := by
  rw [shapeCast_self]
  show Ideal.ofBits .f32 0#32 = 0
  simp [Ideal.ofBits, Ideal.ieee]

theorem gap_fills {C : ℕ} (v : View sg κ sp (⟨2, ![4176, C]⟩ : Shape) .f32) (f : v.ty.Contents (Elt Ideal))
    {w0 w1 w2 w3 w4 w5 w6 w7 : (⟨2, ![8, C]⟩ : Shape).Idx → EReal} {w8 : (⟨2, ![16, C]⟩ : Shape).Idx → EReal} {i0 i1 i2 i3 i4 i5 i6 i7 i8}
    {L : List (View.Piece (Elt Ideal) (⟨2, ![4176, C]⟩ : Shape) .f32)}
    (h8 : ∀ x, w8 x = 0) (h7 : ∀ x, w7 x = 0) (h6 : ∀ x, w6 x = 0) (h5 : ∀ x, w5 x = 0) (h4 : ∀ x, w4 x = 0) (h3 : ∀ x, w3 x = 0) (h2 : ∀ x, w2 x = 0) (h1 : ∀ x, w1 x = 0) (h0 : ∀ x, w0 x = 0) :
    Gap (v.read (Elt Ideal) (v.writes (Elt Ideal) f
      ((⟨Rect.unit (s := ⟨2, ![4176, C]⟩) ![4160, 0] ![16, C] i8, w8⟩ : View.Piece (Elt Ideal) (⟨2, ![4176, C]⟩ : Shape) .f32) ::
      (⟨Rect.unit (s := ⟨2, ![4176, C]⟩) ![3640, 0] ![8, C] i7, w7⟩ : View.Piece (Elt Ideal) (⟨2, ![4176, C]⟩ : Shape) .f32) ::
      (⟨Rect.unit (s := ⟨2, ![4176, C]⟩) ![3120, 0] ![8, C] i6, w6⟩ : View.Piece (Elt Ideal) (⟨2, ![4176, C]⟩ : Shape) .f32) ::
      (⟨Rect.unit (s := ⟨2, ![4176, C]⟩) ![2600, 0] ![8, C] i5, w5⟩ : View.Piece (Elt Ideal) (⟨2, ![4176, C]⟩ : Shape) .f32) ::
      (⟨Rect.unit (s := ⟨2, ![4176, C]⟩) ![2080, 0] ![8, C] i4, w4⟩ : View.Piece (Elt Ideal) (⟨2, ![4176, C]⟩ : Shape) .f32) ::
      (⟨Rect.unit (s := ⟨2, ![4176, C]⟩) ![1560, 0] ![8, C] i3, w3⟩ : View.Piece (Elt Ideal) (⟨2, ![4176, C]⟩ : Shape) .f32) ::
      (⟨Rect.unit (s := ⟨2, ![4176, C]⟩) ![1040, 0] ![8, C] i2, w2⟩ : View.Piece (Elt Ideal) (⟨2, ![4176, C]⟩ : Shape) .f32) ::
      (⟨Rect.unit (s := ⟨2, ![4176, C]⟩) ![520, 0] ![8, C] i1, w1⟩ : View.Piece (Elt Ideal) (⟨2, ![4176, C]⟩ : Shape) .f32) ::
      (⟨Rect.unit (s := ⟨2, ![4176, C]⟩) ![0, 0] ![8, C] i0, w0⟩ : View.Piece (Elt Ideal) (⟨2, ![4176, C]⟩ : Shape) .f32) :: L))) :=
  fun r c hr => read_fills (Val := Elt Ideal) (e := .f32) v f (0 : EReal) h0 h1 h2 h3 h4 h5 h6 h7 h8 L r c hr

/-- The input's rows. -/
def xrows (n : Net) (bt : Fin 8 → Fin 16) : S4160x4.Idx → EReal := fun j =>
  if h : (j 0).val % 520 < 512 then laneX (n.x (bt ⟨(j 0).val / 520, by have : (j 0).val < 4160 := (j 0).isLt; omega⟩)) (j 1) ⟨(j 0).val % 520, h⟩ else 0

theorem xrows_agree (n : Net) (bt : Fin 8 → Fin 16) : Agree (xrows n bt) fun k => laneX (n.x (bt k)) := fun k t q => by
  have e0 : (520 * k.val + t.val) % 520 = t.val := by omega
  have e1 : (520 * k.val + t.val) / 520 = k.val := by omega
  refine (dif_pos (by show (520 * k.val + t.val) % 520 < 512; omega)).trans ?_
  exact congrArg₂ (fun (a : Fin 8) (b : Fin 512) => laneX (n.x (bt a)) q b) (Fin.ext e1) (Fin.ext e0)

theorem flat_block (y : S1x512x4.Idx → EReal) (h1 h2) (t : Fin 512) (q : Fin 4) : shapeCast (s := S512x4) S512x4 (shapeCast (s := S1x512x4) S512x4 y h1) h2 (ix2 t q) = y (ix3 0 t q) := by
  pointwise []
  rfl

theorem cut_x {n : Net} {bt : Fin 8 → Fin 16} {v : Memref sg κ sp S8x512x4 .f32} (hv : v.IsWhole) {x : S8x512x4.Idx → EReal} (hx : ∀ k t q, x (ix3 k t q) = laneX (n.x (bt k)) q t) (k o : ℕ) (hk : k < 8) (ho : o = 520 * k) (inb h1 h2) :
    Cut (xrows n bt) o (shapeCast S512x4 (shapeCast S512x4 (View.readAt (Elt Ideal) v.view (Rect.unit (s := S8x512x4) ![k, 0, 0] S1x512x4.size inb).toLoadRect (hv.unread (Val := Elt Ideal) x)) h1) h2) := by
  intro t q r hr
  subst ho
  show _ = xrows n bt (ix2 r q)
  have e := (seen3_un hv x k hk inb t q).trans (hx _ _ _)
  rw [show r = row ⟨k, hk⟩ t from Fin.ext hr, xrows_agree]
  exact (flat_block _ _ _ t q).trans e

theorem piece4 {v : Memref sg κ sp S128x512 .f32} (hv : v.IsWhole) {x : S128x512.Idx → EReal} {w : Fin 128 → Fin 128 → Fin 4 → EReal} (hx : ∀ (o i : Fin 128) (k : Fin 4), x (ix2 o ⟨4 * i.val + k.val, by omega⟩) = w o i k)
    (k : Fin 4) {inb h1 h2 h3 h4 h5 h6} (i o : Fin 128) :
    shapeCast (s := S128x128) S128x128 (shapeCast (s := S128x1x128) S128x128 (extractStridedSlice (s := S128x4x128) S128x1x128 ![0, k.val, 0] (shapeCast (s := S512x128) S128x4x128 (transpose (s := S128x512) S512x128 [1, 0]
      (shapeCast S128x512 (View.readAt (Elt Ideal) v.view (Rect.unit (s := S128x512) ![0, 0] S128x512.size inb).toLoadRect (hv.unread (Val := Elt Ideal) x)) h1) h2) h3) h4) h5) h6 (ix2 i o) = w o i k := by
  rw [tap4, (seen_un hv x 0 0 inb).all]; exact hx o i k

theorem piece3 {v : Memref sg κ sp S128x384 .f32} (hv : v.IsWhole) {x : S128x384.Idx → EReal} {w : Fin 128 → Fin 128 → Fin 3 → EReal} (hx : ∀ (o i : Fin 128) (k : Fin 3), x (ix2 o ⟨3 * i.val + k.val, by omega⟩) = w o i k)
    (k : Fin 3) {inb h1 h2 h3 h4 h5 h6} (i o : Fin 128) :
    shapeCast (s := S128x128) S128x128 (shapeCast (s := S128x1x128) S128x128 (extractStridedSlice (s := S128x3x128) S128x1x128 ![0, k.val, 0] (shapeCast (s := S384x128) S128x3x128 (transpose (s := S128x384) S384x128 [1, 0]
      (shapeCast S128x384 (View.readAt (Elt Ideal) v.view (Rect.unit (s := S128x384) ![0, 0] S128x384.size inb).toLoadRect (hv.unread (Val := Elt Ideal) x)) h1) h2) h3) h4) h5) h6 (ix2 i o) = w o i k := by
  rw [tap3, (seen_un hv x 0 0 inb).all]; exact hx o i k

theorem piece_col {v : Memref sg κ sp S128x3 .f32} (hv : v.IsWhole) {x : S128x3.Idx → EReal} {w : Fin 1 → Fin 128 → Fin 3 → EReal} (hx : ∀ i k, x (ix2 i k) = w 0 i k) (k : Fin 3) {inb h1 h2 h3} (i : Fin 128) :
    shapeCast (s := S128x1) S128x1 (extractStridedSlice (s := S128x3) S128x1 ![0, k.val] (shapeCast S128x3 (View.readAt (Elt Ideal) v.view (Rect.unit (s := S128x3) ![0, 0] S128x3.size inb).toLoadRect (hv.unread (Val := Elt Ideal) x)) h1) h2) h3 (ix2 i 0) = w 0 i k := by
  rw [col, (seen_un hv x 0 0 inb).all]; exact hx i k

end General

theorem Seen.cast {x w : S1x128.Idx → EReal} (s : Seen x 0 0 w) (h) : Seen x 0 0 (shapeCast (s := S1x128) S1x128 w h) := fun r c hr hc =>
  (show shapeCast (s := S1x128) S1x128 w h (ix2 r c) = w (ix2 r c) by pointwise []).trans (s r c hr hc)

section Batches
variable {sg : RefSig} {κ : Kind} {sp : Space}

/-- The store of one batch's results, read at a batch, a position and a lane. -/
theorem read_batch (v : View sg κ sp S8x512x4 .f32) (f : v.ty.Contents (Elt Ideal)) (o : ℕ) (inb : ∀ a, (![o, 0, 0] : Fin 3 → ℕ) a + (![1, 512, 4] : Fin 3 → ℕ) a ≤ (![8, 512, 4] : Fin 3 → ℕ) a)
    (w : S1x512x4.Idx → EReal) (L : List (View.Piece (Elt Ideal) S8x512x4 .f32)) (k : Fin 8) (t : Fin 512) (q : Fin 4) :
    v.read (Elt Ideal) (v.writes (Elt Ideal) f ((⟨Rect.unit (s := S8x512x4) ![o, 0, 0] ![1, 512, 4] inb, w⟩ : View.Piece (Elt Ideal) S8x512x4 .f32) :: L)) (ix3 k t q)
      = if k.val = o then w (ix3 0 t q) else v.read (Elt Ideal) (v.writes (Elt Ideal) f L) (ix3 k t q) := by
  split_ifs with h
  · refine View.read_writes_cons_unit_of_mem v f inb w L (ix3 k t q) (ix3 0 t q) rfl fun a => ?_
    fin_cases a
    · exact h
    · exact (Nat.zero_add _).symm
    · exact (Nat.zero_add _).symm
  · refine View.read_writes_cons_unit_of_not_mem v f inb w L (ix3 k t q) rfl 0 ?_
    show k.val < o ∨ o + 1 ≤ k.val
    omega

/-- One batch's rows of a value, as stored. -/
def Batch (R : S4160x4.Idx → EReal) (k : Fin 8) (w : S1x512x4.Idx → EReal) : Prop := ∀ t q, w (ix3 0 t q) = R (ix2 (row k t) q)

theorem batch_slice (R : S4160x4.Idx → EReal) (k : Fin 8) (o : ℕ) (ho : o = 520 * k.val) (hs hc) : Batch R k (shapeCast (s := S512x4) S1x512x4 (extractStridedSlice (s := S4160x4) S512x4 ![o, 0] R hs) hc) := fun t q =>
  (show shapeCast (s := S512x4) S1x512x4 (extractStridedSlice (s := S4160x4) S512x4 ![o, 0] R hs) hc (ix3 0 t q) = extractStridedSlice (s := S4160x4) S512x4 ![o, 0] R hs (ix2 t q) by
    generalize extractStridedSlice (s := S4160x4) S512x4 ![o, 0] R hs = y
    pointwise []
    rfl).trans (by
    show R _ = R _
    congr 1
    funext a
    fin_cases a
    · exact Fin.ext (by show o + t.val = 520 * k.val + t.val; omega)
    · exact Fin.ext (by show 0 + q.val = q.val; omega))

theorem eight_batches (v : View sg κ sp S8x512x4 .f32) (f : v.ty.Contents (Elt Ideal)) {R : S4160x4.Idx → EReal} {w0 w1 w2 w3 w4 w5 w6 w7 : S1x512x4.Idx → EReal} {i0 i1 i2 i3 i4 i5 i6 i7}
    (h7 : Batch R 7 w7) (h6 : Batch R 6 w6) (h5 : Batch R 5 w5) (h4 : Batch R 4 w4) (h3 : Batch R 3 w3) (h2 : Batch R 2 w2) (h1 : Batch R 1 w1) (h0 : Batch R 0 w0) (k : Fin 8) (t : Fin 512) (q : Fin 4) :
    v.read (Elt Ideal) (v.writes (Elt Ideal) f [⟨Rect.unit (s := S8x512x4) ![7, 0, 0] ![1, 512, 4] i7, w7⟩, ⟨Rect.unit (s := S8x512x4) ![6, 0, 0] ![1, 512, 4] i6, w6⟩,
      ⟨Rect.unit (s := S8x512x4) ![5, 0, 0] ![1, 512, 4] i5, w5⟩, ⟨Rect.unit (s := S8x512x4) ![4, 0, 0] ![1, 512, 4] i4, w4⟩, ⟨Rect.unit (s := S8x512x4) ![3, 0, 0] ![1, 512, 4] i3, w3⟩,
      ⟨Rect.unit (s := S8x512x4) ![2, 0, 0] ![1, 512, 4] i2, w2⟩, ⟨Rect.unit (s := S8x512x4) ![1, 0, 0] ![1, 512, 4] i1, w1⟩, ⟨Rect.unit (s := S8x512x4) ![0, 0, 0] ![1, 512, 4] i0, w0⟩]) (ix3 k t q)
      = R (ix2 (row k t) q) := by
  rw [read_batch, read_batch, read_batch, read_batch, read_batch, read_batch, read_batch, read_batch]
  fin_cases k
  · exact h0 t q
  · exact h1 t q
  · exact h2 t q
  · exact h3 t q
  · exact h4 t q
  · exact h5 t q
  · exact h6 t q
  · exact h7 t q

end Batches

/-- What the first grid point leaves for the second: empty gaps, the weights laid out, and the counts and squares so far. -/
structure After (n : Net) (bt : Fin 8 → Fin 16) (q0 : S4176x4.Idx → EReal) (q1 : S4176x256.Idx → EReal) (q2 q3 q4 : S4176x128.Idx → EReal) (q5 : S4176x256.Idx → EReal) (q6 : S4176x512.Idx → EReal)
    (q7 : S512x128.Idx → EReal) (q8 q9 : S384x128.Idx → EReal) (q10 q11 : S512x128.Idx → EReal) (q12 : S8x256.Idx → EReal) (q13 q14 q15 : S512x4.Idx → EReal)
    (q16 : S128x512.Idx → EReal) (q17 q18 : S1x512.Idx → EReal) (q19 : S1x1.Idx → EReal) : Prop where
  g0 : Gap q0
  g1 : Gap q1
  g2 : Gap q2
  g3 : Gap q3
  g4 : Gap q4
  g5 : Gap q5
  g6 : Gap q6
  w : Wts n q7 q8 q9 q10 q11 q12 q13 q14 q15 q16 q17
  cnt : ∀ k, q18 (ix2 0 k) = ∑ i, n.cnt (bt i) k
  sq : q19 (ix2 0 0) = ∑ i, n.sq (bt i)

theorem kept_counts (y : S1x512.Idx → EReal) (i) : k0_pay155 (F := Ideal) y i = y i := congrFun (shapeCast_self y _) i

theorem kept_squares (z q : S4160x128.Idx → EReal) (a b c d i) : k0_pay156 (F := Ideal) z q a b c d i = k0_pay154 (F := Ideal) z q a b c d i := congrFun (shapeCast_self (k0_pay154 (F := Ideal) z q a b c d) _) i

theorem added_counts (y s : S1x512.Idx → EReal) (i) : k0_pay157 (F := Ideal) y s i = s i + y i := congrFun (shapeCast_self (addf (F := Ideal) (φ := .f32) s y) _) i

theorem added_squares (z q : S4160x128.Idx → EReal) (a b c d) (s : S1x1.Idx → EReal) (i) : k0_pay158 (F := Ideal) z q a b c d s i = s i + k0_pay154 (F := Ideal) z q a b c d i :=
  congrFun (shapeCast_self (addf (F := Ideal) (φ := .f32) s (k0_pay154 (F := Ideal) z q a b c d)) _) i

end Cert.Pay
end
-- ==== Proof.CaseA.lean ====
/- The first grid point: the weights are laid out, the work buffers' gaps are zeroed, and every layer runs on eight batches. -/
module

public import Idealize.ShloMosaic.Lib.Pipeline.ValueKit
public import proofs.«01_k».proof.Proof.Gen.KernelIdeal.Frame.RunA
public import proofs.«01_k».proof.Proof.Ends

@[expose] public section
set_option maxRecDepth 16384
noncomputable section
namespace Cert.Pay
open Idealize.ShloMosaic hiding ix0 ix1 ix2 ix3 ix4
open Idealize.ShloMosaic.ValueIdx
open Cert.Spec Cert.Rows Cert.KernelIdeal Cert.KernelIdeal.Gen
variable [Cert.KernelIdeal.Facts]

section First
variable (c : Dev nD) {arg1 : Memref sig .tc .vmem S8x512x4 .f32} (harg1 : arg1.IsWhole) {arg2 : Memref sig .tc .vmem S128x4 .f32} (harg2 : arg2.IsWhole) {arg3 : Memref sig .tc .vmem S1x128 .f32} (harg3 : arg3.IsWhole) {arg4 : Memref sig .tc .vmem S128x512 .f32} (harg4 : arg4.IsWhole) {arg5 : Memref sig .tc .vmem S1x128 .f32} (harg5 : arg5.IsWhole) {arg6 : Memref sig .tc .vmem S128x384 .f32} (harg6 : arg6.IsWhole) {arg7 : Memref sig .tc .vmem S1x128 .f32} (harg7 : arg7.IsWhole) {arg8 : Memref sig .tc .vmem S512x128 .f32} (harg8 : arg8.IsWhole) {arg9 : Memref sig .tc .vmem S128x384 .f32} (harg9 : arg9.IsWhole) {arg10 : Memref sig .tc .vmem S1x128 .f32} (harg10 : arg10.IsWhole) {arg11 : Memref sig .tc .vmem S128x512 .f32} (harg11 : arg11.IsWhole) {arg12 : Memref sig .tc .vmem S1x128 .f32} (harg12 : arg12.IsWhole) {arg13 : Memref sig .tc .vmem S128x512 .f32} (harg13 : arg13.IsWhole) {arg14 : Memref sig .tc .vmem S1x128 .f32} (harg14 : arg14.IsWhole) {arg15 : Memref sig .tc .vmem S128x3 .f32} (harg15 : arg15.IsWhole) {arg16 : Memref sig .tc .vmem S1x1 .f32} (harg16 : arg16.IsWhole) (arg20 : Memref sig .tc .vmem S4176x4 .f32) (arg21 : Memref sig .tc .vmem S4176x256 .f32) (arg22 : Memref sig .tc .vmem S4176x128 .f32) (arg23 : Memref sig .tc .vmem S4176x128 .f32) (arg24 : Memref sig .tc .vmem S4176x128 .f32) (arg25 : Memref sig .tc .vmem S4176x256 .f32) (arg26 : Memref sig .tc .vmem S4176x512 .f32) (arg27 : Memref sig .tc .vmem S512x128 .f32) (arg28 : Memref sig .tc .vmem S384x128 .f32) (arg29 : Memref sig .tc .vmem S384x128 .f32) (arg30 : Memref sig .tc .vmem S512x128 .f32) (arg31 : Memref sig .tc .vmem S512x128 .f32) (arg32 : Memref sig .tc .vmem S8x256 .f32) (arg33 : Memref sig .tc .vmem S512x4 .f32) (arg34 : Memref sig .tc .vmem S512x4 .f32) (arg35 : Memref sig .tc .vmem S512x4 .f32) (arg36 : Memref sig .tc .vmem S128x512 .f32) (arg37 : Memref sig .tc .vmem S1x512 .f32) (arg38 : Memref sig .tc .vmem S1x512 .f32) (arg39 : Memref sig .tc .vmem S1x1 .f32)
  {x0 : Vec Ideal S8x512x4 .f32} {x1 : Vec Ideal S128x4 .f32} {x2 : Vec Ideal S1x128 .f32} {x3 : Vec Ideal S128x512 .f32} {x4 : Vec Ideal S1x128 .f32} {x5 : Vec Ideal S128x384 .f32} {x6 : Vec Ideal S1x128 .f32} {x7 : Vec Ideal S512x128 .f32} {x8 : Vec Ideal S128x384 .f32} {x9 : Vec Ideal S1x128 .f32} {x10 : Vec Ideal S128x512 .f32} {x11 : Vec Ideal S1x128 .f32} {x12 : Vec Ideal S128x512 .f32} {x13 : Vec Ideal S1x128 .f32} {x14 : Vec Ideal S128x3 .f32} {x15 : Vec Ideal S1x1 .f32} {n : Net} {bt : Fin 8 → Fin 16}
  (I : Ins n bt x0 x1 x2 x3 x4 x5 x6 x7 x8 x9 x10 x11 x12 x13 x14 x15)
include c harg1 harg2 harg3 harg4 harg5 harg6 harg7 harg8 harg9 harg10 harg11 harg12 harg13 harg14 harg15 harg16 arg20 arg21 arg22 arg23 arg24 arg25 arg26 arg27 arg28 arg29 arg30 arg31 arg32 arg33 arg34 arg35 arg36 arg37 arg38 arg39 I

/-- The weights laid out. -/
theorem weights : Wts n (arg27.view.read (Elt Ideal) (arg27.view.writes (Elt Ideal) arg27.view.junk (kernelRun0_A.sl.HS7_4 c arg4 harg4 x3)))
      (arg28.view.read (Elt Ideal) (arg28.view.writes (Elt Ideal) arg28.view.junk (kernelRun0_A.sl.HS8_3 c arg6 harg6 x5)))
      (arg29.view.read (Elt Ideal) (arg29.view.writes (Elt Ideal) arg29.view.junk (kernelRun0_A.sl.HS9_3 c arg9 harg9 x8)))
      (arg30.view.read (Elt Ideal) (arg30.view.writes (Elt Ideal) arg30.view.junk (kernelRun0_A.sl.HS10_4 c arg11 harg11 x10)))
      (arg31.view.read (Elt Ideal) (arg31.view.writes (Elt Ideal) arg31.view.junk (kernelRun0_A.sl.HS11_4 c arg13 harg13 x12)))
      (arg32.view.read (Elt Ideal) (arg32.view.writes (Elt Ideal) arg32.view.junk (kernelRun0_A.sl.HS12_1 c arg2 harg2 x1)))
      (arg33.view.read (Elt Ideal) (arg33.view.writes (Elt Ideal) arg33.view.junk (kernelRun0_A.sl.HS13_2 c arg15 harg15 x14)))
      (arg34.view.read (Elt Ideal) (arg34.view.writes (Elt Ideal) arg34.view.junk (kernelRun0_A.sl.HS14_11 c arg15 harg15 x14)))
      (arg35.view.read (Elt Ideal) (arg35.view.writes (Elt Ideal) arg35.view.junk (kernelRun0_A.sl.HS15_2 c arg15 harg15 x14)))
      (arg36.view.read (Elt Ideal) (arg36.view.writes (Elt Ideal) arg36.view.junk (kernelRun0_A.sl.HS16_1 c arg8 harg8 x7)))
      (arg37.view.read (Elt Ideal) (arg37.view.writes (Elt Ideal) arg37.view.junk (kernelRun0_A.sl.HS17_1 c arg8 harg8 x7))) where
  b7 := taps_four _ _ (fun i o => piece4 harg4 I.a3 3 (h4 := slices_S128x4x128_o0_3_0_S128x1x128) i o) (fun i o => piece4 harg4 I.a3 2 (h4 := slices_S128x4x128_o0_2_0_S128x1x128) i o) (fun i o => piece4 harg4 I.a3 1 (h4 := slices_S128x4x128_o0_1_0_S128x1x128) i o) (fun i o => piece4 harg4 I.a3 0 (h4 := slices_S128x4x128_o0_0_0_S128x1x128) i o)
  b8 := taps_three _ _ (fun i o => piece3 harg6 I.a5 2 (h4 := slices_S128x3x128_o0_2_0_S128x1x128) i o) (fun i o => piece3 harg6 I.a5 1 (h4 := slices_S128x3x128_o0_1_0_S128x1x128) i o) (fun i o => piece3 harg6 I.a5 0 (h4 := slices_S128x3x128_o0_0_0_S128x1x128) i o)
  b9 := taps_three _ _ (fun i o => piece3 harg9 I.a8 2 (h4 := slices_S128x3x128_o0_2_0_S128x1x128) i o) (fun i o => piece3 harg9 I.a8 1 (h4 := slices_S128x3x128_o0_1_0_S128x1x128) i o) (fun i o => piece3 harg9 I.a8 0 (h4 := slices_S128x3x128_o0_0_0_S128x1x128) i o)
  b10 := taps_four _ _ (fun i o => piece4 harg11 I.a10 3 (h4 := slices_S128x4x128_o0_3_0_S128x1x128) i o) (fun i o => piece4 harg11 I.a10 2 (h4 := slices_S128x4x128_o0_2_0_S128x1x128) i o) (fun i o => piece4 harg11 I.a10 1 (h4 := slices_S128x4x128_o0_1_0_S128x1x128) i o) (fun i o => piece4 harg11 I.a10 0 (h4 := slices_S128x4x128_o0_0_0_S128x1x128) i o)
  b11 := taps_four _ _ (fun i o => piece4 harg13 I.a12 3 (h4 := slices_S128x4x128_o0_3_0_S128x1x128) i o) (fun i o => piece4 harg13 I.a12 2 (h4 := slices_S128x4x128_o0_2_0_S128x1x128) i o) (fun i o => piece4 harg13 I.a12 1 (h4 := slices_S128x4x128_o0_1_0_S128x1x128) i o) (fun i o => piece4 harg13 I.a12 0 (h4 := slices_S128x4x128_o0_0_0_S128x1x128) i o)
  b12 := fun j o => (read_whole arg32.view _ _ _ _ j o).trans (by rw [(seen_un harg2 x1 0 0 _).all]; exact first_w x1 n.we1 I.a1 j o)
  b13 := lane_A (fun i => piece_col harg15 I.a14 0 (h2 := slices_S128x3_o0_0_S128x1) i)
  b14 := lane_B (fun i => piece_col harg15 I.a14 1 (h2 := slices_S128x3_o0_1_S128x1) i) (fun i => piece_col harg15 I.a14 0 (h2 := slices_S128x3_o0_0_S128x1) i) (fun i => piece_col harg15 I.a14 2 (h2 := slices_S128x3_o0_2_S128x1) i) (fun i => piece_col harg15 I.a14 1 (h2 := slices_S128x3_o0_1_S128x1) i) (fun i => piece_col harg15 I.a14 0 (h2 := slices_S128x3_o0_0_S128x1) i)
    (fun i => piece_col harg15 I.a14 2 (h2 := slices_S128x3_o0_2_S128x1) i) (fun i => piece_col harg15 I.a14 1 (h2 := slices_S128x3_o0_1_S128x1) i) (fun i => piece_col harg15 I.a14 0 (h2 := slices_S128x3_o0_0_S128x1) i) (fun i => piece_col harg15 I.a14 2 (h2 := slices_S128x3_o0_2_S128x1) i) (fun i => piece_col harg15 I.a14 1 (h2 := slices_S128x3_o0_1_S128x1) i)
  b15 := lane_C (fun i => piece_col harg15 I.a14 2 (h2 := slices_S128x3_o0_2_S128x1) i)
  b16 := fun i k => (read_whole arg36.view _ _ _ _ i k).trans (by rw [(seen_un harg8 x7 0 0 _).all, two_cb, I.a7])
  b17 := fun k => (read_whole arg37.view _ _ _ _ 0 k).trans (by rw [(seen_un harg8 x7 0 0 _).all, sq_cb]; exact Finset.sum_congr rfl fun i _ => by rw [I.a7])

/-- The rows before the codebook. -/
theorem first_z : Agree (kernelRun0_A.sl.r_8 c arg1 harg1 arg2 harg2 arg3 harg3 arg4 harg4 arg5 harg5 arg6 harg6 arg7 harg7 arg20 arg21 arg22 arg27 arg28 arg32 x0 x1 x2 x3 x4 x5 x6) fun k o t => n.z (bt k) o t := by
  have W := weights c harg1 harg2 harg3 harg4 harg5 harg6 harg7 harg8 harg9 harg10 harg11 harg12 harg13 harg14 harg15 harg16 arg20 arg21 arg22 arg23 arg24 arg25 arg26 arg27 arg28 arg29 arg30 arg31 arg32 arg33 arg34 arg35 arg36 arg37 arg38 arg39 I
  refine layer3 ?_ W.b8 I.a6 (seen_at arg22.view _ 7 0 _) (seen_at arg28.view _ 0 0 _) (seen_at arg22.view _ 8 0 _) (seen_at arg28.view _ 128 0 _) (seen_at arg22.view _ 9 0 _) (seen_at arg28.view _ 256 0 _) (seen_un harg7 x6 0 0 _)
  refine Put.padded (put_stores _ _ 0 _ (cut_slice _ _ (by decide) (by decide)) (cut_slice _ _ (by decide) (by decide)) (cut_slice _ _ (by decide) (by decide)) (cut_slice _ _ (by decide) (by decide)) (cut_slice _ _ (by decide) (by decide)) (cut_slice _ _ (by decide) (by decide)) (cut_slice _ _ (by decide) (by decide)) (cut_slice _ _ (by decide) (by decide))) (gap_fills _ _ (zero_block (by decide)) (zero_block (by decide)) (zero_block (by decide)) (zero_block (by decide)) (zero_block (by decide)) (zero_block (by decide)) (zero_block (by decide)) (zero_block (by decide)) (zero_block (by decide))) ?_
  refine layer2 ?_ W.b7 I.a4 (seen_at arg21.view _ 7 128 _) (seen_at arg27.view _ 0 0 _) (seen_at arg21.view _ 8 0 _) (seen_at arg27.view _ 128 0 _) (seen_at arg21.view _ 9 0 _) (seen_at arg27.view _ 384 0 _) (seen_un harg5 x4 0 0 _)
  refine Put.padded (put_stores _ _ 0 _ (cut_slice _ _ (by decide) (by decide)) (cut_slice _ _ (by decide) (by decide)) (cut_slice _ _ (by decide) (by decide)) (cut_slice _ _ (by decide) (by decide)) (cut_slice _ _ (by decide) (by decide)) (cut_slice _ _ (by decide) (by decide)) (cut_slice _ _ (by decide) (by decide)) (cut_slice _ _ (by decide) (by decide))) (gap_fills _ _ (zero_block (by decide)) (zero_block (by decide)) (zero_block (by decide)) (zero_block (by decide)) (zero_block (by decide)) (zero_block (by decide)) (zero_block (by decide)) (zero_block (by decide)) (zero_block (by decide))) ?_
  refine layer1 ?_ W.b12 I.a2 (seen_at arg20.view _ 7 3 _) (seen_at arg20.view _ 8 0 _) (seen_at arg20.view _ 9 0 _) (seen_un harg3 x2 0 0 _) (seen_at arg32.view _ 0 0 _)
  exact Put.padded (put_stores _ _ 0 (xrows n bt) (cut_x harg1 I.a0 7 3640 (by omega) rfl _ _ _) (cut_x harg1 I.a0 6 3120 (by omega) rfl _ _ _) (cut_x harg1 I.a0 5 2600 (by omega) rfl _ _ _) (cut_x harg1 I.a0 4 2080 (by omega) rfl _ _ _) (cut_x harg1 I.a0 3 1560 (by omega) rfl _ _ _) (cut_x harg1 I.a0 2 1040 (by omega) rfl _ _ _) (cut_x harg1 I.a0 1 520 (by omega) rfl _ _ _) (cut_x harg1 I.a0 0 0 (by omega) rfl _ _ _)) (gap_fills _ _ (zero_block (by decide)) (zero_block (by decide)) (zero_block (by decide)) (zero_block (by decide)) (zero_block (by decide)) (zero_block (by decide)) (zero_block (by decide)) (zero_block (by decide)) (zero_block (by decide))) (xrows_agree n bt)

theorem first_code (k : Fin 8) (t : Fin 512) : rowCode (kernelRun0_A.sl.r_8 c arg1 harg1 arg2 harg2 arg3 harg3 arg4 harg4 arg5 harg5 arg6 harg6 arg7 harg7 arg20 arg21 arg22 arg27 arg28 arg32 x0 x1 x2 x3 x4 x5 x6) (View.readAt (Elt Ideal) arg36.view (Rect.unit (s := S128x512) ![0, 0] S128x512.size inb_S128x512_S128x512_0_0).toLoadRect (arg36.view.writes (Elt Ideal) arg36.view.junk (kernelRun0_A.sl.HS16_1 c arg8 harg8 x7)))
    (View.readAt (Elt Ideal) arg37.view (Rect.unit (s := S1x512) ![0, 0] S1x512.size inb_S1x512_S1x512_0_0).toLoadRect (arg37.view.writes (Elt Ideal) arg37.view.junk (kernelRun0_A.sl.HS17_1 c arg8 harg8 x7))) (row k t) = n.code (bt k) t :=
  the_code (first_z c harg1 harg2 harg3 harg4 harg5 harg6 harg7 harg8 harg9 harg10 harg11 harg12 harg13 harg14 harg15 harg16 arg20 arg21 arg22 arg23 arg24 arg25 arg26 arg27 arg28 arg29 arg30 arg31 arg32 arg33 arg34 arg35 arg36 arg37 arg38 arg39 I) (weights c harg1 harg2 harg3 harg4 harg5 harg6 harg7 harg8 harg9 harg10 harg11 harg12 harg13 harg14 harg15 harg16 arg20 arg21 arg22 arg23 arg24 arg25 arg26 arg27 arg28 arg29 arg30 arg31 arg32 arg33 arg34 arg35 arg36 arg37 arg38 arg39 I).b16 (weights c harg1 harg2 harg3 harg4 harg5 harg6 harg7 harg8 harg9 harg10 harg11 harg12 harg13 harg14 harg15 harg16 arg20 arg21 arg22 arg23 arg24 arg25 arg26 arg27 arg28 arg29 arg30 arg31 arg32 arg33 arg34 arg35 arg36 arg37 arg38 arg39 I).b17 (seen_at arg36.view _ 0 0 _) (seen_at arg37.view _ 0 0 _) k t

/-- The rows taken from the codebook. -/
theorem first_q : Agree (kernelRun0_A.sl.r_10 c arg1 harg1 arg2 harg2 arg3 harg3 arg4 harg4 arg5 harg5 arg6 harg6 arg7 harg7 arg8 harg8 arg20 arg21 arg22 arg27 arg28 arg32 arg36 arg37 x0 x1 x2 x3 x4 x5 x6 x7) fun k o t => n.q (bt k) o t :=
  layer4 (first_code c harg1 harg2 harg3 harg4 harg5 harg6 harg7 harg8 harg9 harg10 harg11 harg12 harg13 harg14 harg15 harg16 arg20 arg21 arg22 arg23 arg24 arg25 arg26 arg27 arg28 arg29 arg30 arg31 arg32 arg33 arg34 arg35 arg36 arg37 arg38 arg39 I) I.a7 (seen_un harg8 x7 0 0 _)

/-- How often each code was taken. -/
theorem first_counts (k : Fin 512) : (kernelRun0_A.sl.r_13 c arg1 harg1 arg2 harg2 arg3 harg3 arg4 harg4 arg5 harg5 arg6 harg6 arg7 harg7 arg8 harg8 arg20 arg21 arg22 arg27 arg28 arg32 arg36 arg37 x0 x1 x2 x3 x4 x5 x6 x7) (ix2 0 k) = ∑ i, n.cnt (bt i) k :=
  counts (first_code c harg1 harg2 harg3 harg4 harg5 harg6 harg7 harg8 harg9 harg10 harg11 harg12 harg13 harg14 harg15 harg16 arg20 arg21 arg22 arg23 arg24 arg25 arg26 arg27 arg28 arg29 arg30 arg31 arg32 arg33 arg34 arg35 arg36 arg37 arg38 arg39 I) k

/-- The decoder's first rows. -/
theorem first_u : Agree (kernelRun0_A.sl.r_14 c arg1 harg1 arg2 harg2 arg3 harg3 arg4 harg4 arg5 harg5 arg6 harg6 arg7 harg7 arg8 harg8 arg9 harg9 arg10 harg10 arg20 arg21 arg22 arg23 arg27 arg28 arg29 arg32 arg36 arg37 x0 x1 x2 x3 x4 x5 x6 x7 x8 x9) fun k o t => n.u (bt k) o t := by
  have W := weights c harg1 harg2 harg3 harg4 harg5 harg6 harg7 harg8 harg9 harg10 harg11 harg12 harg13 harg14 harg15 harg16 arg20 arg21 arg22 arg23 arg24 arg25 arg26 arg27 arg28 arg29 arg30 arg31 arg32 arg33 arg34 arg35 arg36 arg37 arg38 arg39 I
  refine layer5 ?_ W.b9 I.a9 (seen_at arg23.view _ 7 0 _) (seen_at arg29.view _ 0 0 _) (seen_at arg23.view _ 8 0 _) (seen_at arg29.view _ 128 0 _) (seen_at arg23.view _ 9 0 _) (seen_at arg29.view _ 256 0 _) (seen_un harg10 x9 0 0 _)
  exact Put.padded (put_stores _ _ 0 _ (cut_slice _ _ (by decide) (by decide)) (cut_slice _ _ (by decide) (by decide)) (cut_slice _ _ (by decide) (by decide)) (cut_slice _ _ (by decide) (by decide)) (cut_slice _ _ (by decide) (by decide)) (cut_slice _ _ (by decide) (by decide)) (cut_slice _ _ (by decide) (by decide)) (cut_slice _ _ (by decide) (by decide))) (gap_fills _ _ (zero_block (by decide)) (zero_block (by decide)) (zero_block (by decide)) (zero_block (by decide)) (zero_block (by decide)) (zero_block (by decide)) (zero_block (by decide)) (zero_block (by decide)) (zero_block (by decide))) (first_q c harg1 harg2 harg3 harg4 harg5 harg6 harg7 harg8 harg9 harg10 harg11 harg12 harg13 harg14 harg15 harg16 arg20 arg21 arg22 arg23 arg24 arg25 arg26 arg27 arg28 arg29 arg30 arg31 arg32 arg33 arg34 arg35 arg36 arg37 arg38 arg39 I)

/-- The even rows of the first step up. -/
theorem first_even : Agree (kernelRun0_A.sl.r_18 c arg1 harg1 arg2 harg2 arg3 harg3 arg4 harg4 arg5 harg5 arg6 harg6 arg7 harg7 arg8 harg8 arg9 harg9 arg10 harg10 arg11 harg11 arg12 harg12 arg20 arg21 arg22 arg23 arg24 arg27 arg28 arg29 arg30 arg32 arg36 arg37 x0 x1 x2 x3 x4 x5 x6 x7 x8 x9 x10 x11) fun k o t => n.v1 (bt k) o ⟨2 * t.val, by omega⟩ := by
  have W := weights c harg1 harg2 harg3 harg4 harg5 harg6 harg7 harg8 harg9 harg10 harg11 harg12 harg13 harg14 harg15 harg16 arg20 arg21 arg22 arg23 arg24 arg25 arg26 arg27 arg28 arg29 arg30 arg31 arg32 arg33 arg34 arg35 arg36 arg37 arg38 arg39 I
  refine layer6e ?_ W.b10 I.a11 (seen_un harg12 x11 0 0 _) (seen_at arg30.view _ 256 0 _) (seen_at arg24.view _ 8 0 _) (seen_at arg24.view _ 7 0 _) (seen_at arg30.view _ 0 0 _)
  exact Put.padded (put_stores _ _ 0 _ (cut_slice _ _ (by decide) (by decide)) (cut_slice _ _ (by decide) (by decide)) (cut_slice _ _ (by decide) (by decide)) (cut_slice _ _ (by decide) (by decide)) (cut_slice _ _ (by decide) (by decide)) (cut_slice _ _ (by decide) (by decide)) (cut_slice _ _ (by decide) (by decide)) (cut_slice _ _ (by decide) (by decide))) (gap_fills _ _ (zero_block (by decide)) (zero_block (by decide)) (zero_block (by decide)) (zero_block (by decide)) (zero_block (by decide)) (zero_block (by decide)) (zero_block (by decide)) (zero_block (by decide)) (zero_block (by decide))) (first_u c harg1 harg2 harg3 harg4 harg5 harg6 harg7 harg8 harg9 harg10 harg11 harg12 harg13 harg14 harg15 harg16 arg20 arg21 arg22 arg23 arg24 arg25 arg26 arg27 arg28 arg29 arg30 arg31 arg32 arg33 arg34 arg35 arg36 arg37 arg38 arg39 I)

/-- The odd rows of the first step up. -/
theorem first_odd : Agree (kernelRun0_A.sl.r_19 c arg1 harg1 arg2 harg2 arg3 harg3 arg4 harg4 arg5 harg5 arg6 harg6 arg7 harg7 arg8 harg8 arg9 harg9 arg10 harg10 arg11 harg11 arg12 harg12 arg20 arg21 arg22 arg23 arg24 arg27 arg28 arg29 arg30 arg32 arg36 arg37 x0 x1 x2 x3 x4 x5 x6 x7 x8 x9 x10 x11) fun k o t => n.v1 (bt k) o ⟨2 * t.val + 1, by omega⟩ := by
  have W := weights c harg1 harg2 harg3 harg4 harg5 harg6 harg7 harg8 harg9 harg10 harg11 harg12 harg13 harg14 harg15 harg16 arg20 arg21 arg22 arg23 arg24 arg25 arg26 arg27 arg28 arg29 arg30 arg31 arg32 arg33 arg34 arg35 arg36 arg37 arg38 arg39 I
  refine layer6o ?_ W.b10 I.a11 ((seen_un harg12 x11 0 0 _).cast _) (seen_at arg30.view _ 128 0 _) (seen_at arg24.view _ 8 0 _) (seen_at arg24.view _ 9 0 _) (seen_at arg30.view _ 384 0 _)
  exact Put.padded (put_stores _ _ 0 _ (cut_slice _ _ (by decide) (by decide)) (cut_slice _ _ (by decide) (by decide)) (cut_slice _ _ (by decide) (by decide)) (cut_slice _ _ (by decide) (by decide)) (cut_slice _ _ (by decide) (by decide)) (cut_slice _ _ (by decide) (by decide)) (cut_slice _ _ (by decide) (by decide)) (cut_slice _ _ (by decide) (by decide))) (gap_fills _ _ (zero_block (by decide)) (zero_block (by decide)) (zero_block (by decide)) (zero_block (by decide)) (zero_block (by decide)) (zero_block (by decide)) (zero_block (by decide)) (zero_block (by decide)) (zero_block (by decide))) (first_u c harg1 harg2 harg3 harg4 harg5 harg6 harg7 harg8 harg9 harg10 harg11 harg12 harg13 harg14 harg15 harg16 arg20 arg21 arg22 arg23 arg24 arg25 arg26 arg27 arg28 arg29 arg30 arg31 arg32 arg33 arg34 arg35 arg36 arg37 arg38 arg39 I)

/-- Both halves of the first step up, in place. -/
theorem first_v1 : Padded (arg25.view.read (Elt Ideal) (arg25.view.writes (Elt Ideal) arg25.view.junk (kernelRun0_A.sl.HS5_25 c arg1 harg1 arg2 harg2 arg3 harg3 arg4 harg4 arg5 harg5 arg6 harg6 arg7 harg7 arg8 harg8 arg9 harg9 arg10 harg10 arg11 harg11 arg12 harg12 arg20 arg21 arg22 arg23 arg24 arg27 arg28 arg29 arg30 arg32 arg36 arg37 x0 x1 x2 x3 x4 x5 x6 x7 x8 x9 x10 x11))) fun k => lane2 (n.v1 (bt k)) :=
  padded_two (put_stores _ _ 128 _ (cut_slice _ _ (by decide) (by decide)) (cut_slice _ _ (by decide) (by decide)) (cut_slice _ _ (by decide) (by decide)) (cut_slice _ _ (by decide) (by decide)) (cut_slice _ _ (by decide) (by decide)) (cut_slice _ _ (by decide) (by decide)) (cut_slice _ _ (by decide) (by decide)) (cut_slice _ _ (by decide) (by decide))) (put_stores _ _ 0 _ (cut_slice _ _ (by decide) (by decide)) (cut_slice _ _ (by decide) (by decide)) (cut_slice _ _ (by decide) (by decide)) (cut_slice _ _ (by decide) (by decide)) (cut_slice _ _ (by decide) (by decide)) (cut_slice _ _ (by decide) (by decide)) (cut_slice _ _ (by decide) (by decide)) (cut_slice _ _ (by decide) (by decide))) (gap_fills _ _ (zero_block (by decide)) (zero_block (by decide)) (zero_block (by decide)) (zero_block (by decide)) (zero_block (by decide)) (zero_block (by decide)) (zero_block (by decide)) (zero_block (by decide)) (zero_block (by decide))) (first_odd c harg1 harg2 harg3 harg4 harg5 harg6 harg7 harg8 harg9 harg10 harg11 harg12 harg13 harg14 harg15 harg16 arg20 arg21 arg22 arg23 arg24 arg25 arg26 arg27 arg28 arg29 arg30 arg31 arg32 arg33 arg34 arg35 arg36 arg37 arg38 arg39 I) (first_even c harg1 harg2 harg3 harg4 harg5 harg6 harg7 harg8 harg9 harg10 harg11 harg12 harg13 harg14 harg15 harg16 arg20 arg21 arg22 arg23 arg24 arg25 arg26 arg27 arg28 arg29 arg30 arg31 arg32 arg33 arg34 arg35 arg36 arg37 arg38 arg39 I)

theorem first_v2a : Agree (kernelRun0_A.sl.r_22 c arg1 harg1 arg2 harg2 arg3 harg3 arg4 harg4 arg5 harg5 arg6 harg6 arg7 harg7 arg8 harg8 arg9 harg9 arg10 harg10 arg11 harg11 arg12 harg12 arg13 harg13 arg14 harg14 arg20 arg21 arg22 arg23 arg24 arg25 arg27 arg28 arg29 arg30 arg31 arg32 arg36 arg37 x0 x1 x2 x3 x4 x5 x6 x7 x8 x9 x10 x11 x12 x13) fun k o t => n.v2 (bt k) o ⟨4 * t.val, by omega⟩ :=
  layer7a (first_v1 c harg1 harg2 harg3 harg4 harg5 harg6 harg7 harg8 harg9 harg10 harg11 harg12 harg13 harg14 harg15 harg16 arg20 arg21 arg22 arg23 arg24 arg25 arg26 arg27 arg28 arg29 arg30 arg31 arg32 arg33 arg34 arg35 arg36 arg37 arg38 arg39 I) (weights c harg1 harg2 harg3 harg4 harg5 harg6 harg7 harg8 harg9 harg10 harg11 harg12 harg13 harg14 harg15 harg16 arg20 arg21 arg22 arg23 arg24 arg25 arg26 arg27 arg28 arg29 arg30 arg31 arg32 arg33 arg34 arg35 arg36 arg37 arg38 arg39 I).b11 I.a13 (seen_un harg14 x13 0 0 _) (seen_at arg25.view _ 7 128 _) (seen_at arg31.view _ 0 0 _) (seen_at arg25.view _ 8 0 _) (seen_at arg31.view _ 256 0 _)

theorem first_v2m (k t) (o : Fin 128) : (kernelRun0_A.sl.r_23 c arg1 harg1 arg2 harg2 arg3 harg3 arg4 harg4 arg5 harg5 arg6 harg6 arg7 harg7 arg8 harg8 arg9 harg9 arg10 harg10 arg11 harg11 arg12 harg12 arg13 harg13 arg14 harg14 arg20 arg21 arg22 arg23 arg24 arg25 arg27 arg28 arg29 arg30 arg31 arg32 arg36 arg37 x0 x1 x2 x3 x4 x5 x6 x7 x8 x9 x10 x11 x12 x13) (ix2 (row k t) ⟨o.val, by omega⟩) = n.v2 (bt k) o ⟨4 * t.val + 1, by omega⟩
    ∧ (kernelRun0_A.sl.r_23 c arg1 harg1 arg2 harg2 arg3 harg3 arg4 harg4 arg5 harg5 arg6 harg6 arg7 harg7 arg8 harg8 arg9 harg9 arg10 harg10 arg11 harg11 arg12 harg12 arg13 harg13 arg14 harg14 arg20 arg21 arg22 arg23 arg24 arg25 arg27 arg28 arg29 arg30 arg31 arg32 arg36 arg37 x0 x1 x2 x3 x4 x5 x6 x7 x8 x9 x10 x11 x12 x13) (ix2 (row k t) ⟨128 + o.val, by omega⟩) = n.v2 (bt k) o ⟨4 * t.val + 2, by omega⟩ :=
  layer7m (first_v1 c harg1 harg2 harg3 harg4 harg5 harg6 harg7 harg8 harg9 harg10 harg11 harg12 harg13 harg14 harg15 harg16 arg20 arg21 arg22 arg23 arg24 arg25 arg26 arg27 arg28 arg29 arg30 arg31 arg32 arg33 arg34 arg35 arg36 arg37 arg38 arg39 I) (weights c harg1 harg2 harg3 harg4 harg5 harg6 harg7 harg8 harg9 harg10 harg11 harg12 harg13 harg14 harg15 harg16 arg20 arg21 arg22 arg23 arg24 arg25 arg26 arg27 arg28 arg29 arg30 arg31 arg32 arg33 arg34 arg35 arg36 arg37 arg38 arg39 I).b11 I.a13 (seen_un harg14 x13 0 0 _) (seen_at arg31.view _ 128 0 _) (seen_at arg31.view _ 0 0 _) (seen_at arg31.view _ 384 0 _) (seen_at arg31.view _ 256 0 _) (seen_at arg25.view _ 8 0 _) k t o

theorem first_v2d : Agree (kernelRun0_A.sl.r_24 c arg1 harg1 arg2 harg2 arg3 harg3 arg4 harg4 arg5 harg5 arg6 harg6 arg7 harg7 arg8 harg8 arg9 harg9 arg10 harg10 arg11 harg11 arg12 harg12 arg13 harg13 arg14 harg14 arg20 arg21 arg22 arg23 arg24 arg25 arg27 arg28 arg29 arg30 arg31 arg32 arg36 arg37 x0 x1 x2 x3 x4 x5 x6 x7 x8 x9 x10 x11 x12 x13) fun k o t => n.v2 (bt k) o ⟨4 * t.val + 3, by omega⟩ :=
  layer7d (first_v1 c harg1 harg2 harg3 harg4 harg5 harg6 harg7 harg8 harg9 harg10 harg11 harg12 harg13 harg14 harg15 harg16 arg20 arg21 arg22 arg23 arg24 arg25 arg26 arg27 arg28 arg29 arg30 arg31 arg32 arg33 arg34 arg35 arg36 arg37 arg38 arg39 I) (weights c harg1 harg2 harg3 harg4 harg5 harg6 harg7 harg8 harg9 harg10 harg11 harg12 harg13 harg14 harg15 harg16 arg20 arg21 arg22 arg23 arg24 arg25 arg26 arg27 arg28 arg29 arg30 arg31 arg32 arg33 arg34 arg35 arg36 arg37 arg38 arg39 I).b11 I.a13 ((seen_un harg14 x13 0 0 _).cast _) (seen_at arg25.view _ 8 128 _) (seen_at arg31.view _ 128 0 _) (seen_at arg25.view _ 9 0 _) (seen_at arg31.view _ 384 0 _)

/-- The last rows of the decoder. -/
theorem first_out : Agree (kernelRun0_A.sl.r_26 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg20 arg21 arg22 arg23 arg24 arg25 arg26 arg27 arg28 arg29 arg30 arg31 arg32 arg33 arg34 arg35 arg36 arg37 x0 x1 x2 x3 x4 x5 x6 x7 x8 x9 x10 x11 x12 x13 x14 x15) fun k q t => n.out (bt k) ⟨4 * t.val + q.val, by omega⟩ := by
  have W := weights c harg1 harg2 harg3 harg4 harg5 harg6 harg7 harg8 harg9 harg10 harg11 harg12 harg13 harg14 harg15 harg16 arg20 arg21 arg22 arg23 arg24 arg25 arg26 arg27 arg28 arg29 arg30 arg31 arg32 arg33 arg34 arg35 arg36 arg37 arg38 arg39 I
  refine layer8 ?_ W.b13 W.b14 W.b15 I.a15 (seen_at arg26.view _ 7 0 _) (seen_at arg33.view _ 0 0 _) (seen_at arg26.view _ 8 0 _) (seen_at arg34.view _ 0 0 _) (seen_at arg26.view _ 9 0 _) (seen_at arg35.view _ 0 0 _) (seen_un harg16 x15 0 0 _)
  exact padded_four (put_stores _ _ 384 _ (cut_slice _ _ (by decide) (by decide)) (cut_slice _ _ (by decide) (by decide)) (cut_slice _ _ (by decide) (by decide)) (cut_slice _ _ (by decide) (by decide)) (cut_slice _ _ (by decide) (by decide)) (cut_slice _ _ (by decide) (by decide)) (cut_slice _ _ (by decide) (by decide)) (cut_slice _ _ (by decide) (by decide))) (put_stores _ _ 128 _ (cut_slice _ _ (by decide) (by decide)) (cut_slice _ _ (by decide) (by decide)) (cut_slice _ _ (by decide) (by decide)) (cut_slice _ _ (by decide) (by decide)) (cut_slice _ _ (by decide) (by decide)) (cut_slice _ _ (by decide) (by decide)) (cut_slice _ _ (by decide) (by decide)) (cut_slice _ _ (by decide) (by decide))) (put_stores _ _ 0 _ (cut_slice _ _ (by decide) (by decide)) (cut_slice _ _ (by decide) (by decide)) (cut_slice _ _ (by decide) (by decide)) (cut_slice _ _ (by decide) (by decide)) (cut_slice _ _ (by decide) (by decide)) (cut_slice _ _ (by decide) (by decide)) (cut_slice _ _ (by decide) (by decide)) (cut_slice _ _ (by decide) (by decide))) (gap_fills _ _ (zero_block (by decide)) (zero_block (by decide)) (zero_block (by decide)) (zero_block (by decide)) (zero_block (by decide)) (zero_block (by decide)) (zero_block (by decide)) (zero_block (by decide)) (zero_block (by decide))) (first_v2d c harg1 harg2 harg3 harg4 harg5 harg6 harg7 harg8 harg9 harg10 harg11 harg12 harg13 harg14 harg15 harg16 arg20 arg21 arg22 arg23 arg24 arg25 arg26 arg27 arg28 arg29 arg30 arg31 arg32 arg33 arg34 arg35 arg36 arg37 arg38 arg39 I) (first_v2m c harg1 harg2 harg3 harg4 harg5 harg6 harg7 harg8 harg9 harg10 harg11 harg12 harg13 harg14 harg15 harg16 arg20 arg21 arg22 arg23 arg24 arg25 arg26 arg27 arg28 arg29 arg30 arg31 arg32 arg33 arg34 arg35 arg36 arg37 arg38 arg39 I) (first_v2a c harg1 harg2 harg3 harg4 harg5 harg6 harg7 harg8 harg9 harg10 harg11 harg12 harg13 harg14 harg15 harg16 arg20 arg21 arg22 arg23 arg24 arg25 arg26 arg27 arg28 arg29 arg30 arg31 arg32 arg33 arg34 arg35 arg36 arg37 arg38 arg39 I)

set_option maxHeartbeats 1000000 in
/-- The first grid point's results are those of its eight batches. -/
theorem first_result {sg : RefSig} {κ : Kind} {sp : Space} (i : grid0.Coords) {arg17 : Memref sig .tc .vmem S8x512x4 .f32} (harg17 : arg17.IsWhole) {arg18 : Memref sig .tc .vmem S1x1 .f32} (harg18 : arg18.IsWhole) {arg19 : Memref sig .tc .vmem S1x2 .f32} (harg19 : arg19.IsWhole) (harg20 : arg20.IsWhole) (harg21 : arg21.IsWhole) (harg22 : arg22.IsWhole) (harg23 : arg23.IsWhole) (harg24 : arg24.IsWhole) (harg25 : arg25.IsWhole) (harg26 : arg26.IsWhole) (harg27 : arg27.IsWhole) (harg28 : arg28.IsWhole) (harg29 : arg29.IsWhole) (harg30 : arg30.IsWhole) (harg31 : arg31.IsWhole) (harg32 : arg32.IsWhole) (harg33 : arg33.IsWhole) (harg34 : arg34.IsWhole) (harg35 : arg35.IsWhole) (harg36 : arg36.IsWhole) (harg37 : arg37.IsWhole) (harg38 : arg38.IsWhole) (harg39 : arg39.IsWhole) (hc0 : cond0_0 i) (hc1 : cond0_1 i) (hc2 : ¬cond0_2 i) (hc3 : ¬cond0_3 i) (v : View sg κ sp S8x512x4 .f32) (f : v.ty.Contents (Elt Ideal)) (k : Fin 8) (t : Fin 512) (q : Fin 4) :
    v.read (Elt Ideal) (v.writes (Elt Ideal) f (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 hc0 hc1 hc2 hc3 x0 x1 x2 x3 x4 x5 x6 x7 x8 x9 x10 x11 x12 x13 x14 x15).1) (ix3 k t q) = n.out (bt k) ⟨4 * t.val + q.val, by omega⟩ :=
  (eight_batches v f (batch_slice _ 7 _ rfl (by decide) (by decide)) (batch_slice _ 6 _ rfl (by decide) (by decide)) (batch_slice _ 5 _ rfl (by decide) (by decide)) (batch_slice _ 4 _ rfl (by decide) (by decide)) (batch_slice _ 3 _ rfl (by decide) (by decide)) (batch_slice _ 2 _ rfl (by decide) (by decide)) (batch_slice _ 1 _ rfl (by decide) (by decide)) (batch_slice _ 0 _ rfl (by decide) (by decide)) k t q).trans (first_out c harg1 harg2 harg3 harg4 harg5 harg6 harg7 harg8 harg9 harg10 harg11 harg12 harg13 harg14 harg15 harg16 arg20 arg21 arg22 arg23 arg24 arg25 arg26 arg27 arg28 arg29 arg30 arg31 arg32 arg33 arg34 arg35 arg36 arg37 arg38 arg39 I k t q)

set_option maxHeartbeats 2000000 in
/-- What the first grid point leaves behind. -/
theorem first_after : After n bt (arg20.view.read (Elt Ideal) (arg20.view.writes (Elt Ideal) arg20.view.junk (kernelRun0_A.sl.HS0_17 c arg1 harg1 x0)))
      (arg21.view.read (Elt Ideal) (arg21.view.writes (Elt Ideal) arg21.view.junk (kernelRun0_A.sl.HS1_17 c arg1 harg1 arg2 harg2 arg3 harg3 arg20 arg32 x0 x1 x2)))
      (arg22.view.read (Elt Ideal) (arg22.view.writes (Elt Ideal) arg22.view.junk (kernelRun0_A.sl.HS2_17 c arg1 harg1 arg2 harg2 arg3 harg3 arg4 harg4 arg5 harg5 arg20 arg21 arg27 arg32 x0 x1 x2 x3 x4)))
      (arg23.view.read (Elt Ideal) (arg23.view.writes (Elt Ideal) arg23.view.junk (kernelRun0_A.sl.HS3_17 c arg1 harg1 arg2 harg2 arg3 harg3 arg4 harg4 arg5 harg5 arg6 harg6 arg7 harg7 arg8 harg8 arg20 arg21 arg22 arg27 arg28 arg32 arg36 arg37 x0 x1 x2 x3 x4 x5 x6 x7)))
      (arg24.view.read (Elt Ideal) (arg24.view.writes (Elt Ideal) arg24.view.junk (kernelRun0_A.sl.HS4_17 c arg1 harg1 arg2 harg2 arg3 harg3 arg4 harg4 arg5 harg5 arg6 harg6 arg7 harg7 arg8 harg8 arg9 harg9 arg10 harg10 arg20 arg21 arg22 arg23 arg27 arg28 arg29 arg32 arg36 arg37 x0 x1 x2 x3 x4 x5 x6 x7 x8 x9)))
      (arg25.view.read (Elt Ideal) (arg25.view.writes (Elt Ideal) arg25.view.junk (kernelRun0_A.sl.HS5_25 c arg1 harg1 arg2 harg2 arg3 harg3 arg4 harg4 arg5 harg5 arg6 harg6 arg7 harg7 arg8 harg8 arg9 harg9 arg10 harg10 arg11 harg11 arg12 harg12 arg20 arg21 arg22 arg23 arg24 arg27 arg28 arg29 arg30 arg32 arg36 arg37 x0 x1 x2 x3 x4 x5 x6 x7 x8 x9 x10 x11)))
      (arg26.view.read (Elt Ideal) (arg26.view.writes (Elt Ideal) arg26.view.junk (kernelRun0_A.sl.HS6_33 c arg1 harg1 arg2 harg2 arg3 harg3 arg4 harg4 arg5 harg5 arg6 harg6 arg7 harg7 arg8 harg8 arg9 harg9 arg10 harg10 arg11 harg11 arg12 harg12 arg13 harg13 arg14 harg14 arg20 arg21 arg22 arg23 arg24 arg25 arg27 arg28 arg29 arg30 arg31 arg32 arg36 arg37 x0 x1 x2 x3 x4 x5 x6 x7 x8 x9 x10 x11 x12 x13)))
      (arg27.view.read (Elt Ideal) (arg27.view.writes (Elt Ideal) arg27.view.junk (kernelRun0_A.sl.HS7_4 c arg4 harg4 x3)))
      (arg28.view.read (Elt Ideal) (arg28.view.writes (Elt Ideal) arg28.view.junk (kernelRun0_A.sl.HS8_3 c arg6 harg6 x5)))
      (arg29.view.read (Elt Ideal) (arg29.view.writes (Elt Ideal) arg29.view.junk (kernelRun0_A.sl.HS9_3 c arg9 harg9 x8)))
      (arg30.view.read (Elt Ideal) (arg30.view.writes (Elt Ideal) arg30.view.junk (kernelRun0_A.sl.HS10_4 c arg11 harg11 x10)))
      (arg31.view.read (Elt Ideal) (arg31.view.writes (Elt Ideal) arg31.view.junk (kernelRun0_A.sl.HS11_4 c arg13 harg13 x12)))
      (arg32.view.read (Elt Ideal) (arg32.view.writes (Elt Ideal) arg32.view.junk (kernelRun0_A.sl.HS12_1 c arg2 harg2 x1)))
      (arg33.view.read (Elt Ideal) (arg33.view.writes (Elt Ideal) arg33.view.junk (kernelRun0_A.sl.HS13_2 c arg15 harg15 x14)))
      (arg34.view.read (Elt Ideal) (arg34.view.writes (Elt Ideal) arg34.view.junk (kernelRun0_A.sl.HS14_11 c arg15 harg15 x14)))
      (arg35.view.read (Elt Ideal) (arg35.view.writes (Elt Ideal) arg35.view.junk (kernelRun0_A.sl.HS15_2 c arg15 harg15 x14)))
      (arg36.view.read (Elt Ideal) (arg36.view.writes (Elt Ideal) arg36.view.junk (kernelRun0_A.sl.HS16_1 c arg8 harg8 x7)))
      (arg37.view.read (Elt Ideal) (arg37.view.writes (Elt Ideal) arg37.view.junk (kernelRun0_A.sl.HS17_1 c arg8 harg8 x7)))
      (arg38.view.read (Elt Ideal) (arg38.view.writes (Elt Ideal) arg38.view.junk [⟨Rect.unit (s := S1x512) ![0, 0] S1x512.size inb_S1x512_S1x512_0_0, k0_pay155 (kernelRun0_A.sl.r_13 c arg1 harg1 arg2 harg2 arg3 harg3 arg4 harg4 arg5 harg5 arg6 harg6 arg7 harg7 arg8 harg8 arg20 arg21 arg22 arg27 arg28 arg32 arg36 arg37 x0 x1 x2 x3 x4 x5 x6 x7)⟩]))
      (arg39.view.read (Elt Ideal) (arg39.view.writes (Elt Ideal) arg39.view.junk [⟨Rect.unit (s := S1x1) ![0, 0] S1x1.size inb_S1x1_S1x1_0_0, k0_pay156 (kernelRun0_A.sl.r_8 c arg1 harg1 arg2 harg2 arg3 harg3 arg4 harg4 arg5 harg5 arg6 harg6 arg7 harg7 arg20 arg21 arg22 arg27 arg28 arg32 x0 x1 x2 x3 x4 x5 x6) (kernelRun0_A.sl.r_10 c arg1 harg1 arg2 harg2 arg3 harg3 arg4 harg4 arg5 harg5 arg6 harg6 arg7 harg7 arg8 harg8 arg20 arg21 arg22 arg27 arg28 arg32 arg36 arg37 x0 x1 x2 x3 x4 x5 x6 x7) (iota .tc S4160x1 32 [0] iota_S4160x1_d0_w32) k0_pay152 k0_pay153 2600#32⟩])) where
  g0 := (put_stores _ _ 0 (xrows n bt) (cut_x harg1 I.a0 7 3640 (by omega) rfl _ _ _) (cut_x harg1 I.a0 6 3120 (by omega) rfl _ _ _) (cut_x harg1 I.a0 5 2600 (by omega) rfl _ _ _) (cut_x harg1 I.a0 4 2080 (by omega) rfl _ _ _) (cut_x harg1 I.a0 3 1560 (by omega) rfl _ _ _) (cut_x harg1 I.a0 2 1040 (by omega) rfl _ _ _) (cut_x harg1 I.a0 1 520 (by omega) rfl _ _ _) (cut_x harg1 I.a0 0 0 (by omega) rfl _ _ _)).gap (gap_fills _ _ (zero_block (by decide)) (zero_block (by decide)) (zero_block (by decide)) (zero_block (by decide)) (zero_block (by decide)) (zero_block (by decide)) (zero_block (by decide)) (zero_block (by decide)) (zero_block (by decide)))
  g1 := (put_stores _ _ 0 _ (cut_slice _ _ (by decide) (by decide)) (cut_slice _ _ (by decide) (by decide)) (cut_slice _ _ (by decide) (by decide)) (cut_slice _ _ (by decide) (by decide)) (cut_slice _ _ (by decide) (by decide)) (cut_slice _ _ (by decide) (by decide)) (cut_slice _ _ (by decide) (by decide)) (cut_slice _ _ (by decide) (by decide))).gap (gap_fills _ _ (zero_block (by decide)) (zero_block (by decide)) (zero_block (by decide)) (zero_block (by decide)) (zero_block (by decide)) (zero_block (by decide)) (zero_block (by decide)) (zero_block (by decide)) (zero_block (by decide)))
  g2 := (put_stores _ _ 0 _ (cut_slice _ _ (by decide) (by decide)) (cut_slice _ _ (by decide) (by decide)) (cut_slice _ _ (by decide) (by decide)) (cut_slice _ _ (by decide) (by decide)) (cut_slice _ _ (by decide) (by decide)) (cut_slice _ _ (by decide) (by decide)) (cut_slice _ _ (by decide) (by decide)) (cut_slice _ _ (by decide) (by decide))).gap (gap_fills _ _ (zero_block (by decide)) (zero_block (by decide)) (zero_block (by decide)) (zero_block (by decide)) (zero_block (by decide)) (zero_block (by decide)) (zero_block (by decide)) (zero_block (by decide)) (zero_block (by decide)))
  g3 := (put_stores _ _ 0 _ (cut_slice _ _ (by decide) (by decide)) (cut_slice _ _ (by decide) (by decide)) (cut_slice _ _ (by decide) (by decide)) (cut_slice _ _ (by decide) (by decide)) (cut_slice _ _ (by decide) (by decide)) (cut_slice _ _ (by decide) (by decide)) (cut_slice _ _ (by decide) (by decide)) (cut_slice _ _ (by decide) (by decide))).gap (gap_fills _ _ (zero_block (by decide)) (zero_block (by decide)) (zero_block (by decide)) (zero_block (by decide)) (zero_block (by decide)) (zero_block (by decide)) (zero_block (by decide)) (zero_block (by decide)) (zero_block (by decide)))
  g4 := (put_stores _ _ 0 _ (cut_slice _ _ (by decide) (by decide)) (cut_slice _ _ (by decide) (by decide)) (cut_slice _ _ (by decide) (by decide)) (cut_slice _ _ (by decide) (by decide)) (cut_slice _ _ (by decide) (by decide)) (cut_slice _ _ (by decide) (by decide)) (cut_slice _ _ (by decide) (by decide)) (cut_slice _ _ (by decide) (by decide))).gap (gap_fills _ _ (zero_block (by decide)) (zero_block (by decide)) (zero_block (by decide)) (zero_block (by decide)) (zero_block (by decide)) (zero_block (by decide)) (zero_block (by decide)) (zero_block (by decide)) (zero_block (by decide)))
  g5 := (put_stores _ _ 128 _ (cut_slice _ _ (by decide) (by decide)) (cut_slice _ _ (by decide) (by decide)) (cut_slice _ _ (by decide) (by decide)) (cut_slice _ _ (by decide) (by decide)) (cut_slice _ _ (by decide) (by decide)) (cut_slice _ _ (by decide) (by decide)) (cut_slice _ _ (by decide) (by decide)) (cut_slice _ _ (by decide) (by decide))).gap ((put_stores _ _ 0 _ (cut_slice _ _ (by decide) (by decide)) (cut_slice _ _ (by decide) (by decide)) (cut_slice _ _ (by decide) (by decide)) (cut_slice _ _ (by decide) (by decide)) (cut_slice _ _ (by decide) (by decide)) (cut_slice _ _ (by decide) (by decide)) (cut_slice _ _ (by decide) (by decide)) (cut_slice _ _ (by decide) (by decide))).gap (gap_fills _ _ (zero_block (by decide)) (zero_block (by decide)) (zero_block (by decide)) (zero_block (by decide)) (zero_block (by decide)) (zero_block (by decide)) (zero_block (by decide)) (zero_block (by decide)) (zero_block (by decide))))
  g6 := (put_stores _ _ 384 _ (cut_slice _ _ (by decide) (by decide)) (cut_slice _ _ (by decide) (by decide)) (cut_slice _ _ (by decide) (by decide)) (cut_slice _ _ (by decide) (by decide)) (cut_slice _ _ (by decide) (by decide)) (cut_slice _ _ (by decide) (by decide)) (cut_slice _ _ (by decide) (by decide)) (cut_slice _ _ (by decide) (by decide))).gap ((put_stores _ _ 128 _ (cut_slice _ _ (by decide) (by decide)) (cut_slice _ _ (by decide) (by decide)) (cut_slice _ _ (by decide) (by decide)) (cut_slice _ _ (by decide) (by decide)) (cut_slice _ _ (by decide) (by decide)) (cut_slice _ _ (by decide) (by decide)) (cut_slice _ _ (by decide) (by decide)) (cut_slice _ _ (by decide) (by decide))).gap ((put_stores _ _ 0 _ (cut_slice _ _ (by decide) (by decide)) (cut_slice _ _ (by decide) (by decide)) (cut_slice _ _ (by decide) (by decide)) (cut_slice _ _ (by decide) (by decide)) (cut_slice _ _ (by decide) (by decide)) (cut_slice _ _ (by decide) (by decide)) (cut_slice _ _ (by decide) (by decide)) (cut_slice _ _ (by decide) (by decide))).gap (gap_fills _ _ (zero_block (by decide)) (zero_block (by decide)) (zero_block (by decide)) (zero_block (by decide)) (zero_block (by decide)) (zero_block (by decide)) (zero_block (by decide)) (zero_block (by decide)) (zero_block (by decide)))))
  w := weights c harg1 harg2 harg3 harg4 harg5 harg6 harg7 harg8 harg9 harg10 harg11 harg12 harg13 harg14 harg15 harg16 arg20 arg21 arg22 arg23 arg24 arg25 arg26 arg27 arg28 arg29 arg30 arg31 arg32 arg33 arg34 arg35 arg36 arg37 arg38 arg39 I
  cnt := fun k => (read_whole arg38.view _ _ _ _ 0 k).trans ((kept_counts _ _).trans (first_counts c harg1 harg2 harg3 harg4 harg5 harg6 harg7 harg8 harg9 harg10 harg11 harg12 harg13 harg14 harg15 harg16 arg20 arg21 arg22 arg23 arg24 arg25 arg26 arg27 arg28 arg29 arg30 arg31 arg32 arg33 arg34 arg35 arg36 arg37 arg38 arg39 I k))
  sq := (read_whole arg39.view _ _ _ _ 0 0).trans ((kept_squares _ _ _ _ _ _ _).trans (squares (first_z c harg1 harg2 harg3 harg4 harg5 harg6 harg7 harg8 harg9 harg10 harg11 harg12 harg13 harg14 harg15 harg16 arg20 arg21 arg22 arg23 arg24 arg25 arg26 arg27 arg28 arg29 arg30 arg31 arg32 arg33 arg34 arg35 arg36 arg37 arg38 arg39 I) (first_q c harg1 harg2 harg3 harg4 harg5 harg6 harg7 harg8 harg9 harg10 harg11 harg12 harg13 harg14 harg15 harg16 arg20 arg21 arg22 arg23 arg24 arg25 arg26 arg27 arg28 arg29 arg30 arg31 arg32 arg33 arg34 arg35 arg36 arg37 arg38 arg39 I)))

end First

end Cert.Pay
end
-- ==== Proof.CaseB.lean ====
/- The second grid point: the weights stay as they were laid out, every layer runs on the other eight batches, and the counts and squares are completed. -/
module

public import Idealize.ShloMosaic.Lib.Pipeline.ValueKit
public import proofs.«01_k».proof.Proof.Gen.Own.KernelIdeal.RunB
public import proofs.«01_k».proof.Proof.Ends

@[expose] public section
set_option maxRecDepth 16384
noncomputable section
namespace Cert.Pay
open Idealize.ShloMosaic hiding ix0 ix1 ix2 ix3 ix4
open Idealize.ShloMosaic.ValueIdx
open Cert.Spec Cert.Rows Cert.KernelIdeal Cert.KernelIdeal.Gen
variable [Cert.KernelIdeal.Facts]

theorem gap_kept {sg : RefSig} {κ : Kind} {sp : Space} {C : ℕ} {v : Memref sg κ sp (⟨2, ![4176, C]⟩ : Shape) .f32} (hv : v.IsWhole) {x : (⟨2, ![4176, C]⟩ : Shape).Idx → EReal} (h : Gap x) :
    Gap (v.view.read (Elt Ideal) (v.view.writes (Elt Ideal) (hv.unread (Val := Elt Ideal) x) [])) := by
  show Gap (v.view.read (Elt Ideal) (hv.unread (Val := Elt Ideal) x))
  rw [hv.read_unread]
  exact h

section Second
variable (c : Dev nD) {arg1 : Memref sig .tc .vmem S8x512x4 .f32} (harg1 : arg1.IsWhole) {arg2 : Memref sig .tc .vmem S128x4 .f32} (harg2 : arg2.IsWhole) {arg3 : Memref sig .tc .vmem S1x128 .f32} (harg3 : arg3.IsWhole) {arg4 : Memref sig .tc .vmem S128x512 .f32} (harg4 : arg4.IsWhole) {arg5 : Memref sig .tc .vmem S1x128 .f32} (harg5 : arg5.IsWhole) {arg6 : Memref sig .tc .vmem S128x384 .f32} (harg6 : arg6.IsWhole) {arg7 : Memref sig .tc .vmem S1x128 .f32} (harg7 : arg7.IsWhole) {arg8 : Memref sig .tc .vmem S512x128 .f32} (harg8 : arg8.IsWhole) {arg9 : Memref sig .tc .vmem S128x384 .f32} (harg9 : arg9.IsWhole) {arg10 : Memref sig .tc .vmem S1x128 .f32} (harg10 : arg10.IsWhole) {arg11 : Memref sig .tc .vmem S128x512 .f32} (harg11 : arg11.IsWhole) {arg12 : Memref sig .tc .vmem S1x128 .f32} (harg12 : arg12.IsWhole) {arg13 : Memref sig .tc .vmem S128x512 .f32} (harg13 : arg13.IsWhole) {arg14 : Memref sig .tc .vmem S1x128 .f32} (harg14 : arg14.IsWhole) {arg15 : Memref sig .tc .vmem S128x3 .f32} (harg15 : arg15.IsWhole) {arg16 : Memref sig .tc .vmem S1x1 .f32} (harg16 : arg16.IsWhole) {arg20 : Memref sig .tc .vmem S4176x4 .f32} (harg20 : arg20.IsWhole) {arg21 : Memref sig .tc .vmem S4176x256 .f32} (harg21 : arg21.IsWhole) {arg22 : Memref sig .tc .vmem S4176x128 .f32} (harg22 : arg22.IsWhole) {arg23 : Memref sig .tc .vmem S4176x128 .f32} (harg23 : arg23.IsWhole) {arg24 : Memref sig .tc .vmem S4176x128 .f32} (harg24 : arg24.IsWhole) {arg25 : Memref sig .tc .vmem S4176x256 .f32} (harg25 : arg25.IsWhole) {arg26 : Memref sig .tc .vmem S4176x512 .f32} (harg26 : arg26.IsWhole) {arg27 : Memref sig .tc .vmem S512x128 .f32} (harg27 : arg27.IsWhole) {arg28 : Memref sig .tc .vmem S384x128 .f32} (harg28 : arg28.IsWhole) {arg29 : Memref sig .tc .vmem S384x128 .f32} (harg29 : arg29.IsWhole) {arg30 : Memref sig .tc .vmem S512x128 .f32} (harg30 : arg30.IsWhole) {arg31 : Memref sig .tc .vmem S512x128 .f32} (harg31 : arg31.IsWhole) {arg32 : Memref sig .tc .vmem S8x256 .f32} (harg32 : arg32.IsWhole) {arg33 : Memref sig .tc .vmem S512x4 .f32} (harg33 : arg33.IsWhole) {arg34 : Memref sig .tc .vmem S512x4 .f32} (harg34 : arg34.IsWhole) {arg35 : Memref sig .tc .vmem S512x4 .f32} (harg35 : arg35.IsWhole) {arg36 : Memref sig .tc .vmem S128x512 .f32} (harg36 : arg36.IsWhole) {arg37 : Memref sig .tc .vmem S1x512 .f32} (harg37 : arg37.IsWhole) {arg38 : Memref sig .tc .vmem S1x512 .f32} (harg38 : arg38.IsWhole) {arg39 : Memref sig .tc .vmem S1x1 .f32} (harg39 : arg39.IsWhole)
  {x0 : Vec Ideal S8x512x4 .f32} {x1 : Vec Ideal S128x4 .f32} {x2 : Vec Ideal S1x128 .f32} {x3 : Vec Ideal S128x512 .f32} {x4 : Vec Ideal S1x128 .f32} {x5 : Vec Ideal S128x384 .f32} {x6 : Vec Ideal S1x128 .f32} {x7 : Vec Ideal S512x128 .f32} {x8 : Vec Ideal S128x384 .f32} {x9 : Vec Ideal S1x128 .f32} {x10 : Vec Ideal S128x512 .f32} {x11 : Vec Ideal S1x128 .f32} {x12 : Vec Ideal S128x512 .f32} {x13 : Vec Ideal S1x128 .f32} {x14 : Vec Ideal S128x3 .f32} {x15 : Vec Ideal S1x1 .f32}
  {xs0 : Vec Ideal S4176x4 .f32} {xs1 : Vec Ideal S4176x256 .f32} {xs2 : Vec Ideal S4176x128 .f32} {xs3 : Vec Ideal S4176x128 .f32} {xs4 : Vec Ideal S4176x128 .f32} {xs5 : Vec Ideal S4176x256 .f32} {xs6 : Vec Ideal S4176x512 .f32} {xs7 : Vec Ideal S512x128 .f32} {xs8 : Vec Ideal S384x128 .f32} {xs9 : Vec Ideal S384x128 .f32} {xs10 : Vec Ideal S512x128 .f32} {xs11 : Vec Ideal S512x128 .f32} {xs12 : Vec Ideal S8x256 .f32} {xs13 : Vec Ideal S512x4 .f32} {xs14 : Vec Ideal S512x4 .f32} {xs15 : Vec Ideal S512x4 .f32} {xs16 : Vec Ideal S128x512 .f32} {xs17 : Vec Ideal S1x512 .f32} {xs18 : Vec Ideal S1x512 .f32} {xs19 : Vec Ideal S1x1 .f32} {n : Net} {bt bt0 : Fin 8 → Fin 16}
  (I : Ins n bt x0 x1 x2 x3 x4 x5 x6 x7 x8 x9 x10 x11 x12 x13 x14 x15)
  (S : After n bt0 xs0 xs1 xs2 xs3 xs4 xs5 xs6 xs7 xs8 xs9 xs10 xs11 xs12 xs13 xs14 xs15 xs16 xs17 xs18 xs19)
include c harg1 harg2 harg3 harg4 harg5 harg6 harg7 harg8 harg9 harg10 harg11 harg12 harg13 harg14 harg15 harg16 harg20 harg21 harg22 harg23 harg24 harg25 harg26 harg27 harg28 harg29 harg30 harg31 harg32 harg33 harg34 harg35 harg36 harg37 harg38 harg39 I S

/-- The rows before the codebook. -/
theorem second_z : Agree (kernelRun0_B.sl.r_4 c arg1 harg1 arg3 harg3 arg5 harg5 arg7 harg7 arg20 harg20 arg21 harg21 arg22 harg22 arg27 harg27 arg28 harg28 arg32 harg32 x0 x2 x4 x6 xs0 xs1 xs2 xs7 xs8 xs12) fun k o t => n.z (bt k) o t := by
  refine layer3 ?_ S.w.b8 I.a6 (seen_at arg22.view _ 7 0 _) (seen_un harg28 xs8 0 0 _) (seen_at arg22.view _ 8 0 _) (seen_un harg28 xs8 128 0 _) (seen_at arg22.view _ 9 0 _) (seen_un harg28 xs8 256 0 _) (seen_un harg7 x6 0 0 _)
  refine Put.padded (put_stores _ _ 0 _ (cut_slice _ _ (by decide) (by decide)) (cut_slice _ _ (by decide) (by decide)) (cut_slice _ _ (by decide) (by decide)) (cut_slice _ _ (by decide) (by decide)) (cut_slice _ _ (by decide) (by decide)) (cut_slice _ _ (by decide) (by decide)) (cut_slice _ _ (by decide) (by decide)) (cut_slice _ _ (by decide) (by decide))) (gap_kept harg22 S.g2) ?_
  refine layer2 ?_ S.w.b7 I.a4 (seen_at arg21.view _ 7 128 _) (seen_un harg27 xs7 0 0 _) (seen_at arg21.view _ 8 0 _) (seen_un harg27 xs7 128 0 _) (seen_at arg21.view _ 9 0 _) (seen_un harg27 xs7 384 0 _) (seen_un harg5 x4 0 0 _)
  refine Put.padded (put_stores _ _ 0 _ (cut_slice _ _ (by decide) (by decide)) (cut_slice _ _ (by decide) (by decide)) (cut_slice _ _ (by decide) (by decide)) (cut_slice _ _ (by decide) (by decide)) (cut_slice _ _ (by decide) (by decide)) (cut_slice _ _ (by decide) (by decide)) (cut_slice _ _ (by decide) (by decide)) (cut_slice _ _ (by decide) (by decide))) (gap_kept harg21 S.g1) ?_
  refine layer1 ?_ S.w.b12 I.a2 (seen_at arg20.view _ 7 3 _) (seen_at arg20.view _ 8 0 _) (seen_at arg20.view _ 9 0 _) (seen_un harg3 x2 0 0 _) (seen_un harg32 xs12 0 0 _)
  exact Put.padded (put_stores _ _ 0 (xrows n bt) (cut_x harg1 I.a0 7 3640 (by omega) rfl _ _ _) (cut_x harg1 I.a0 6 3120 (by omega) rfl _ _ _) (cut_x harg1 I.a0 5 2600 (by omega) rfl _ _ _) (cut_x harg1 I.a0 4 2080 (by omega) rfl _ _ _) (cut_x harg1 I.a0 3 1560 (by omega) rfl _ _ _) (cut_x harg1 I.a0 2 1040 (by omega) rfl _ _ _) (cut_x harg1 I.a0 1 520 (by omega) rfl _ _ _) (cut_x harg1 I.a0 0 0 (by omega) rfl _ _ _)) (gap_kept harg20 S.g0) (xrows_agree n bt)

theorem second_code (k : Fin 8) (t : Fin 512) : rowCode (kernelRun0_B.sl.r_4 c arg1 harg1 arg3 harg3 arg5 harg5 arg7 harg7 arg20 harg20 arg21 harg21 arg22 harg22 arg27 harg27 arg28 harg28 arg32 harg32 x0 x2 x4 x6 xs0 xs1 xs2 xs7 xs8 xs12) (View.readAt (Elt Ideal) arg36.view (Rect.unit (s := S128x512) ![0, 0] S128x512.size inb_S128x512_S128x512_0_0).toLoadRect (harg36.unread (Val := Elt Ideal) xs16))
    (View.readAt (Elt Ideal) arg37.view (Rect.unit (s := S1x512) ![0, 0] S1x512.size inb_S1x512_S1x512_0_0).toLoadRect (harg37.unread (Val := Elt Ideal) xs17)) (row k t) = n.code (bt k) t :=
  the_code (second_z c harg1 harg2 harg3 harg4 harg5 harg6 harg7 harg8 harg9 harg10 harg11 harg12 harg13 harg14 harg15 harg16 harg20 harg21 harg22 harg23 harg24 harg25 harg26 harg27 harg28 harg29 harg30 harg31 harg32 harg33 harg34 harg35 harg36 harg37 harg38 harg39 I S) S.w.b16 S.w.b17 (seen_un harg36 xs16 0 0 _) (seen_un harg37 xs17 0 0 _) k t

/-- The rows taken from the codebook. -/
theorem second_q : Agree (kernelRun0_B.sl.r_6 c arg1 harg1 arg3 harg3 arg5 harg5 arg7 harg7 arg8 harg8 arg20 harg20 arg21 harg21 arg22 harg22 arg27 harg27 arg28 harg28 arg32 harg32 arg36 harg36 arg37 harg37 x0 x2 x4 x6 x7 xs0 xs1 xs2 xs7 xs8 xs12 xs16 xs17) fun k o t => n.q (bt k) o t :=
  layer4 (second_code c harg1 harg2 harg3 harg4 harg5 harg6 harg7 harg8 harg9 harg10 harg11 harg12 harg13 harg14 harg15 harg16 harg20 harg21 harg22 harg23 harg24 harg25 harg26 harg27 harg28 harg29 harg30 harg31 harg32 harg33 harg34 harg35 harg36 harg37 harg38 harg39 I S) I.a7 (seen_un harg8 x7 0 0 _)

/-- How often each code was taken. -/
theorem second_counts (k : Fin 512) : (kernelRun0_B.sl.r_9 c arg1 harg1 arg3 harg3 arg5 harg5 arg7 harg7 arg20 harg20 arg21 harg21 arg22 harg22 arg27 harg27 arg28 harg28 arg32 harg32 arg36 harg36 arg37 harg37 x0 x2 x4 x6 xs0 xs1 xs2 xs7 xs8 xs12 xs16 xs17) (ix2 0 k) = ∑ i, n.cnt (bt i) k :=
  counts (second_code c harg1 harg2 harg3 harg4 harg5 harg6 harg7 harg8 harg9 harg10 harg11 harg12 harg13 harg14 harg15 harg16 harg20 harg21 harg22 harg23 harg24 harg25 harg26 harg27 harg28 harg29 harg30 harg31 harg32 harg33 harg34 harg35 harg36 harg37 harg38 harg39 I S) k

/-- The decoder's first rows. -/
theorem second_u : Agree (kernelRun0_B.sl.r_10 c arg1 harg1 arg3 harg3 arg5 harg5 arg7 harg7 arg8 harg8 arg10 harg10 arg20 harg20 arg21 harg21 arg22 harg22 arg23 harg23 arg27 harg27 arg28 harg28 arg29 harg29 arg32 harg32 arg36 harg36 arg37 harg37 x0 x2 x4 x6 x7 x9 xs0 xs1 xs2 xs3 xs7 xs8 xs9 xs12 xs16 xs17) fun k o t => n.u (bt k) o t := by
  refine layer5 ?_ S.w.b9 I.a9 (seen_at arg23.view _ 7 0 _) (seen_un harg29 xs9 0 0 _) (seen_at arg23.view _ 8 0 _) (seen_un harg29 xs9 128 0 _) (seen_at arg23.view _ 9 0 _) (seen_un harg29 xs9 256 0 _) (seen_un harg10 x9 0 0 _)
  exact Put.padded (put_stores _ _ 0 _ (cut_slice _ _ (by decide) (by decide)) (cut_slice _ _ (by decide) (by decide)) (cut_slice _ _ (by decide) (by decide)) (cut_slice _ _ (by decide) (by decide)) (cut_slice _ _ (by decide) (by decide)) (cut_slice _ _ (by decide) (by decide)) (cut_slice _ _ (by decide) (by decide)) (cut_slice _ _ (by decide) (by decide))) (gap_kept harg23 S.g3) (second_q c harg1 harg2 harg3 harg4 harg5 harg6 harg7 harg8 harg9 harg10 harg11 harg12 harg13 harg14 harg15 harg16 harg20 harg21 harg22 harg23 harg24 harg25 harg26 harg27 harg28 harg29 harg30 harg31 harg32 harg33 harg34 harg35 harg36 harg37 harg38 harg39 I S)

/-- The even rows of the first step up. -/
theorem second_even : Agree (kernelRun0_B.sl.r_14 c arg1 harg1 arg3 harg3 arg5 harg5 arg7 harg7 arg8 harg8 arg10 harg10 arg12 harg12 arg20 harg20 arg21 harg21 arg22 harg22 arg23 harg23 arg24 harg24 arg27 harg27 arg28 harg28 arg29 harg29 arg30 harg30 arg32 harg32 arg36 harg36 arg37 harg37 x0 x2 x4 x6 x7 x9 x11 xs0 xs1 xs2 xs3 xs4 xs7 xs8 xs9 xs10 xs12 xs16 xs17) fun k o t => n.v1 (bt k) o ⟨2 * t.val, by omega⟩ := by
  refine layer6e ?_ S.w.b10 I.a11 (seen_un harg12 x11 0 0 _) (seen_un harg30 xs10 256 0 _) (seen_at arg24.view _ 8 0 _) (seen_at arg24.view _ 7 0 _) (seen_un harg30 xs10 0 0 _)
  exact Put.padded (put_stores _ _ 0 _ (cut_slice _ _ (by decide) (by decide)) (cut_slice _ _ (by decide) (by decide)) (cut_slice _ _ (by decide) (by decide)) (cut_slice _ _ (by decide) (by decide)) (cut_slice _ _ (by decide) (by decide)) (cut_slice _ _ (by decide) (by decide)) (cut_slice _ _ (by decide) (by decide)) (cut_slice _ _ (by decide) (by decide))) (gap_kept harg24 S.g4) (second_u c harg1 harg2 harg3 harg4 harg5 harg6 harg7 harg8 harg9 harg10 harg11 harg12 harg13 harg14 harg15 harg16 harg20 harg21 harg22 harg23 harg24 harg25 harg26 harg27 harg28 harg29 harg30 harg31 harg32 harg33 harg34 harg35 harg36 harg37 harg38 harg39 I S)

/-- The odd rows of the first step up. -/
theorem second_odd : Agree (kernelRun0_B.sl.r_15 c arg1 harg1 arg3 harg3 arg5 harg5 arg7 harg7 arg8 harg8 arg10 harg10 arg12 harg12 arg20 harg20 arg21 harg21 arg22 harg22 arg23 harg23 arg24 harg24 arg27 harg27 arg28 harg28 arg29 harg29 arg30 harg30 arg32 harg32 arg36 harg36 arg37 harg37 x0 x2 x4 x6 x7 x9 x11 xs0 xs1 xs2 xs3 xs4 xs7 xs8 xs9 xs10 xs12 xs16 xs17) fun k o t => n.v1 (bt k) o ⟨2 * t.val + 1, by omega⟩ := by
  refine layer6o ?_ S.w.b10 I.a11 ((seen_un harg12 x11 0 0 _).cast _) (seen_un harg30 xs10 128 0 _) (seen_at arg24.view _ 8 0 _) (seen_at arg24.view _ 9 0 _) (seen_un harg30 xs10 384 0 _)
  exact Put.padded (put_stores _ _ 0 _ (cut_slice _ _ (by decide) (by decide)) (cut_slice _ _ (by decide) (by decide)) (cut_slice _ _ (by decide) (by decide)) (cut_slice _ _ (by decide) (by decide)) (cut_slice _ _ (by decide) (by decide)) (cut_slice _ _ (by decide) (by decide)) (cut_slice _ _ (by decide) (by decide)) (cut_slice _ _ (by decide) (by decide))) (gap_kept harg24 S.g4) (second_u c harg1 harg2 harg3 harg4 harg5 harg6 harg7 harg8 harg9 harg10 harg11 harg12 harg13 harg14 harg15 harg16 harg20 harg21 harg22 harg23 harg24 harg25 harg26 harg27 harg28 harg29 harg30 harg31 harg32 harg33 harg34 harg35 harg36 harg37 harg38 harg39 I S)

/-- Both halves of the first step up, in place. -/
theorem second_v1 : Padded (arg25.view.read (Elt Ideal) (arg25.view.writes (Elt Ideal) (harg25.unread (Val := Elt Ideal) xs5) (kernelRun0_B.sl.HS5_16 c arg1 harg1 arg3 harg3 arg5 harg5 arg7 harg7 arg8 harg8 arg10 harg10 arg12 harg12 arg20 harg20 arg21 harg21 arg22 harg22 arg23 harg23 arg24 harg24 arg27 harg27 arg28 harg28 arg29 harg29 arg30 harg30 arg32 harg32 arg36 harg36 arg37 harg37 x0 x2 x4 x6 x7 x9 x11 xs0 xs1 xs2 xs3 xs4 xs7 xs8 xs9 xs10 xs12 xs16 xs17))) fun k => lane2 (n.v1 (bt k)) :=
  padded_two (put_stores _ _ 128 _ (cut_slice _ _ (by decide) (by decide)) (cut_slice _ _ (by decide) (by decide)) (cut_slice _ _ (by decide) (by decide)) (cut_slice _ _ (by decide) (by decide)) (cut_slice _ _ (by decide) (by decide)) (cut_slice _ _ (by decide) (by decide)) (cut_slice _ _ (by decide) (by decide)) (cut_slice _ _ (by decide) (by decide))) (put_stores _ _ 0 _ (cut_slice _ _ (by decide) (by decide)) (cut_slice _ _ (by decide) (by decide)) (cut_slice _ _ (by decide) (by decide)) (cut_slice _ _ (by decide) (by decide)) (cut_slice _ _ (by decide) (by decide)) (cut_slice _ _ (by decide) (by decide)) (cut_slice _ _ (by decide) (by decide)) (cut_slice _ _ (by decide) (by decide))) (gap_kept harg25 S.g5) (second_odd c harg1 harg2 harg3 harg4 harg5 harg6 harg7 harg8 harg9 harg10 harg11 harg12 harg13 harg14 harg15 harg16 harg20 harg21 harg22 harg23 harg24 harg25 harg26 harg27 harg28 harg29 harg30 harg31 harg32 harg33 harg34 harg35 harg36 harg37 harg38 harg39 I S) (second_even c harg1 harg2 harg3 harg4 harg5 harg6 harg7 harg8 harg9 harg10 harg11 harg12 harg13 harg14 harg15 harg16 harg20 harg21 harg22 harg23 harg24 harg25 harg26 harg27 harg28 harg29 harg30 harg31 harg32 harg33 harg34 harg35 harg36 harg37 harg38 harg39 I S)

theorem second_v2a : Agree (kernelRun0_B.sl.r_18 c arg1 harg1 arg3 harg3 arg5 harg5 arg7 harg7 arg8 harg8 arg10 harg10 arg12 harg12 arg14 harg14 arg20 harg20 arg21 harg21 arg22 harg22 arg23 harg23 arg24 harg24 arg25 harg25 arg27 harg27 arg28 harg28 arg29 harg29 arg30 harg30 arg31 harg31 arg32 harg32 arg36 harg36 arg37 harg37 x0 x2 x4 x6 x7 x9 x11 x13 xs0 xs1 xs2 xs3 xs4 xs5 xs7 xs8 xs9 xs10 xs11 xs12 xs16 xs17) fun k o t => n.v2 (bt k) o ⟨4 * t.val, by omega⟩ :=
  layer7a (second_v1 c harg1 harg2 harg3 harg4 harg5 harg6 harg7 harg8 harg9 harg10 harg11 harg12 harg13 harg14 harg15 harg16 harg20 harg21 harg22 harg23 harg24 harg25 harg26 harg27 harg28 harg29 harg30 harg31 harg32 harg33 harg34 harg35 harg36 harg37 harg38 harg39 I S) S.w.b11 I.a13 (seen_un harg14 x13 0 0 _) (seen_at arg25.view _ 7 128 _) (seen_un harg31 xs11 0 0 _) (seen_at arg25.view _ 8 0 _) (seen_un harg31 xs11 256 0 _)

theorem second_v2m (k t) (o : Fin 128) : (kernelRun0_B.sl.r_19 c arg1 harg1 arg3 harg3 arg5 harg5 arg7 harg7 arg8 harg8 arg10 harg10 arg12 harg12 arg14 harg14 arg20 harg20 arg21 harg21 arg22 harg22 arg23 harg23 arg24 harg24 arg25 harg25 arg27 harg27 arg28 harg28 arg29 harg29 arg30 harg30 arg31 harg31 arg32 harg32 arg36 harg36 arg37 harg37 x0 x2 x4 x6 x7 x9 x11 x13 xs0 xs1 xs2 xs3 xs4 xs5 xs7 xs8 xs9 xs10 xs11 xs12 xs16 xs17) (ix2 (row k t) ⟨o.val, by omega⟩) = n.v2 (bt k) o ⟨4 * t.val + 1, by omega⟩
    ∧ (kernelRun0_B.sl.r_19 c arg1 harg1 arg3 harg3 arg5 harg5 arg7 harg7 arg8 harg8 arg10 harg10 arg12 harg12 arg14 harg14 arg20 harg20 arg21 harg21 arg22 harg22 arg23 harg23 arg24 harg24 arg25 harg25 arg27 harg27 arg28 harg28 arg29 harg29 arg30 harg30 arg31 harg31 arg32 harg32 arg36 harg36 arg37 harg37 x0 x2 x4 x6 x7 x9 x11 x13 xs0 xs1 xs2 xs3 xs4 xs5 xs7 xs8 xs9 xs10 xs11 xs12 xs16 xs17) (ix2 (row k t) ⟨128 + o.val, by omega⟩) = n.v2 (bt k) o ⟨4 * t.val + 2, by omega⟩ :=
  layer7m (second_v1 c harg1 harg2 harg3 harg4 harg5 harg6 harg7 harg8 harg9 harg10 harg11 harg12 harg13 harg14 harg15 harg16 harg20 harg21 harg22 harg23 harg24 harg25 harg26 harg27 harg28 harg29 harg30 harg31 harg32 harg33 harg34 harg35 harg36 harg37 harg38 harg39 I S) S.w.b11 I.a13 (seen_un harg14 x13 0 0 _) (seen_un harg31 xs11 128 0 _) (seen_un harg31 xs11 0 0 _) (seen_un harg31 xs11 384 0 _) (seen_un harg31 xs11 256 0 _) (seen_at arg25.view _ 8 0 _) k t o

theorem second_v2d : Agree (kernelRun0_B.sl.r_20 c arg1 harg1 arg3 harg3 arg5 harg5 arg7 harg7 arg8 harg8 arg10 harg10 arg12 harg12 arg14 harg14 arg20 harg20 arg21 harg21 arg22 harg22 arg23 harg23 arg24 harg24 arg25 harg25 arg27 harg27 arg28 harg28 arg29 harg29 arg30 harg30 arg31 harg31 arg32 harg32 arg36 harg36 arg37 harg37 x0 x2 x4 x6 x7 x9 x11 x13 xs0 xs1 xs2 xs3 xs4 xs5 xs7 xs8 xs9 xs10 xs11 xs12 xs16 xs17) fun k o t => n.v2 (bt k) o ⟨4 * t.val + 3, by omega⟩ :=
  layer7d (second_v1 c harg1 harg2 harg3 harg4 harg5 harg6 harg7 harg8 harg9 harg10 harg11 harg12 harg13 harg14 harg15 harg16 harg20 harg21 harg22 harg23 harg24 harg25 harg26 harg27 harg28 harg29 harg30 harg31 harg32 harg33 harg34 harg35 harg36 harg37 harg38 harg39 I S) S.w.b11 I.a13 ((seen_un harg14 x13 0 0 _).cast _) (seen_at arg25.view _ 8 128 _) (seen_un harg31 xs11 128 0 _) (seen_at arg25.view _ 9 0 _) (seen_un harg31 xs11 384 0 _)

/-- The last rows of the decoder. -/
theorem second_out : Agree (kernelRun0_B.sl.r_22 c arg1 harg1 arg3 harg3 arg5 harg5 arg7 harg7 arg8 harg8 arg10 harg10 arg12 harg12 arg14 harg14 arg16 harg16 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 x0 x2 x4 x6 x7 x9 x11 x13 x15 xs0 xs1 xs2 xs3 xs4 xs5 xs6 xs7 xs8 xs9 xs10 xs11 xs12 xs13 xs14 xs15 xs16 xs17) fun k q t => n.out (bt k) ⟨4 * t.val + q.val, by omega⟩ := by
  refine layer8 ?_ S.w.b13 S.w.b14 S.w.b15 I.a15 (seen_at arg26.view _ 7 0 _) (seen_un harg33 xs13 0 0 _) (seen_at arg26.view _ 8 0 _) (seen_un harg34 xs14 0 0 _) (seen_at arg26.view _ 9 0 _) (seen_un harg35 xs15 0 0 _) (seen_un harg16 x15 0 0 _)
  exact padded_four (put_stores _ _ 384 _ (cut_slice _ _ (by decide) (by decide)) (cut_slice _ _ (by decide) (by decide)) (cut_slice _ _ (by decide) (by decide)) (cut_slice _ _ (by decide) (by decide)) (cut_slice _ _ (by decide) (by decide)) (cut_slice _ _ (by decide) (by decide)) (cut_slice _ _ (by decide) (by decide)) (cut_slice _ _ (by decide) (by decide))) (put_stores _ _ 128 _ (cut_slice _ _ (by decide) (by decide)) (cut_slice _ _ (by decide) (by decide)) (cut_slice _ _ (by decide) (by decide)) (cut_slice _ _ (by decide) (by decide)) (cut_slice _ _ (by decide) (by decide)) (cut_slice _ _ (by decide) (by decide)) (cut_slice _ _ (by decide) (by decide)) (cut_slice _ _ (by decide) (by decide))) (put_stores _ _ 0 _ (cut_slice _ _ (by decide) (by decide)) (cut_slice _ _ (by decide) (by decide)) (cut_slice _ _ (by decide) (by decide)) (cut_slice _ _ (by decide) (by decide)) (cut_slice _ _ (by decide) (by decide)) (cut_slice _ _ (by decide) (by decide)) (cut_slice _ _ (by decide) (by decide)) (cut_slice _ _ (by decide) (by decide))) (gap_kept harg26 S.g6) (second_v2d c harg1 harg2 harg3 harg4 harg5 harg6 harg7 harg8 harg9 harg10 harg11 harg12 harg13 harg14 harg15 harg16 harg20 harg21 harg22 harg23 harg24 harg25 harg26 harg27 harg28 harg29 harg30 harg31 harg32 harg33 harg34 harg35 harg36 harg37 harg38 harg39 I S) (second_v2m c harg1 harg2 harg3 harg4 harg5 harg6 harg7 harg8 harg9 harg10 harg11 harg12 harg13 harg14 harg15 harg16 harg20 harg21 harg22 harg23 harg24 harg25 harg26 harg27 harg28 harg29 harg30 harg31 harg32 harg33 harg34 harg35 harg36 harg37 harg38 harg39 I S) (second_v2a c harg1 harg2 harg3 harg4 harg5 harg6 harg7 harg8 harg9 harg10 harg11 harg12 harg13 harg14 harg15 harg16 harg20 harg21 harg22 harg23 harg24 harg25 harg26 harg27 harg28 harg29 harg30 harg31 harg32 harg33 harg34 harg35 harg36 harg37 harg38 harg39 I S)

/-- The counts of all batches. -/
theorem second_all_counts (hb : ∀ g : Fin 16 → EReal, ∑ b, g b = ∑ i, g (bt0 i) + ∑ i, g (bt i)) (k : Fin 512) : (kernelRun0_B.sl.v635 c arg1 harg1 arg3 harg3 arg5 harg5 arg7 harg7 arg20 harg20 arg21 harg21 arg22 harg22 arg27 harg27 arg28 harg28 arg32 harg32 arg36 harg36 arg37 harg37 arg38 harg38 x0 x2 x4 x6 xs0 xs1 xs2 xs7 xs8 xs12 xs16 xs17 xs18) (ix2 0 k) = n.count k := by
  refine (congrFun (seen_at arg38.view _ 0 0 _).all _).trans ((read_whole arg38.view _ _ _ _ 0 k).trans ((added_counts _ _ _).trans ?_))
  refine Eq.trans (congrArg₂ (fun a b : EReal => a + b) ((congrFun (seen_un harg38 xs18 0 0 _).all _).trans (S.cnt k)) (second_counts c harg1 harg2 harg3 harg4 harg5 harg6 harg7 harg8 harg9 harg10 harg11 harg12 harg13 harg14 harg15 harg16 harg20 harg21 harg22 harg23 harg24 harg25 harg26 harg27 harg28 harg29 harg30 harg31 harg32 harg33 harg34 harg35 harg36 harg37 harg38 harg39 I S k)) ?_
  exact (hb fun b => n.cnt b k).symm

/-- The squares of all batches. -/
theorem second_all_squares (hb : ∀ g : Fin 16 → EReal, ∑ b, g b = ∑ i, g (bt0 i) + ∑ i, g (bt i)) : (kernelRun0_B.sl.v657 c arg1 harg1 arg3 harg3 arg5 harg5 arg7 harg7 arg8 harg8 arg20 harg20 arg21 harg21 arg22 harg22 arg27 harg27 arg28 harg28 arg32 harg32 arg36 harg36 arg37 harg37 arg39 harg39 x0 x2 x4 x6 x7 xs0 xs1 xs2 xs7 xs8 xs12 xs16 xs17 xs19) (ix2 0 0) = ∑ b, n.sq b := by
  refine (congrFun (seen_at arg39.view _ 0 0 _).all _).trans ((read_whole arg39.view _ _ _ _ 0 0).trans ((added_squares _ _ _ _ _ _ _ _).trans ?_))
  refine Eq.trans (congrArg₂ (fun a b : EReal => a + b) ((congrFun (seen_un harg39 xs19 0 0 _).all _).trans S.sq) (squares (second_z c harg1 harg2 harg3 harg4 harg5 harg6 harg7 harg8 harg9 harg10 harg11 harg12 harg13 harg14 harg15 harg16 harg20 harg21 harg22 harg23 harg24 harg25 harg26 harg27 harg28 harg29 harg30 harg31 harg32 harg33 harg34 harg35 harg36 harg37 harg38 harg39 I S) (second_q c harg1 harg2 harg3 harg4 harg5 harg6 harg7 harg8 harg9 harg10 harg11 harg12 harg13 harg14 harg15 harg16 harg20 harg21 harg22 harg23 harg24 harg25 harg26 harg27 harg28 harg29 harg30 harg31 harg32 harg33 harg34 harg35 harg36 harg37 harg38 harg39 I S))) ?_
  exact (hb fun b => n.sq b).symm

set_option maxHeartbeats 1000000 in
/-- The second grid point's results are those of its eight batches. -/
theorem second_result {sg : RefSig} {κ : Kind} {sp : Space} (i : grid0.Coords) {arg17 : Memref sig .tc .vmem S8x512x4 .f32} (harg17 : arg17.IsWhole) {arg18 : Memref sig .tc .vmem S1x1 .f32} (harg18 : arg18.IsWhole) {arg19 : Memref sig .tc .vmem S1x2 .f32} (harg19 : arg19.IsWhole) (hc0 : ¬cond0_0 i) (hc1 : ¬cond0_1 i) (hc2 : cond0_2 i) (hc3 : cond0_3 i) (v : View sg κ sp S8x512x4 .f32) (f : v.ty.Contents (Elt Ideal)) (k : Fin 8) (t : Fin 512) (q : Fin 4) :
    v.read (Elt Ideal) (v.writes (Elt Ideal) f (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 hc0 hc1 hc2 hc3 x0 x1 x2 x3 x4 x5 x6 x7 x8 x9 x10 x11 x12 x13 x14 x15 xs0 xs1 xs2 xs3 xs4 xs5 xs6 xs7 xs8 xs9 xs10 xs11 xs12 xs13 xs14 xs15 xs16 xs17 xs18 xs19).1) (ix3 k t q) = n.out (bt k) ⟨4 * t.val + q.val, by omega⟩ :=
  (eight_batches v f (batch_slice _ 7 _ rfl (by decide) (by decide)) (batch_slice _ 6 _ rfl (by decide) (by decide)) (batch_slice _ 5 _ rfl (by decide) (by decide)) (batch_slice _ 4 _ rfl (by decide) (by decide)) (batch_slice _ 3 _ rfl (by decide) (by decide)) (batch_slice _ 2 _ rfl (by decide) (by decide)) (batch_slice _ 1 _ rfl (by decide) (by decide)) (batch_slice _ 0 _ rfl (by decide) (by decide)) k t q).trans (second_out c harg1 harg2 harg3 harg4 harg5 harg6 harg7 harg8 harg9 harg10 harg11 harg12 harg13 harg14 harg15 harg16 harg20 harg21 harg22 harg23 harg24 harg25 harg26 harg27 harg28 harg29 harg30 harg31 harg32 harg33 harg34 harg35 harg36 harg37 harg38 harg39 I S k t q)

end Second

end Cert.Pay
end
-- ==== Proof.Whole.lean ====
/- The whole run: after both grid points the three result arrays hold the model's signal, its commitment loss and its two measures. -/
module

public import proofs.«01_k».proof.Proof.Args
public import proofs.«01_k».proof.Proof.CaseA
public import proofs.«01_k».proof.Proof.CaseB
public import proofs.«01_k».proof.Proof.Dec

@[expose] public section

set_option maxRecDepth 16384

noncomputable section

namespace Cert.Pay

open Idealize.ShloMosaic hiding ix0 ix1 ix2 ix3 ix4
open Idealize.ShloMosaic.ValueIdx
open Cert.Spec Cert.Rows Cert.KernelIdeal Cert.KernelIdeal.Gen Cert.KernelIdeal.Value Idealize.SL.Sem
open Idealize.ShloMosaic.TcCoe

variable [Cert.KernelIdeal.Facts]
variable (m : (ℓ : Loc nD τ sig) → Buf (Elt Ideal) ℓ) (c : Dev nD)

/-- What is carried from one grid point to the next, when the point's batches are `bt`. -/
def Carried (n : Net) (bt : Fin 8 → Fin 16) (acc : Vec Ideal S8x512x4 .f32 × Vec Ideal S1x1 .f32 × Vec Ideal S1x2 .f32 × Vec Ideal S4176x4 .f32 × Vec Ideal S4176x256 .f32 × Vec Ideal S4176x128 .f32 × Vec Ideal S4176x128 .f32 × Vec Ideal S4176x128 .f32 × Vec Ideal S4176x256 .f32 × Vec Ideal S4176x512 .f32 × Vec Ideal S512x128 .f32 × Vec Ideal S384x128 .f32 × Vec Ideal S384x128 .f32 × Vec Ideal S512x128 .f32 × Vec Ideal S512x128 .f32 × Vec Ideal S8x256 .f32 × Vec Ideal S512x4 .f32 × Vec Ideal S512x4 .f32 × Vec Ideal S512x4 .f32 × Vec Ideal S128x512 .f32 × Vec Ideal S1x512 .f32 × Vec Ideal S1x512 .f32 × Vec Ideal S1x1 .f32) : Prop :=
  After n bt acc.2.2.2.1 acc.2.2.2.2.1 acc.2.2.2.2.2.1 acc.2.2.2.2.2.2.1 acc.2.2.2.2.2.2.2.1 acc.2.2.2.2.2.2.2.2.1 acc.2.2.2.2.2.2.2.2.2.1 acc.2.2.2.2.2.2.2.2.2.2.1 acc.2.2.2.2.2.2.2.2.2.2.2.1 acc.2.2.2.2.2.2.2.2.2.2.2.2.1 acc.2.2.2.2.2.2.2.2.2.2.2.2.2.1 acc.2.2.2.2.2.2.2.2.2.2.2.2.2.2.1 acc.2.2.2.2.2.2.2.2.2.2.2.2.2.2.2.1 acc.2.2.2.2.2.2.2.2.2.2.2.2.2.2.2.2.1 acc.2.2.2.2.2.2.2.2.2.2.2.2.2.2.2.2.2.1 acc.2.2.2.2.2.2.2.2.2.2.2.2.2.2.2.2.2.2.1 acc.2.2.2.2.2.2.2.2.2.2.2.2.2.2.2.2.2.2.2.1 acc.2.2.2.2.2.2.2.2.2.2.2.2.2.2.2.2.2.2.2.2.1 acc.2.2.2.2.2.2.2.2.2.2.2.2.2.2.2.2.2.2.2.2.2.1 acc.2.2.2.2.2.2.2.2.2.2.2.2.2.2.2.2.2.2.2.2.2.2

/-- The same contents carry the same. -/
theorem After.same {n : Net} {bt : Fin 8 → Fin 16} {p0 q0 : S4176x4.Idx → EReal} {p1 q1 : S4176x256.Idx → EReal} {p2 q2 : S4176x128.Idx → EReal} {p3 q3 : S4176x128.Idx → EReal} {p4 q4 : S4176x128.Idx → EReal} {p5 q5 : S4176x256.Idx → EReal} {p6 q6 : S4176x512.Idx → EReal} {p7 q7 : S512x128.Idx → EReal} {p8 q8 : S384x128.Idx → EReal} {p9 q9 : S384x128.Idx → EReal} {p10 q10 : S512x128.Idx → EReal} {p11 q11 : S512x128.Idx → EReal} {p12 q12 : S8x256.Idx → EReal} {p13 q13 : S512x4.Idx → EReal} {p14 q14 : S512x4.Idx → EReal} {p15 q15 : S512x4.Idx → EReal} {p16 q16 : S128x512.Idx → EReal} {p17 q17 : S1x512.Idx → EReal} {p18 q18 : S1x512.Idx → EReal} {p19 q19 : S1x1.Idx → EReal}
    (h : After n bt q0 q1 q2 q3 q4 q5 q6 q7 q8 q9 q10 q11 q12 q13 q14 q15 q16 q17 q18 q19) (e0 : p0 = q0) (e1 : p1 = q1) (e2 : p2 = q2) (e3 : p3 = q3) (e4 : p4 = q4) (e5 : p5 = q5) (e6 : p6 = q6) (e7 : p7 = q7) (e8 : p8 = q8) (e9 : p9 = q9) (e10 : p10 = q10) (e11 : p11 = q11) (e12 : p12 = q12) (e13 : p13 = q13) (e14 : p14 = q14) (e15 : p15 = q15) (e16 : p16 = q16) (e17 : p17 = q17) (e18 : p18 = q18) (e19 : p19 = q19) :
    After n bt p0 p1 p2 p3 p4 p5 p6 p7 p8 p9 p10 p11 p12 p13 p14 p15 p16 p17 p18 p19 := by
  subst e0 e1 e2 e3 e4 e5 e6 e7 e8 e9 e10 e11 e12 e13 e14 e15 e16 e17 e18 e19
  exact h

set_option maxHeartbeats 2000000 in
/-- The first grid point leaves the weights laid out and its batches' counts and squares. -/
theorem carried (t : Fin cfg0.N) (acc : Vec Ideal S8x512x4 .f32 × Vec Ideal S1x1 .f32 × Vec Ideal S1x2 .f32 × Vec Ideal S4176x4 .f32 × Vec Ideal S4176x256 .f32 × Vec Ideal S4176x128 .f32 × Vec Ideal S4176x128 .f32 × Vec Ideal S4176x128 .f32 × Vec Ideal S4176x256 .f32 × Vec Ideal S4176x512 .f32 × Vec Ideal S512x128 .f32 × Vec Ideal S384x128 .f32 × Vec Ideal S384x128 .f32 × Vec Ideal S512x128 .f32 × Vec Ideal S512x128 .f32 × Vec Ideal S8x256 .f32 × Vec Ideal S512x4 .f32 × Vec Ideal S512x4 .f32 × Vec Ideal S512x4 .f32 × Vec Ideal S128x512 .f32 × Vec Ideal S1x512 .f32 × Vec Ideal S1x512 .f32 × Vec Ideal S1x1 .f32) (h0 : t.val % 2 = 0) (h2 : ¬t.val % 2 = 1) : Carried (model m c) (batch t) (stAt0 m c t.val t.isLt acc) := by
  rw [stAt0_A m c t acc h0 h0 h2 h2]
  unfold Carried
  dsimp only
  exact After.same (first_after c (hs0_0 t) (hs0_1 t) (hs0_2 t) (hs0_3 t) (hs0_4 t) (hs0_5 t) (hs0_6 t) (hs0_7 t) (hs0_8 t) (hs0_9 t) (hs0_10 t) (hs0_11 t) (hs0_12 t) (hs0_13 t) (hs0_14 t) (hs0_15 t) scM0_0 scM0_1 scM0_2 scM0_3 scM0_4 scM0_5 scM0_6 scM0_7 scM0_8 scM0_9 scM0_10 scM0_11 scM0_12 scM0_13 scM0_14 scM0_15 scM0_16 scM0_17 scM0_18 scM0_19 (ins m c t)) rfl rfl rfl rfl rfl rfl rfl rfl rfl rfl rfl rfl rfl rfl rfl rfl rfl rfl rfl rfl

set_option maxHeartbeats 2000000 in
/-- The first grid point's signal. -/
theorem signal_first (t : Fin cfg0.N) (acc : Vec Ideal S8x512x4 .f32 × Vec Ideal S1x1 .f32 × Vec Ideal S1x2 .f32 × Vec Ideal S4176x4 .f32 × Vec Ideal S4176x256 .f32 × Vec Ideal S4176x128 .f32 × Vec Ideal S4176x128 .f32 × Vec Ideal S4176x128 .f32 × Vec Ideal S4176x256 .f32 × Vec Ideal S4176x512 .f32 × Vec Ideal S512x128 .f32 × Vec Ideal S384x128 .f32 × Vec Ideal S384x128 .f32 × Vec Ideal S512x128 .f32 × Vec Ideal S512x128 .f32 × Vec Ideal S8x256 .f32 × Vec Ideal S512x4 .f32 × Vec Ideal S512x4 .f32 × Vec Ideal S512x4 .f32 × Vec Ideal S128x512 .f32 × Vec Ideal S1x512 .f32 × Vec Ideal S1x512 .f32 × Vec Ideal S1x1 .f32) (h0 : t.val % 2 = 0) (h2 : ¬t.val % 2 = 1) (k : Fin 8) (u : Fin 512) (q : Fin 4) :
    (stAt0 m c t.val t.isLt acc).1 (ix3 k u q) = (model m c).out (batch t k) ⟨4 * u.val + q.val, by omega⟩ := by
  rw [stAt0_A m c t acc h0 h0 h2 h2]
  dsimp only
  exact first_result c (hs0_0 t) (hs0_1 t) (hs0_2 t) (hs0_3 t) (hs0_4 t) (hs0_5 t) (hs0_6 t) (hs0_7 t) (hs0_8 t) (hs0_9 t) (hs0_10 t) (hs0_11 t) (hs0_12 t) (hs0_13 t) (hs0_14 t) (hs0_15 t) scM0_0 scM0_1 scM0_2 scM0_3 scM0_4 scM0_5 scM0_6 scM0_7 scM0_8 scM0_9 scM0_10 scM0_11 scM0_12 scM0_13 scM0_14 scM0_15 scM0_16 scM0_17 scM0_18 scM0_19 (ins m c t) (grid0.coords t) (hs0_16 t) (hs0_17 t) (hs0_18 t) (Memref.isWhole_whole cc0_scratch0) (Memref.isWhole_whole cc0_scratch1) (Memref.isWhole_whole cc0_scratch2) (Memref.isWhole_whole cc0_scratch3) (Memref.isWhole_whole cc0_scratch4) (Memref.isWhole_whole cc0_scratch5) (Memref.isWhole_whole cc0_scratch6) (Memref.isWhole_whole cc0_scratch7) (Memref.isWhole_whole cc0_scratch8) (Memref.isWhole_whole cc0_scratch9) (Memref.isWhole_whole cc0_scratch10) (Memref.isWhole_whole cc0_scratch11) (Memref.isWhole_whole cc0_scratch12) (Memref.isWhole_whole cc0_scratch13) (Memref.isWhole_whole cc0_scratch14) (Memref.isWhole_whole cc0_scratch15) (Memref.isWhole_whole cc0_scratch16) (Memref.isWhole_whole cc0_scratch17) (Memref.isWhole_whole cc0_scratch18) (Memref.isWhole_whole cc0_scratch19) ((hcond0_0 t).mpr h0) ((hcond0_1 t).mpr h0) (fun h => h2 ((hcond0_2 t).mp h)) (fun h => h2 ((hcond0_3 t).mp h)) VO0_16 _ k u q

set_option maxHeartbeats 2000000 in
/-- The second grid point's signal. -/
theorem signal_second (t : Fin cfg0.N) (acc : Vec Ideal S8x512x4 .f32 × Vec Ideal S1x1 .f32 × Vec Ideal S1x2 .f32 × Vec Ideal S4176x4 .f32 × Vec Ideal S4176x256 .f32 × Vec Ideal S4176x128 .f32 × Vec Ideal S4176x128 .f32 × Vec Ideal S4176x128 .f32 × Vec Ideal S4176x256 .f32 × Vec Ideal S4176x512 .f32 × Vec Ideal S512x128 .f32 × Vec Ideal S384x128 .f32 × Vec Ideal S384x128 .f32 × Vec Ideal S512x128 .f32 × Vec Ideal S512x128 .f32 × Vec Ideal S8x256 .f32 × Vec Ideal S512x4 .f32 × Vec Ideal S512x4 .f32 × Vec Ideal S512x4 .f32 × Vec Ideal S128x512 .f32 × Vec Ideal S1x512 .f32 × Vec Ideal S1x512 .f32 × Vec Ideal S1x1 .f32) {bt0 : Fin 8 → Fin 16} (S : Carried (model m c) bt0 acc) (h0 : ¬t.val % 2 = 0) (h2 : t.val % 2 = 1) (k : Fin 8) (u : Fin 512) (q : Fin 4) :
    (stAt0 m c t.val t.isLt acc).1 (ix3 k u q) = (model m c).out (batch t k) ⟨4 * u.val + q.val, by omega⟩ := by
  rw [stAt0_B m c t acc h0 h0 h2 h2]
  dsimp only
  exact second_result c (hs0_0 t) (hs0_1 t) (hs0_2 t) (hs0_3 t) (hs0_4 t) (hs0_5 t) (hs0_6 t) (hs0_7 t) (hs0_8 t) (hs0_9 t) (hs0_10 t) (hs0_11 t) (hs0_12 t) (hs0_13 t) (hs0_14 t) (hs0_15 t) (Memref.isWhole_whole cc0_scratch0) (Memref.isWhole_whole cc0_scratch1) (Memref.isWhole_whole cc0_scratch2) (Memref.isWhole_whole cc0_scratch3) (Memref.isWhole_whole cc0_scratch4) (Memref.isWhole_whole cc0_scratch5) (Memref.isWhole_whole cc0_scratch6) (Memref.isWhole_whole cc0_scratch7) (Memref.isWhole_whole cc0_scratch8) (Memref.isWhole_whole cc0_scratch9) (Memref.isWhole_whole cc0_scratch10) (Memref.isWhole_whole cc0_scratch11) (Memref.isWhole_whole cc0_scratch12) (Memref.isWhole_whole cc0_scratch13) (Memref.isWhole_whole cc0_scratch14) (Memref.isWhole_whole cc0_scratch15) (Memref.isWhole_whole cc0_scratch16) (Memref.isWhole_whole cc0_scratch17) (Memref.isWhole_whole cc0_scratch18) (Memref.isWhole_whole cc0_scratch19) (ins m c t) S (grid0.coords t) (hs0_16 t) (hs0_17 t) (hs0_18 t) (fun h => h0 ((hcond0_0 t).mp h)) (fun h => h0 ((hcond0_1 t).mp h)) ((hcond0_2 t).mpr h2) ((hcond0_3 t).mpr h2) VO0_16 _ k u q

set_option maxHeartbeats 2000000 in
/-- The commitment loss the second grid point writes. -/
theorem loss_second (t : Fin cfg0.N) (acc : Vec Ideal S8x512x4 .f32 × Vec Ideal S1x1 .f32 × Vec Ideal S1x2 .f32 × Vec Ideal S4176x4 .f32 × Vec Ideal S4176x256 .f32 × Vec Ideal S4176x128 .f32 × Vec Ideal S4176x128 .f32 × Vec Ideal S4176x128 .f32 × Vec Ideal S4176x256 .f32 × Vec Ideal S4176x512 .f32 × Vec Ideal S512x128 .f32 × Vec Ideal S384x128 .f32 × Vec Ideal S384x128 .f32 × Vec Ideal S512x128 .f32 × Vec Ideal S512x128 .f32 × Vec Ideal S8x256 .f32 × Vec Ideal S512x4 .f32 × Vec Ideal S512x4 .f32 × Vec Ideal S512x4 .f32 × Vec Ideal S128x512 .f32 × Vec Ideal S1x512 .f32 × Vec Ideal S1x512 .f32 × Vec Ideal S1x1 .f32) {bt0 : Fin 8 → Fin 16} (S : Carried (model m c) bt0 acc) (h0 : ¬t.val % 2 = 0) (h2 : t.val % 2 = 1)
    (hb : ∀ g : Fin 16 → EReal, ∑ b, g b = ∑ i, g (bt0 i) + ∑ i, g (batch t i)) :
    (stAt0 m c t.val t.isLt acc).2.1 (ix2 0 0) = (model m c).commit := by
  rw [stAt0_B m c t acc h0 h0 h2 h2]
  dsimp only
  unfold out0_B_17
  refine Eq.trans ?_ (st_commit (model m c) (second_all_squares c (hs0_0 t) (hs0_1 t) (hs0_2 t) (hs0_3 t) (hs0_4 t) (hs0_5 t) (hs0_6 t) (hs0_7 t) (hs0_8 t) (hs0_9 t) (hs0_10 t) (hs0_11 t) (hs0_12 t) (hs0_13 t) (hs0_14 t) (hs0_15 t) (Memref.isWhole_whole cc0_scratch0) (Memref.isWhole_whole cc0_scratch1) (Memref.isWhole_whole cc0_scratch2) (Memref.isWhole_whole cc0_scratch3) (Memref.isWhole_whole cc0_scratch4) (Memref.isWhole_whole cc0_scratch5) (Memref.isWhole_whole cc0_scratch6) (Memref.isWhole_whole cc0_scratch7) (Memref.isWhole_whole cc0_scratch8) (Memref.isWhole_whole cc0_scratch9) (Memref.isWhole_whole cc0_scratch10) (Memref.isWhole_whole cc0_scratch11) (Memref.isWhole_whole cc0_scratch12) (Memref.isWhole_whole cc0_scratch13) (Memref.isWhole_whole cc0_scratch14) (Memref.isWhole_whole cc0_scratch15) (Memref.isWhole_whole cc0_scratch16) (Memref.isWhole_whole cc0_scratch17) (Memref.isWhole_whole cc0_scratch18) (Memref.isWhole_whole cc0_scratch19) (ins m c t) S hb))
  exact read_whole VO0_17 VO0_17.junk _ _ [] 0 0

set_option maxHeartbeats 2000000 in
/-- The two measures the second grid point writes. -/
theorem measures_second (t : Fin cfg0.N) (acc : Vec Ideal S8x512x4 .f32 × Vec Ideal S1x1 .f32 × Vec Ideal S1x2 .f32 × Vec Ideal S4176x4 .f32 × Vec Ideal S4176x256 .f32 × Vec Ideal S4176x128 .f32 × Vec Ideal S4176x128 .f32 × Vec Ideal S4176x128 .f32 × Vec Ideal S4176x256 .f32 × Vec Ideal S4176x512 .f32 × Vec Ideal S512x128 .f32 × Vec Ideal S384x128 .f32 × Vec Ideal S384x128 .f32 × Vec Ideal S512x128 .f32 × Vec Ideal S512x128 .f32 × Vec Ideal S8x256 .f32 × Vec Ideal S512x4 .f32 × Vec Ideal S512x4 .f32 × Vec Ideal S512x4 .f32 × Vec Ideal S128x512 .f32 × Vec Ideal S1x512 .f32 × Vec Ideal S1x512 .f32 × Vec Ideal S1x1 .f32) {bt0 : Fin 8 → Fin 16} (S : Carried (model m c) bt0 acc) (h0 : ¬t.val % 2 = 0) (h2 : t.val % 2 = 1)
    (hb : ∀ g : Fin 16 → EReal, ∑ b, g b = ∑ i, g (bt0 i) + ∑ i, g (batch t i)) (j : Fin 2) :
    (stAt0 m c t.val t.isLt acc).2.2.1 (ix2 0 j) = (model m c).metrics j := by
  rw [stAt0_B m c t acc h0 h0 h2 h2]
  dsimp only
  exact (read_whole VO0_18 _ _ _ _ 0 j).trans (st_metrics (model m c) (second_all_counts c (hs0_0 t) (hs0_1 t) (hs0_2 t) (hs0_3 t) (hs0_4 t) (hs0_5 t) (hs0_6 t) (hs0_7 t) (hs0_8 t) (hs0_9 t) (hs0_10 t) (hs0_11 t) (hs0_12 t) (hs0_13 t) (hs0_14 t) (hs0_15 t) (Memref.isWhole_whole cc0_scratch0) (Memref.isWhole_whole cc0_scratch1) (Memref.isWhole_whole cc0_scratch2) (Memref.isWhole_whole cc0_scratch3) (Memref.isWhole_whole cc0_scratch4) (Memref.isWhole_whole cc0_scratch5) (Memref.isWhole_whole cc0_scratch6) (Memref.isWhole_whole cc0_scratch7) (Memref.isWhole_whole cc0_scratch8) (Memref.isWhole_whole cc0_scratch9) (Memref.isWhole_whole cc0_scratch10) (Memref.isWhole_whole cc0_scratch11) (Memref.isWhole_whole cc0_scratch12) (Memref.isWhole_whole cc0_scratch13) (Memref.isWhole_whole cc0_scratch14) (Memref.isWhole_whole cc0_scratch15) (Memref.isWhole_whole cc0_scratch16) (Memref.isWhole_whole cc0_scratch17) (Memref.isWhole_whole cc0_scratch18) (Memref.isWhole_whole cc0_scratch19) (ins m c t) S hb) j)

/-- The two grid points. -/
abbrev pt0 : Fin cfg0.N := ⟨0, lt_of_lt_of_eq (by decide) N_0.symm⟩
abbrev pt1 : Fin cfg0.N := ⟨1, lt_of_lt_of_eq (by decide) N_0.symm⟩

/-- What the first grid point leaves is one step of the fold. -/
theorem fold_first (h) : Pipeline.accAt (fun n h => stAt0 m c n h junk0) (stAt0 m c) 0 0 h = stAt0 m c pt0.val pt0.isLt junk0 := rfl

/-- What the second grid point leaves is the next. -/
theorem fold_second (h) : Pipeline.accAt (fun n h => stAt0 m c n h junk0) (stAt0 m c) 0 1 h = stAt0 m c pt1.val pt1.isLt (stAt0 m c pt0.val pt0.isLt junk0) := rfl

/-- The batches are those of the first grid point and those of the second. -/
theorem both_halves (g : Fin 16 → EReal) : ∑ b, g b = ∑ i, g (batch pt0 i) + ∑ i, g (batch pt1 i) :=
  (Fin.sum_univ_add (a := 8) (b := 8) g).trans (congrArg₂ (fun a b : EReal => a + b)
    (Finset.sum_congr rfl fun i _ => congrArg g (Fin.ext (show i.val = 8 * (0 % 2) + i.val by omega)))
    (Finset.sum_congr rfl fun i _ => congrArg g (Fin.ext (show 8 + i.val = 8 * (1 % 2) + i.val by omega))))

/-- The signal the run leaves. -/
theorem G16_at (b : Fin 16) (u : Fin 512) (q : Fin 4) : G16 m c (ix3 b u q) = (model m c).out b ⟨4 * u.val + q.val, by omega⟩ := by
  have hl : loc16Of (ix3 b u q) = ix3 (⟨b.val % 8, by omega⟩ : Fin 8) u q := by
    funext a; apply Fin.ext
    match a with
    | ⟨0, _⟩ => rfl
    | ⟨1, _⟩ => exact Nat.mod_eq_of_lt u.isLt
    | ⟨2, _⟩ => exact Nat.mod_eq_of_lt q.isLt
  have hp : pt16Of (ix3 b u q) = b.val / 8 := by
    show 1 * (b.val / 8 - 0) + 1 * (u.val / 512 - 0) + 1 * (q.val / 4 - 0) = _
    omega
  unfold G16
  by_cases hb : b.val < 8
  · have h : pt16Of (ix3 b u q) = 0 := by rw [hp]; omega
    rw [dif_pos (by rw [h]; exact lt_of_lt_of_eq (by decide) N_0.symm), hl, fold0_congr m c _ _ 0 (lt_of_lt_of_eq (by decide) N_0.symm) h, fold_first]
    refine (signal_first m c pt0 junk0 rfl (show ¬0 % 2 = 1 by decide) _ u q).trans (congrArg (fun b => (model m c).out b _) (Fin.ext ?_))
    show 8 * (0 % 2) + b.val % 8 = b.val
    omega
  · have h : pt16Of (ix3 b u q) = 1 := by rw [hp]; omega
    rw [dif_pos (by rw [h]; exact lt_of_lt_of_eq (by decide) N_0.symm), hl, fold0_congr m c _ _ 1 (lt_of_lt_of_eq (by decide) N_0.symm) h, fold_second]
    refine (signal_second m c pt1 _ (carried m c pt0 junk0 rfl (show ¬0 % 2 = 1 by decide)) (show ¬1 % 2 = 0 by decide) rfl _ u q).trans (congrArg (fun b => (model m c).out b _) (Fin.ext ?_))
    show 8 * (1 % 2) + b.val % 8 = b.val
    omega

/-- The commitment loss the run leaves. -/
theorem G17_at : G17 m c (ix2 0 0) = (model m c).commit := by
  rw [G17_last, fold_second]
  exact loss_second m c pt1 _ (carried m c pt0 junk0 rfl (show ¬0 % 2 = 1 by decide)) (show ¬1 % 2 = 0 by decide) rfl both_halves

/-- The two measures the run leaves. -/
theorem G18_at (j : Fin 2) : G18 m c (ix2 0 j) = (model m c).metrics j := by
  rw [G18_last, fold_second]
  exact measures_second m c pt1 _ (carried m c pt0 junk0 rfl (show ¬0 % 2 = 1 by decide)) (show ¬1 % 2 = 0 by decide) rfl both_halves j

end Cert.Pay
end
-- ==== Proof.Pre.lean ====
/- What the precondition says of the arguments: the contours, the encoder's weights and the codebook hold real numbers. -/
module

public import proofs.«01_k».proof.Pre_finite_inputs
public import proofs.«01_k».proof.Proof.Pay
public import Idealize.ShloMosaic.Lib.ReduceAll

@[expose] public section

noncomputable section

namespace Cert.Pre

open Cert.Pre_finite_inputs Cert.Spec
open Idealize.ShloMosaic hiding ix0 ix1 ix2 ix3 ix4
open Idealize.ShloMosaic.ValueIdx

/-- The shape relations that the precondition states. -/
theorem facts : Cert.Pre_finite_inputs.Facts where
  bcast_S_S16x1x2048 := by decide
  reducesTo_S16x1x2048_S_d0_1_2 := by decide
  h_S_ := by decide
  bcast_S_S128x1x4 := by decide
  reducesTo_S128x1x4_S_d0_1_2 := by decide
  bcast_S_S128 := by decide
  reducesTo_S128_S_d0 := by decide
  bcast_S_S128x128x4 := by decide
  reducesTo_S128x128x4_S_d0_1_2 := by decide
  bcast_S_S128x128x3 := by decide
  reducesTo_S128x128x3_S_d0_1_2 := by decide
  bcast_S_S512x128 := by decide
  reducesTo_S512x128_S_d0_1 := by decide

instance : Subsingleton S_.Idx := ⟨fun a b => funext fun i => Fin.elim0 i⟩

/-- An `and` that is one has ones on both sides. -/
theorem both {a b : BitVec 1} (h : IntOp.andi a b = 1#1) : a = 1#1 ∧ b = 1#1 := by
  revert h; revert a b; decide

/-- A number whose magnitude is below infinity is real. -/
theorem real_of_small {x : EReal} (h : Ideal.cmp .olt (max x (-x)) (Ideal.ofBits .f32 0x7F800000#32) = 1#1) : IsR x := by
  rw [Cert.Pay.inf_word] at h
  unfold Ideal.cmp at h
  induction x with
  | bot => simp at h
  | top => simp at h
  | coe r => exact ⟨r, rfl⟩

variable [Cert.Pre_finite_inputs.Facts]

/-- An argument found finite holds real numbers. -/
theorem all_real {s : Shape} {axes : List (Fin s.rank)} {x : FVec Ideal s .f32} {hb : S_.BroadcastsInDim s (![] : Fin 0 → Fin s.rank)} {h : s.ReducesTo axes S_} {hu : 0 < S_.numel} {j : S_.Idx}
    (e : Host.reduce IntOp.andi (cmpf .olt (Host.absf x) (broadcastInDim s ![] hb (constant S_ .f32 0x7F800000#32))) (constantI S_ 1 1#1) h hu j = 1#1) (i : s.Idx) : IsR (x i) :=
  real_of_small (Host.reduce_andi_all _ _ h hu j e i)

/-- Under the precondition the model's contours, encoder and codebook are real. -/
theorem real {x0 : FVec Ideal S16x1x2048 .f32} {x1 : FVec Ideal S128x1x4 .f32} {x2 : FVec Ideal S128 .f32} {x3 : FVec Ideal S128x128x4 .f32} {x4 : FVec Ideal S128 .f32} {x5 : FVec Ideal S128x128x3 .f32} {x6 : FVec Ideal S128 .f32} {x7 : FVec Ideal S512x128 .f32} {x8 : FVec Ideal S128x128x3 .f32} {x9 : FVec Ideal S128 .f32} {x10 : FVec Ideal S128x128x4 .f32} {x11 : FVec Ideal S128 .f32} {x12 : FVec Ideal S128x128x4 .f32} {x13 : FVec Ideal S128 .f32} {x14 : FVec Ideal S1x128x3 .f32} {x15 : FVec Ideal S1 .f32} {j : S_.Idx}
    (h : Cert.Pre_finite_inputs.fn (F := Ideal) x0 x1 x2 x3 x4 x5 x6 x7 x8 x9 x10 x11 x12 x13 x14 x15 j = 1#1) : (netOf x0 x1 x2 x3 x4 x5 x6 x7 x8 x9 x10 x11 x12 x13 x14 x15).Real := by
  obtain ⟨h, h7⟩ := both h
  obtain ⟨h, h6⟩ := both h
  obtain ⟨h, h5⟩ := both h
  obtain ⟨h, h4⟩ := both h
  obtain ⟨h, h3⟩ := both h
  obtain ⟨h, h2⟩ := both h
  obtain ⟨h0, h1⟩ := both h
  exact ⟨fun _ _ _ => all_real h0 _, fun _ _ _ => all_real h1 _, fun _ => all_real h2 _, fun _ _ _ => all_real h3 _, fun _ => all_real h4 _, fun _ _ _ => all_real h5 _, fun _ => all_real h6 _, fun _ _ => all_real h7 _⟩

end Cert.Pre

end
-- ==== Proof.lean ====
/- The proof of the claims. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Own.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.Own.KernelIdeal.Frame
public import proofs.«01_k».proof.Proof.Gen.Own.KernelIdeal.Value
public import proofs.«01_k».proof.Proof.Gen.ReferenceIdeal
public import proofs.«01_k».proof.Proof.Gen.Own.ReferenceIdeal.Run
public import proofs.«01_k».proof.Proof.Gen.Own.ReferenceIdeal.Read
public import proofs.«01_k».proof.Proof.RefOut
public import proofs.«01_k».proof.Proof.Whole
public import proofs.«01_k».proof.Proof.Pre
public import Idealize.ShloMosaic.Adequacy
public import Idealize.ShloMosaic.Init

@[expose] public section

noncomputable section

namespace Cert.Proof

open Idealize.ShloMosaic Idealize.SL.Sem Cert.Kernel

/-- Every run of the reference ends with its arguments unchanged and every semaphore counter at zero. -/
theorem referenceFrame : Cert.quiescent_ReferenceIdeal (hReferenceIdeal := Cert.ReferenceIdeal.Gen.facts) := by
  intro m ρ _
  exact (θ_run Cert.ReferenceIdeal.defs _ _).mono
    (fun r h => ⟨fun c => (h c).2.2.2, sem_eq_zero_of_no_sems (by decide) r.2⟩)
    (Cert.ReferenceIdeal.Value.run m ρ)

/-- Equal arguments spell one model. -/
theorem same_model {x0 y0 : (⟨3, ![16, 1, 2048]⟩ : Shape).Idx → EReal} {x1 y1 : (⟨3, ![128, 1, 4]⟩ : Shape).Idx → EReal} {x2 y2 : (⟨1, ![128]⟩ : Shape).Idx → EReal} {x3 y3 : (⟨3, ![128, 128, 4]⟩ : Shape).Idx → EReal} {x4 y4 : (⟨1, ![128]⟩ : Shape).Idx → EReal} {x5 y5 : (⟨3, ![128, 128, 3]⟩ : Shape).Idx → EReal} {x6 y6 : (⟨1, ![128]⟩ : Shape).Idx → EReal} {x7 y7 : (⟨2, ![512, 128]⟩ : Shape).Idx → EReal} {x8 y8 : (⟨3, ![128, 128, 3]⟩ : Shape).Idx → EReal} {x9 y9 : (⟨1, ![128]⟩ : Shape).Idx → EReal} {x10 y10 : (⟨3, ![128, 128, 4]⟩ : Shape).Idx → EReal} {x11 y11 : (⟨1, ![128]⟩ : Shape).Idx → EReal} {x12 y12 : (⟨3, ![128, 128, 4]⟩ : Shape).Idx → EReal} {x13 y13 : (⟨1, ![128]⟩ : Shape).Idx → EReal} {x14 y14 : (⟨3, ![1, 128, 3]⟩ : Shape).Idx → EReal} {x15 y15 : (⟨1, ![1]⟩ : Shape).Idx → EReal}
    (h0 : x0 = y0) (h1 : x1 = y1) (h2 : x2 = y2) (h3 : x3 = y3) (h4 : x4 = y4) (h5 : x5 = y5) (h6 : x6 = y6) (h7 : x7 = y7) (h8 : x8 = y8) (h9 : x9 = y9) (h10 : x10 = y10) (h11 : x11 = y11) (h12 : x12 = y12) (h13 : x13 = y13) (h14 : x14 = y14) (h15 : x15 = y15) : Cert.Spec.netOf x0 x1 x2 x3 x4 x5 x6 x7 x8 x9 x10 x11 x12 x13 x14 x15 = Cert.Spec.netOf y0 y1 y2 y3 y4 y5 y6 y7 y8 y9 y10 y11 y12 y13 y14 y15 := by
  subst h0 h1 h2 h3 h4 h5 h6 h7 h8 h9 h10 h11 h12 h13 h14 h15
  rfl

/-- Every index of a rank-two array of one row. -/
theorem one_row {N : ℕ} (i : (⟨2, ![1, N]⟩ : Shape).Idx) : i = ValueIdx.ix2 (0 : Fin 1) (i 1) := by
  funext a
  match a with
  | ⟨0, _⟩ => exact Subsingleton.elim (α := Fin 1) _ _
  | ⟨1, _⟩ => rfl

/-- Every index of a rank-three array. -/
theorem three_axes {A B C : ℕ} (i : (⟨3, ![A, B, C]⟩ : Shape).Idx) : i = ValueIdx.ix3 (i 0) (i 1) (i 2) := by
  funext a
  match a with
  | ⟨0, _⟩ => rfl
  | ⟨1, _⟩ => rfl
  | ⟨2, _⟩ => rfl

/-- Where the contours, the encoder and the codebook are finite, the kernel and the reference leave the same three results. -/
theorem sameResults : Cert.algebraic_KernelIdeal_ReferenceIdeal_pre_finite_inputs (hKernelIdeal := Cert.KernelIdeal.Gen.facts) (hReferenceIdeal := Cert.ReferenceIdeal.Gen.facts) (hPre_finite_inputs := Cert.Pre.facts) := by
  letI := Cert.KernelIdeal.Gen.facts
  letI := Cert.Pre.facts
  intro m g m' g' hp ha
  have hR : ∀ c, (Cert.Pay.model m c).Real := fun c => Cert.Pre.real (congrFun (hp c) (fun a => Fin.elim0 a))
  refine ⟨fun c => Cert.KernelIdeal.Value.G16 m c, fun c => Cert.KernelIdeal.Value.G17 m c, fun c => Cert.KernelIdeal.Value.G18 m c, Cert.KernelIdeal.Value.run m g, ?_⟩
  refine (θ_run Cert.ReferenceIdeal.defs _ _).mono (fun r h c => ?_) (Cert.ReferenceIdeal.Value.run m' g')
  obtain ⟨h0, h1, h2, h3, h4, h5, h6, h7, h8, h9, h10, h11, h12, h13, h14, h15⟩ := ha c
  have hn := same_model h0.symm h1.symm h2.symm h3.symm h4.symm h5.symm h6.symm h7.symm h8.symm h9.symm h10.symm h11.symm h12.symm h13.symm h14.symm h15.symm
  obtain ⟨e0, e1, e2, e3⟩ := h c
  refine ⟨e0.trans ((Cert.ReferenceIdeal.Read.val_main_v245_eq _).trans (funext fun i => ?_)),
    e1.trans ((Cert.ReferenceIdeal.Read.val_main_v246_eq _).trans (funext fun i => ?_)),
    e2.trans ((Cert.ReferenceIdeal.Read.val_main_v247_eq _).trans (funext fun i => ?_)), e3⟩
  · rw [three_axes i]
    exact (Cert.RefVal.r_out hn (hR c) (i 0) (i 1) (i 2)).trans (Cert.Pay.G16_at m c (i 0) (i 1) (i 2)).symm
  · rw [one_row i, show i 1 = (0 : Fin 1) from Subsingleton.elim (α := Fin 1) _ _]
    exact (Cert.RefVal.r_commit hn (hR c) _).trans (Cert.Pay.G17_at m c).symm
  · rw [one_row i]
    exact (Cert.RefVal.r_metrics hn (hR c) (i 1)).trans (Cert.Pay.G18_at m c (i 1)).symm

theorem claim : Cert.Claim := ⟨Cert.Kernel.Gen.facts, Cert.KernelIdeal.Gen.facts, Cert.ReferenceIdeal.Gen.facts, Cert.Pre.facts,
  fun m ρ _ => Cert.Kernel.Gen.frame m ρ, fun m ρ _ => Cert.KernelIdeal.Gen.frame m ρ, fun m ρ _ => Cert.KernelIdeal.Gen.frame m ρ,
  referenceFrame, fun m ρ _ => referenceFrame m ρ trivial, trivial, sameResults⟩

end Cert.Proof

end
